-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 2048]⟩ ⟨3, ![4, 2048, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x2048 : Shape := ⟨3, ![1, 2048, 2048]⟩
abbrev S2048x2048 : Shape := ⟨2, ![2048, 2048]⟩
abbrev S2048 : Shape := ⟨1, ![2048]⟩
abbrev S256x2048 : Shape := ⟨2, ![256, 2048]⟩
abbrev S8x2x32x2048 : Shape := ⟨4, ![8, 2, 32, 2048]⟩
abbrev S2x256x2048 : Shape := ⟨3, ![2, 256, 2048]⟩
abbrev S4x256x2048 : Shape := ⟨3, ![4, 256, 2048]⟩
abbrev S8x2 : Shape := ⟨2, ![8, 2]⟩
abbrev S2x2 : Shape := ⟨2, ![2, 2]⟩
abbrev S_ : Shape := ⟨0, ![]⟩
abbrev S4 : Shape := ⟨1, ![4]⟩
abbrev S1x256x2048 : Shape := ⟨3, ![1, 256, 2048]⟩
abbrev S1 : Shape := ⟨1, ![1]⟩
abbrev S1x1 : Shape := ⟨2, ![1, 1]⟩
abbrev S1x1x32x2048 : Shape := ⟨4, ![1, 1, 32, 2048]⟩
abbrev S32x2048 : Shape := ⟨2, ![32, 2048]⟩
abbrev S1x128x2048 : Shape := ⟨3, ![1, 128, 2048]⟩
abbrev S128x2048 : Shape := ⟨2, ![128, 2048]⟩
abbrev S256 : Shape := ⟨1, ![256]⟩
abbrev S256x1 : Shape := ⟨2, ![256, 1]⟩
abbrev S1x2048 : Shape := ⟨2, ![1, 2048]⟩
abbrev S128 : Shape := ⟨1, ![128]⟩
abbrev S128x1 : Shape := ⟨2, ![128, 1]⟩

abbrev nBuf : Space → Nat
  | .hbm => 4
  | .vmem => 7
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .local _ .vmem, ⟨0, _⟩ => ⟨S2048, .f32⟩
  | .local _ .vmem, ⟨1, _⟩ => ⟨S2048x2048, .f32⟩
  | .local _ .vmem, ⟨2, _⟩ => ⟨S256x2048, .f32⟩
  | .local _ .vmem, ⟨3, _⟩ => ⟨S8x2x32x2048, .f32⟩
  | .local _ .vmem, ⟨4, _⟩ => ⟨S2x256x2048, .f32⟩
  | .local _ .vmem, ⟨5, _⟩ => ⟨S2x256x2048, .f32⟩
  | .local _ .vmem, ⟨6, _⟩ => ⟨S4x256x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  (ofTc nBuf bufTy 3 55 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_26 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_25 : BitVec 32 := 16#32
  let v51 : BitVec 32 := Scalar.muli v2 c16_i32_25
  let v52 : BitVec 32 := Scalar.addi c0_i32_26 v51
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v53 : BitVec 32 := Scalar.muli v5 c4_i32_27
  let v54 : BitVec 32 := Scalar.addi v52 v53
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_28 : BitVec 32 := 1#32
  let v55 : BitVec 32 := Scalar.muli v48 c1_i32_28
  let v56 : BitVec 32 := Scalar.addi v54 v55
  v56.toNat
def k0_dev2 (d0 : Dev nD) : Nat :=
  let c0_i32_31 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_30 : BitVec 32 := 16#32
  let v57 : BitVec 32 := Scalar.muli v40 c16_i32_30
  let v58 : BitVec 32 := Scalar.addi c0_i32_31 v57
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_32 : BitVec 32 := 4#32
  let v59 : BitVec 32 := Scalar.muli v43 c4_i32_32
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v61 : BitVec 32 := Scalar.muli v8 c1_i32_33
  let v62 : BitVec 32 := Scalar.addi v60 v61
  v62.toNat
def k0_dev3 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_35 : BitVec 32 := 16#32
  let v63 : BitVec 32 := Scalar.muli v24 c16_i32_35
  let v64 : BitVec 32 := Scalar.addi c0_i32_36 v63
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_37 : BitVec 32 := 4#32
  let v65 : BitVec 32 := Scalar.muli v27 c4_i32_37
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v67 : BitVec 32 := Scalar.muli v8 c1_i32_38
  let v68 : BitVec 32 := Scalar.addi v66 v67
  v68.toNat
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_21 : BitVec 32 := 0#32
  let v45 : BitVec 1 := Scalar.cmpi .eq v8 c0_i32_21
  let c3_i32 : BitVec 32 := 3#32
  let v46 : BitVec 1 := Scalar.cmpi .eq v8 c3_i32
  let v47 : BitVec 1 := Scalar.ori v45 v46
  let v_true : BitVec 1 := 1#1
  let v69 : BitVec 1 := Scalar.xori v47 v_true
  let v70 : BitVec 32 := Scalar.extui v69
  let c0_i32_39 : BitVec 32 := 0#32
  let v71 : BitVec 1 := Scalar.cmpi .ne v70 c0_i32_39
  v71

def k0_dev4 (d0 : Dev nD) : Nat :=
  let c0_i32_901 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_900 : BitVec 32 := 16#32
  let v957 : BitVec 32 := Scalar.muli v2 c16_i32_900
  let v958 : BitVec 32 := Scalar.addi c0_i32_901 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_902 : BitVec 32 := 4#32
  let v959 : BitVec 32 := Scalar.muli v5 c4_i32_902
  let v960 : BitVec 32 := Scalar.addi v958 v959
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_903 : BitVec 32 := 1#32
  let v961 : BitVec 32 := Scalar.muli v49 c1_i32_903
  let v962 : BitVec 32 := Scalar.addi v960 v961
  v962.toNat
def k0_off1 (d0 : Dev nD) : Fin 3 → Nat :=
  let c0_i32_44 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let c0_i32_45 : BitVec 32 := 0#32
  ![0, v44.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_46 : BitVec 32 := 1#32
  let v77 : BitVec 32 := Scalar.subi v11 c1_i32_46
  let c8_i32_47 : BitVec 32 := 8#32
  let c0_i32_48 : BitVec 32 := 0#32
  let v78 : BitVec 1 := Scalar.cmpi .eq c8_i32_47 c0_i32_48
  let c1_i32_49 : BitVec 32 := 1#32
  let v79 : BitVec 32 := Scalar.select v78 c1_i32_49 c8_i32_47
  let v80 : BitVec 32 := Scalar.remsi v77 v79
  let c0_i32_51 : BitVec 32 := 0#32
  let v82 : BitVec 1 := Scalar.cmpi .slt v80 c0_i32_51
  let c0_i32_52 : BitVec 32 := 0#32
  let v83 : BitVec 1 := Scalar.cmpi .slt v79 c0_i32_52
  let v84 : BitVec 1 := Scalar.xori v82 v83
  let c0_i32_50 : BitVec 32 := 0#32
  let v81 : BitVec 1 := Scalar.cmpi .ne v80 c0_i32_50
  let v85 : BitVec 1 := Scalar.andi v84 v81
  let v86 : BitVec 32 := Scalar.addi v80 v79
  let v87 : BitVec 32 := Scalar.select v85 v86 v80
  let c256_i32_53 : BitVec 32 := 256#32
  let v88 : BitVec 32 := Scalar.muli v87 c256_i32_53
  let c0_i32_58 : BitVec 32 := 0#32
  ![v88.toNat, 0]
def k0_off3 (d0 : Dev nD) (c1_i32_59 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v94 : BitVec 32 := Scalar.addi v11 c1_i32_59
  let c8_i32_60 : BitVec 32 := 8#32
  let c0_i32_61 : BitVec 32 := 0#32
  let v95 : BitVec 1 := Scalar.cmpi .eq c8_i32_60 c0_i32_61
  let c1_i32_62 : BitVec 32 := 1#32
  let v96 : BitVec 32 := Scalar.select v95 c1_i32_62 c8_i32_60
  let v97 : BitVec 32 := Scalar.remsi v94 v96
  let c0_i32_64 : BitVec 32 := 0#32
  let v99 : BitVec 1 := Scalar.cmpi .slt v97 c0_i32_64
  let c0_i32_65 : BitVec 32 := 0#32
  let v100 : BitVec 1 := Scalar.cmpi .slt v96 c0_i32_65
  let v101 : BitVec 1 := Scalar.xori v99 v100
  let c0_i32_63 : BitVec 32 := 0#32
  let v98 : BitVec 1 := Scalar.cmpi .ne v97 c0_i32_63
  let v102 : BitVec 1 := Scalar.andi v101 v98
  let v103 : BitVec 32 := Scalar.addi v97 v96
  let v104 : BitVec 32 := Scalar.select v102 v103 v97
  let c256_i32_66 : BitVec 32 := 256#32
  let v105 : BitVec 32 := Scalar.muli v104 c256_i32_66
  let c0_i32_71 : BitVec 32 := 0#32
  ![v105.toNat, 0]
def k0_off4 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32_72 : BitVec 32 := 256#32
  let v111 : BitVec 32 := Scalar.muli v11 c256_i32_72
  let c0_i32_77 : BitVec 32 := 0#32
  ![v111.toNat, 0]
def k0_cond3 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_21 : BitVec 32 := 0#32
  let v45 : BitVec 1 := Scalar.cmpi .eq v8 c0_i32_21
  let c3_i32 : BitVec 32 := 3#32
  let v46 : BitVec 1 := Scalar.cmpi .eq v8 c3_i32
  let v47 : BitVec 1 := Scalar.ori v45 v46
  let v123 : BitVec 32 := Scalar.extui v47
  let c0_i32_103 : BitVec 32 := 0#32
  let v124 : BitVec 1 := Scalar.cmpi .ne v123 c0_i32_103
  v124

def k0_dev5 (d0 : Dev nD) : Nat :=
  let c0_i32_906 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_905 : BitVec 32 := 16#32
  let v957 : BitVec 32 := Scalar.muli v2 c16_i32_905
  let v958 : BitVec 32 := Scalar.addi c0_i32_906 v957
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_907 : BitVec 32 := 4#32
  let v959 : BitVec 32 := Scalar.muli v5 c4_i32_907
  let v960 : BitVec 32 := Scalar.addi v958 v959
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_908 : BitVec 32 := 1#32
  let v961 : BitVec 32 := Scalar.muli v48 c1_i32_908
  let v962 : BitVec 32 := Scalar.addi v960 v961
  v962.toNat
def k0_dev6 (d0 : Dev nD) : Nat :=
  let c0_i32_920 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_919 : BitVec 32 := 16#32
  let v970 : BitVec 32 := Scalar.muli v2 c16_i32_919
  let v971 : BitVec 32 := Scalar.addi c0_i32_920 v970
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_921 : BitVec 32 := 4#32
  let v972 : BitVec 32 := Scalar.muli v5 c4_i32_921
  let v973 : BitVec 32 := Scalar.addi v971 v972
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_922 : BitVec 32 := 1#32
  let v974 : BitVec 32 := Scalar.muli v48 c1_i32_922
  let v975 : BitVec 32 := Scalar.addi v973 v974
  v975.toNat
def k0_dev7 (d0 : Dev nD) : Nat :=
  let c0_i32_933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_932 : BitVec 32 := 16#32
  let v983 : BitVec 32 := Scalar.muli v2 c16_i32_932
  let v984 : BitVec 32 := Scalar.addi c0_i32_933 v983
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_934 : BitVec 32 := 4#32
  let v985 : BitVec 32 := Scalar.muli v5 c4_i32_934
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_935 : BitVec 32 := 1#32
  let v987 : BitVec 32 := Scalar.muli v48 c1_i32_935
  let v988 : BitVec 32 := Scalar.addi v986 v987
  v988.toNat
def k0_dev8 (d0 : Dev nD) : Nat :=
  let c0_i32_946 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_945 : BitVec 32 := 16#32
  let v996 : BitVec 32 := Scalar.muli v2 c16_i32_945
  let v997 : BitVec 32 := Scalar.addi c0_i32_946 v996
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_947 : BitVec 32 := 4#32
  let v998 : BitVec 32 := Scalar.muli v5 c4_i32_947
  let v999 : BitVec 32 := Scalar.addi v997 v998
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_948 : BitVec 32 := 1#32
  let v1000 : BitVec 32 := Scalar.muli v48 c1_i32_948
  let v1001 : BitVec 32 := Scalar.addi v999 v1000
  v1001.toNat
def k0_dev9 (d0 : Dev nD) : Nat :=
  let c0_i32_959 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_958 : BitVec 32 := 16#32
  let v1009 : BitVec 32 := Scalar.muli v2 c16_i32_958
  let v1010 : BitVec 32 := Scalar.addi c0_i32_959 v1009
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_960 : BitVec 32 := 4#32
  let v1011 : BitVec 32 := Scalar.muli v5 c4_i32_960
  let v1012 : BitVec 32 := Scalar.addi v1010 v1011
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_961 : BitVec 32 := 1#32
  let v1013 : BitVec 32 := Scalar.muli v48 c1_i32_961
  let v1014 : BitVec 32 := Scalar.addi v1012 v1013
  v1014.toNat
def k0_dev10 (d0 : Dev nD) : Nat :=
  let c0_i32_972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_971 : BitVec 32 := 16#32
  let v1022 : BitVec 32 := Scalar.muli v2 c16_i32_971
  let v1023 : BitVec 32 := Scalar.addi c0_i32_972 v1022
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_973 : BitVec 32 := 4#32
  let v1024 : BitVec 32 := Scalar.muli v5 c4_i32_973
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_974 : BitVec 32 := 1#32
  let v1026 : BitVec 32 := Scalar.muli v48 c1_i32_974
  let v1027 : BitVec 32 := Scalar.addi v1025 v1026
  v1027.toNat
def k0_dev11 (d0 : Dev nD) : Nat :=
  let c0_i32_984 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_983 : BitVec 32 := 16#32
  let v1035 : BitVec 32 := Scalar.muli v2 c16_i32_983
  let v1036 : BitVec 32 := Scalar.addi c0_i32_984 v1035
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_985 : BitVec 32 := 4#32
  let v1037 : BitVec 32 := Scalar.muli v5 c4_i32_985
  let v1038 : BitVec 32 := Scalar.addi v1036 v1037
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_986 : BitVec 32 := 1#32
  let v1039 : BitVec 32 := Scalar.muli v48 c1_i32_986
  let v1040 : BitVec 32 := Scalar.addi v1038 v1039
  v1040.toNat
def k0_dev12 (d0 : Dev nD) : Nat :=
  let c0_i32_997 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_996 : BitVec 32 := 16#32
  let v1048 : BitVec 32 := Scalar.muli v2 c16_i32_996
  let v1049 : BitVec 32 := Scalar.addi c0_i32_997 v1048
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_998 : BitVec 32 := 4#32
  let v1050 : BitVec 32 := Scalar.muli v5 c4_i32_998
  let v1051 : BitVec 32 := Scalar.addi v1049 v1050
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_999 : BitVec 32 := 1#32
  let v1052 : BitVec 32 := Scalar.muli v48 c1_i32_999
  let v1053 : BitVec 32 := Scalar.addi v1051 v1052
  v1053.toNat
def k0_off5 (d0 : Dev nD) (c0_i32_1021 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v1074 : BitVec 32 := Scalar.addi v44 c0_i32_1021
  let v1075 : Index := Scalar.indexCast v1074
  let c0_1022 : Index := 0#32
  ![v1075.toNat, 0]
def k0_off6 (d0 : Dev nD) (c0_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v119 : BitVec 32 := Scalar.addi v44 c0_i32_80
  let c0_i32_1089 : BitVec 32 := 0#32
  ![v119.toNat, 0]
def k0_dev13 (d0 : Dev nD) : Nat :=
  let c0_i32_1084 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_1083 : BitVec 32 := 16#32
  let v1125 : BitVec 32 := Scalar.muli v24 c16_i32_1083
  let v1126 : BitVec 32 := Scalar.addi c0_i32_1084 v1125
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_1085 : BitVec 32 := 4#32
  let v1127 : BitVec 32 := Scalar.muli v27 c4_i32_1085
  let v1128 : BitVec 32 := Scalar.addi v1126 v1127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1086 : BitVec 32 := 1#32
  let v1129 : BitVec 32 := Scalar.muli v8 c1_i32_1086
  let v1130 : BitVec 32 := Scalar.addi v1128 v1129
  v1130.toNat
def k0_dev14 (d0 : Dev nD) : Nat :=
  let c0_i32_1091 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_1090 : BitVec 32 := 16#32
  let v1138 : BitVec 32 := Scalar.muli v40 c16_i32_1090
  let v1139 : BitVec 32 := Scalar.addi c0_i32_1091 v1138
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_1092 : BitVec 32 := 4#32
  let v1140 : BitVec 32 := Scalar.muli v43 c4_i32_1092
  let v1141 : BitVec 32 := Scalar.addi v1139 v1140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1093 : BitVec 32 := 1#32
  let v1142 : BitVec 32 := Scalar.muli v8 c1_i32_1093
  let v1143 : BitVec 32 := Scalar.addi v1141 v1142
  v1143.toNat
def k0_dev15 (d0 : Dev nD) : Nat :=
  let c0_i32_1174 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_1173 : BitVec 32 := 16#32
  let v1215 : BitVec 32 := Scalar.muli v24 c16_i32_1173
  let v1216 : BitVec 32 := Scalar.addi c0_i32_1174 v1215
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_1175 : BitVec 32 := 4#32
  let v1217 : BitVec 32 := Scalar.muli v27 c4_i32_1175
  let v1218 : BitVec 32 := Scalar.addi v1216 v1217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1176 : BitVec 32 := 1#32
  let v1219 : BitVec 32 := Scalar.muli v8 c1_i32_1176
  let v1220 : BitVec 32 := Scalar.addi v1218 v1219
  v1220.toNat
def k0_dev16 (d0 : Dev nD) : Nat :=
  let c0_i32_1181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_1180 : BitVec 32 := 16#32
  let v1228 : BitVec 32 := Scalar.muli v40 c16_i32_1180
  let v1229 : BitVec 32 := Scalar.addi c0_i32_1181 v1228
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_1182 : BitVec 32 := 4#32
  let v1230 : BitVec 32 := Scalar.muli v43 c4_i32_1182
  let v1231 : BitVec 32 := Scalar.addi v1229 v1230
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1183 : BitVec 32 := 1#32
  let v1232 : BitVec 32 := Scalar.muli v8 c1_i32_1183
  let v1233 : BitVec 32 := Scalar.addi v1231 v1232
  v1233.toNat
def k0_cond4 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_21 : BitVec 32 := 0#32
  let v45 : BitVec 1 := Scalar.cmpi .eq v8 c0_i32_21
  let c3_i32 : BitVec 32 := 3#32
  let v46 : BitVec 1 := Scalar.cmpi .eq v8 c3_i32
  let v47 : BitVec 1 := Scalar.ori v45 v46
  let true_104 : BitVec 1 := 1#1
  let v125 : BitVec 1 := Scalar.xori v47 true_104
  let v126 : BitVec 32 := Scalar.extui v125
  let c0_i32_125 : BitVec 32 := 0#32
  let v127 : BitVec 1 := Scalar.cmpi .ne v126 c0_i32_125
  v127

def k0_dev17 (d0 : Dev nD) : Nat :=
  let c0_i32_928 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_927 : BitVec 32 := 16#32
  let v975 : BitVec 32 := Scalar.muli v2 c16_i32_927
  let v976 : BitVec 32 := Scalar.addi c0_i32_928 v975
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_929 : BitVec 32 := 4#32
  let v977 : BitVec 32 := Scalar.muli v5 c4_i32_929
  let v978 : BitVec 32 := Scalar.addi v976 v977
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_930 : BitVec 32 := 1#32
  let v979 : BitVec 32 := Scalar.muli v49 c1_i32_930
  let v980 : BitVec 32 := Scalar.addi v978 v979
  v980.toNat
def k0_dev18 (d0 : Dev nD) : Nat :=
  let c0_i32_962 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_961 : BitVec 32 := 16#32
  let v1006 : BitVec 32 := Scalar.muli v2 c16_i32_961
  let v1007 : BitVec 32 := Scalar.addi c0_i32_962 v1006
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_963 : BitVec 32 := 4#32
  let v1008 : BitVec 32 := Scalar.muli v5 c4_i32_963
  let v1009 : BitVec 32 := Scalar.addi v1007 v1008
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_964 : BitVec 32 := 1#32
  let v1010 : BitVec 32 := Scalar.muli v49 c1_i32_964
  let v1011 : BitVec 32 := Scalar.addi v1009 v1010
  v1011.toNat
def k0_dev19 (d0 : Dev nD) : Nat :=
  let c0_i32_996 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_995 : BitVec 32 := 16#32
  let v1037 : BitVec 32 := Scalar.muli v2 c16_i32_995
  let v1038 : BitVec 32 := Scalar.addi c0_i32_996 v1037
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_997 : BitVec 32 := 4#32
  let v1039 : BitVec 32 := Scalar.muli v5 c4_i32_997
  let v1040 : BitVec 32 := Scalar.addi v1038 v1039
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_998 : BitVec 32 := 1#32
  let v1041 : BitVec 32 := Scalar.muli v49 c1_i32_998
  let v1042 : BitVec 32 := Scalar.addi v1040 v1041
  v1042.toNat
def k0_dev20 (d0 : Dev nD) : Nat :=
  let c0_i32_1030 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1029 : BitVec 32 := 16#32
  let v1068 : BitVec 32 := Scalar.muli v2 c16_i32_1029
  let v1069 : BitVec 32 := Scalar.addi c0_i32_1030 v1068
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1031 : BitVec 32 := 4#32
  let v1070 : BitVec 32 := Scalar.muli v5 c4_i32_1031
  let v1071 : BitVec 32 := Scalar.addi v1069 v1070
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_1032 : BitVec 32 := 1#32
  let v1072 : BitVec 32 := Scalar.muli v49 c1_i32_1032
  let v1073 : BitVec 32 := Scalar.addi v1071 v1072
  v1073.toNat
def k0_dev21 (d0 : Dev nD) : Nat :=
  let c0_i32_1065 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1064 : BitVec 32 := 16#32
  let v1099 : BitVec 32 := Scalar.muli v2 c16_i32_1064
  let v1100 : BitVec 32 := Scalar.addi c0_i32_1065 v1099
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1066 : BitVec 32 := 4#32
  let v1101 : BitVec 32 := Scalar.muli v5 c4_i32_1066
  let v1102 : BitVec 32 := Scalar.addi v1100 v1101
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_1067 : BitVec 32 := 1#32
  let v1103 : BitVec 32 := Scalar.muli v49 c1_i32_1067
  let v1104 : BitVec 32 := Scalar.addi v1102 v1103
  v1104.toNat
def k0_dev22 (d0 : Dev nD) : Nat :=
  let c0_i32_1097 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1096 : BitVec 32 := 16#32
  let v1130 : BitVec 32 := Scalar.muli v2 c16_i32_1096
  let v1131 : BitVec 32 := Scalar.addi c0_i32_1097 v1130
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1098 : BitVec 32 := 4#32
  let v1132 : BitVec 32 := Scalar.muli v5 c4_i32_1098
  let v1133 : BitVec 32 := Scalar.addi v1131 v1132
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_1099 : BitVec 32 := 1#32
  let v1134 : BitVec 32 := Scalar.muli v49 c1_i32_1099
  let v1135 : BitVec 32 := Scalar.addi v1133 v1134
  v1135.toNat
def k0_dev23 (d0 : Dev nD) : Nat :=
  let c0_i32_1129 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1128 : BitVec 32 := 16#32
  let v1161 : BitVec 32 := Scalar.muli v2 c16_i32_1128
  let v1162 : BitVec 32 := Scalar.addi c0_i32_1129 v1161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1130 : BitVec 32 := 4#32
  let v1163 : BitVec 32 := Scalar.muli v5 c4_i32_1130
  let v1164 : BitVec 32 := Scalar.addi v1162 v1163
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_1131 : BitVec 32 := 1#32
  let v1165 : BitVec 32 := Scalar.muli v49 c1_i32_1131
  let v1166 : BitVec 32 := Scalar.addi v1164 v1165
  v1166.toNat
def k0_dev24 (d0 : Dev nD) : Nat :=
  let c0_i32_1162 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1161 : BitVec 32 := 16#32
  let v1192 : BitVec 32 := Scalar.muli v2 c16_i32_1161
  let v1193 : BitVec 32 := Scalar.addi c0_i32_1162 v1192
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1163 : BitVec 32 := 4#32
  let v1194 : BitVec 32 := Scalar.muli v5 c4_i32_1163
  let v1195 : BitVec 32 := Scalar.addi v1193 v1194
  let c3_i32_23 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v49 : BitVec 32 := Scalar.subi c3_i32_23 v8
  let c1_i32_1164 : BitVec 32 := 1#32
  let v1196 : BitVec 32 := Scalar.muli v49 c1_i32_1164
  let v1197 : BitVec 32 := Scalar.addi v1195 v1196
  v1197.toNat
def k0_off7 (d0 : Dev nD) (c0_i32_1200 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v1225 : BitVec 32 := Scalar.addi v44 c0_i32_1200
  let v1226 : Index := Scalar.indexCast v1225
  let c0_1201 : Index := 0#32
  ![v1226.toNat, 0]
def k0_off8 (d0 : Dev nD) (c0_i32_1202 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v1228 : BitVec 32 := Scalar.addi v44 c0_i32_1202
  let c0_i32_1215 : BitVec 32 := 0#32
  ![v1228.toNat, 0]
def k0_dev25 (d0 : Dev nD) : Nat :=
  let c0_i32_1210 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1209 : BitVec 32 := 16#32
  let v1229 : BitVec 32 := Scalar.muli v2 c16_i32_1209
  let v1230 : BitVec 32 := Scalar.addi c0_i32_1210 v1229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1211 : BitVec 32 := 4#32
  let v1231 : BitVec 32 := Scalar.muli v5 c4_i32_1211
  let v1232 : BitVec 32 := Scalar.addi v1230 v1231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1212 : BitVec 32 := 1#32
  let v1233 : BitVec 32 := Scalar.muli v48 c1_i32_1212
  let v1234 : BitVec 32 := Scalar.addi v1232 v1233
  v1234.toNat
def k0_dev26 (d0 : Dev nD) : Nat :=
  let c0_i32_1257 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1256 : BitVec 32 := 16#32
  let v1266 : BitVec 32 := Scalar.muli v2 c16_i32_1256
  let v1267 : BitVec 32 := Scalar.addi c0_i32_1257 v1266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1258 : BitVec 32 := 4#32
  let v1268 : BitVec 32 := Scalar.muli v5 c4_i32_1258
  let v1269 : BitVec 32 := Scalar.addi v1267 v1268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1259 : BitVec 32 := 1#32
  let v1270 : BitVec 32 := Scalar.muli v48 c1_i32_1259
  let v1271 : BitVec 32 := Scalar.addi v1269 v1270
  v1271.toNat
def k0_dev27 (d0 : Dev nD) : Nat :=
  let c0_i32_1304 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1303 : BitVec 32 := 16#32
  let v1303 : BitVec 32 := Scalar.muli v2 c16_i32_1303
  let v1304 : BitVec 32 := Scalar.addi c0_i32_1304 v1303
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1305 : BitVec 32 := 4#32
  let v1305 : BitVec 32 := Scalar.muli v5 c4_i32_1305
  let v1306 : BitVec 32 := Scalar.addi v1304 v1305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1306 : BitVec 32 := 1#32
  let v1307 : BitVec 32 := Scalar.muli v48 c1_i32_1306
  let v1308 : BitVec 32 := Scalar.addi v1306 v1307
  v1308.toNat
def k0_dev28 (d0 : Dev nD) : Nat :=
  let c0_i32_1351 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1350 : BitVec 32 := 16#32
  let v1340 : BitVec 32 := Scalar.muli v2 c16_i32_1350
  let v1341 : BitVec 32 := Scalar.addi c0_i32_1351 v1340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1352 : BitVec 32 := 4#32
  let v1342 : BitVec 32 := Scalar.muli v5 c4_i32_1352
  let v1343 : BitVec 32 := Scalar.addi v1341 v1342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1353 : BitVec 32 := 1#32
  let v1344 : BitVec 32 := Scalar.muli v48 c1_i32_1353
  let v1345 : BitVec 32 := Scalar.addi v1343 v1344
  v1345.toNat
def k0_off9 (d0 : Dev nD) (c0_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v119 : BitVec 32 := Scalar.addi v44 c0_i32_80
  let c0_i32_1363 : BitVec 32 := 0#32
  ![v119.toNat, 0]
def k0_dev29 (d0 : Dev nD) : Nat :=
  let c0_i32_1358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_1357 : BitVec 32 := 16#32
  let v1353 : BitVec 32 := Scalar.muli v24 c16_i32_1357
  let v1354 : BitVec 32 := Scalar.addi c0_i32_1358 v1353
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_1359 : BitVec 32 := 4#32
  let v1355 : BitVec 32 := Scalar.muli v27 c4_i32_1359
  let v1356 : BitVec 32 := Scalar.addi v1354 v1355
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1360 : BitVec 32 := 1#32
  let v1357 : BitVec 32 := Scalar.muli v8 c1_i32_1360
  let v1358 : BitVec 32 := Scalar.addi v1356 v1357
  v1358.toNat
def k0_dev30 (d0 : Dev nD) : Nat :=
  let c0_i32_1365 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_1364 : BitVec 32 := 16#32
  let v1366 : BitVec 32 := Scalar.muli v40 c16_i32_1364
  let v1367 : BitVec 32 := Scalar.addi c0_i32_1365 v1366
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_1366 : BitVec 32 := 4#32
  let v1368 : BitVec 32 := Scalar.muli v43 c4_i32_1366
  let v1369 : BitVec 32 := Scalar.addi v1367 v1368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1367 : BitVec 32 := 1#32
  let v1370 : BitVec 32 := Scalar.muli v8 c1_i32_1367
  let v1371 : BitVec 32 := Scalar.addi v1369 v1370
  v1371.toNat
def k0_dev31 (d0 : Dev nD) : Nat :=
  let c0_i32_1412 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1411 : BitVec 32 := 16#32
  let v1403 : BitVec 32 := Scalar.muli v2 c16_i32_1411
  let v1404 : BitVec 32 := Scalar.addi c0_i32_1412 v1403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1413 : BitVec 32 := 4#32
  let v1405 : BitVec 32 := Scalar.muli v5 c4_i32_1413
  let v1406 : BitVec 32 := Scalar.addi v1404 v1405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1414 : BitVec 32 := 1#32
  let v1407 : BitVec 32 := Scalar.muli v48 c1_i32_1414
  let v1408 : BitVec 32 := Scalar.addi v1406 v1407
  v1408.toNat
def k0_dev32 (d0 : Dev nD) : Nat :=
  let c0_i32_1459 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1458 : BitVec 32 := 16#32
  let v1440 : BitVec 32 := Scalar.muli v2 c16_i32_1458
  let v1441 : BitVec 32 := Scalar.addi c0_i32_1459 v1440
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1460 : BitVec 32 := 4#32
  let v1442 : BitVec 32 := Scalar.muli v5 c4_i32_1460
  let v1443 : BitVec 32 := Scalar.addi v1441 v1442
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1461 : BitVec 32 := 1#32
  let v1444 : BitVec 32 := Scalar.muli v48 c1_i32_1461
  let v1445 : BitVec 32 := Scalar.addi v1443 v1444
  v1445.toNat
def k0_dev33 (d0 : Dev nD) : Nat :=
  let c0_i32_1506 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1505 : BitVec 32 := 16#32
  let v1477 : BitVec 32 := Scalar.muli v2 c16_i32_1505
  let v1478 : BitVec 32 := Scalar.addi c0_i32_1506 v1477
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1507 : BitVec 32 := 4#32
  let v1479 : BitVec 32 := Scalar.muli v5 c4_i32_1507
  let v1480 : BitVec 32 := Scalar.addi v1478 v1479
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1508 : BitVec 32 := 1#32
  let v1481 : BitVec 32 := Scalar.muli v48 c1_i32_1508
  let v1482 : BitVec 32 := Scalar.addi v1480 v1481
  v1482.toNat
def k0_dev34 (d0 : Dev nD) : Nat :=
  let c0_i32_1553 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1552 : BitVec 32 := 16#32
  let v1514 : BitVec 32 := Scalar.muli v2 c16_i32_1552
  let v1515 : BitVec 32 := Scalar.addi c0_i32_1553 v1514
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1554 : BitVec 32 := 4#32
  let v1516 : BitVec 32 := Scalar.muli v5 c4_i32_1554
  let v1517 : BitVec 32 := Scalar.addi v1515 v1516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v48 : BitVec 32 := Scalar.xori v8 c1_i32_22
  let c1_i32_1555 : BitVec 32 := 1#32
  let v1518 : BitVec 32 := Scalar.muli v48 c1_i32_1555
  let v1519 : BitVec 32 := Scalar.addi v1517 v1518
  v1519.toNat
def k0_dev35 (d0 : Dev nD) : Nat :=
  let c0_i32_1560 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_1559 : BitVec 32 := 16#32
  let v1527 : BitVec 32 := Scalar.muli v24 c16_i32_1559
  let v1528 : BitVec 32 := Scalar.addi c0_i32_1560 v1527
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_1561 : BitVec 32 := 4#32
  let v1529 : BitVec 32 := Scalar.muli v27 c4_i32_1561
  let v1530 : BitVec 32 := Scalar.addi v1528 v1529
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1562 : BitVec 32 := 1#32
  let v1531 : BitVec 32 := Scalar.muli v8 c1_i32_1562
  let v1532 : BitVec 32 := Scalar.addi v1530 v1531
  v1532.toNat
def k0_dev36 (d0 : Dev nD) : Nat :=
  let c0_i32_1567 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_1566 : BitVec 32 := 16#32
  let v1540 : BitVec 32 := Scalar.muli v40 c16_i32_1566
  let v1541 : BitVec 32 := Scalar.addi c0_i32_1567 v1540
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_1568 : BitVec 32 := 4#32
  let v1542 : BitVec 32 := Scalar.muli v43 c4_i32_1568
  let v1543 : BitVec 32 := Scalar.addi v1541 v1542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1569 : BitVec 32 := 1#32
  let v1544 : BitVec 32 := Scalar.muli v8 c1_i32_1569
  let v1545 : BitVec 32 := Scalar.addi v1543 v1544
  v1545.toNat
def k0_off10 (d0 : Dev nD) (c0_i32_80 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v119 : BitVec 32 := Scalar.addi v44 c0_i32_80
  let c0_i32_144 : BitVec 32 := 0#32
  ![v119.toNat, 0]
def k0_dev37 (d0 : Dev nD) : Nat :=
  let c0_i32_161 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_160 : BitVec 32 := 16#32
  let v155 : BitVec 32 := Scalar.muli v24 c16_i32_160
  let v156 : BitVec 32 := Scalar.addi c0_i32_161 v155
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_162 : BitVec 32 := 4#32
  let v157 : BitVec 32 := Scalar.muli v27 c4_i32_162
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_163 : BitVec 32 := 1#32
  let v159 : BitVec 32 := Scalar.muli v8 c1_i32_163
  let v160 : BitVec 32 := Scalar.addi v158 v159
  v160.toNat
def k0_dev38 (d0 : Dev nD) : Nat :=
  let c0_i32_196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_195 : BitVec 32 := 16#32
  let v185 : BitVec 32 := Scalar.muli v40 c16_i32_195
  let v186 : BitVec 32 := Scalar.addi c0_i32_196 v185
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_197 : BitVec 32 := 4#32
  let v187 : BitVec 32 := Scalar.muli v43 c4_i32_197
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_198 : BitVec 32 := 1#32
  let v189 : BitVec 32 := Scalar.muli v8 c1_i32_198
  let v190 : BitVec 32 := Scalar.addi v188 v189
  v190.toNat
def k0_dev39 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_230 : BitVec 32 := 16#32
  let v215 : BitVec 32 := Scalar.muli v24 c16_i32_230
  let v216 : BitVec 32 := Scalar.addi c0_i32_231 v215
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_232 : BitVec 32 := 4#32
  let v217 : BitVec 32 := Scalar.muli v27 c4_i32_232
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v219 : BitVec 32 := Scalar.muli v8 c1_i32_233
  let v220 : BitVec 32 := Scalar.addi v218 v219
  v220.toNat
def k0_dev40 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_265 : BitVec 32 := 16#32
  let v245 : BitVec 32 := Scalar.muli v40 c16_i32_265
  let v246 : BitVec 32 := Scalar.addi c0_i32_266 v245
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_267 : BitVec 32 := 4#32
  let v247 : BitVec 32 := Scalar.muli v43 c4_i32_267
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v249 : BitVec 32 := Scalar.muli v8 c1_i32_268
  let v250 : BitVec 32 := Scalar.addi v248 v249
  v250.toNat
def k0_off11 (d0 : Dev nD) (c0_i32_273 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v259 : BitVec 32 := Scalar.subi v11 c0_i32_273
  let c1_i32_274 : BitVec 32 := 1#32
  let v260 : BitVec 32 := Scalar.subi v259 c1_i32_274
  let c8_i32_275 : BitVec 32 := 8#32
  let c0_i32_276 : BitVec 32 := 0#32
  let v261 : BitVec 1 := Scalar.cmpi .eq c8_i32_275 c0_i32_276
  let c1_i32_277 : BitVec 32 := 1#32
  let v262 : BitVec 32 := Scalar.select v261 c1_i32_277 c8_i32_275
  let v263 : BitVec 32 := Scalar.remsi v260 v262
  let c0_i32_279 : BitVec 32 := 0#32
  let v265 : BitVec 1 := Scalar.cmpi .slt v263 c0_i32_279
  let c0_i32_280 : BitVec 32 := 0#32
  let v266 : BitVec 1 := Scalar.cmpi .slt v262 c0_i32_280
  let v267 : BitVec 1 := Scalar.xori v265 v266
  let c0_i32_278 : BitVec 32 := 0#32
  let v264 : BitVec 1 := Scalar.cmpi .ne v263 c0_i32_278
  let v268 : BitVec 1 := Scalar.andi v267 v264
  let v269 : BitVec 32 := Scalar.addi v263 v262
  let v270 : BitVec 32 := Scalar.select v268 v269 v263
  let c256_i32_281 : BitVec 32 := 256#32
  let v271 : BitVec 32 := Scalar.muli v270 c256_i32_281
  let v297 : Index := Scalar.indexCast v271
  let c0_295 : Index := 0#32
  ![v297.toNat, 0]
def k0_off12 (d0 : Dev nD) (c0_i32_296 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v299 : BitVec 32 := Scalar.addi v11 c0_i32_296
  let c1_i32_297 : BitVec 32 := 1#32
  let v300 : BitVec 32 := Scalar.addi v299 c1_i32_297
  let c8_i32_298 : BitVec 32 := 8#32
  let c0_i32_299 : BitVec 32 := 0#32
  let v301 : BitVec 1 := Scalar.cmpi .eq c8_i32_298 c0_i32_299
  let c1_i32_300 : BitVec 32 := 1#32
  let v302 : BitVec 32 := Scalar.select v301 c1_i32_300 c8_i32_298
  let v303 : BitVec 32 := Scalar.remsi v300 v302
  let c0_i32_302 : BitVec 32 := 0#32
  let v305 : BitVec 1 := Scalar.cmpi .slt v303 c0_i32_302
  let c0_i32_303 : BitVec 32 := 0#32
  let v306 : BitVec 1 := Scalar.cmpi .slt v302 c0_i32_303
  let v307 : BitVec 1 := Scalar.xori v305 v306
  let c0_i32_301 : BitVec 32 := 0#32
  let v304 : BitVec 1 := Scalar.cmpi .ne v303 c0_i32_301
  let v308 : BitVec 1 := Scalar.andi v307 v304
  let v309 : BitVec 32 := Scalar.addi v303 v302
  let v310 : BitVec 32 := Scalar.select v308 v309 v303
  let c256_i32_304 : BitVec 32 := 256#32
  let v311 : BitVec 32 := Scalar.muli v310 c256_i32_304
  let v337 : Index := Scalar.indexCast v311
  let c0_319 : Index := 0#32
  ![v337.toNat, 0]
def k0_off13 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c256_i32 : BitVec 32 := 256#32
  let v44 : BitVec 32 := Scalar.muli v11 c256_i32
  let v339 : Index := Scalar.indexCast v44
  let c0_320 : Index := 0#32
  ![v339.toNat, 0]
def k0_off14 (d0 : Dev nD) (c0_i32_333 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v367 : BitVec 32 := Scalar.subi v11 c0_i32_333
  let c2_i32_334 : BitVec 32 := 2#32
  let v368 : BitVec 32 := Scalar.subi v367 c2_i32_334
  let c8_i32_335 : BitVec 32 := 8#32
  let c0_i32_336 : BitVec 32 := 0#32
  let v369 : BitVec 1 := Scalar.cmpi .eq c8_i32_335 c0_i32_336
  let c1_i32_337 : BitVec 32 := 1#32
  let v370 : BitVec 32 := Scalar.select v369 c1_i32_337 c8_i32_335
  let v371 : BitVec 32 := Scalar.remsi v368 v370
  let c0_i32_339 : BitVec 32 := 0#32
  let v373 : BitVec 1 := Scalar.cmpi .slt v371 c0_i32_339
  let c0_i32_340 : BitVec 32 := 0#32
  let v374 : BitVec 1 := Scalar.cmpi .slt v370 c0_i32_340
  let v375 : BitVec 1 := Scalar.xori v373 v374
  let c0_i32_338 : BitVec 32 := 0#32
  let v372 : BitVec 1 := Scalar.cmpi .ne v371 c0_i32_338
  let v376 : BitVec 1 := Scalar.andi v375 v372
  let v377 : BitVec 32 := Scalar.addi v371 v370
  let v378 : BitVec 32 := Scalar.select v376 v377 v371
  let c256_i32_341 : BitVec 32 := 256#32
  let v379 : BitVec 32 := Scalar.muli v378 c256_i32_341
  let c0_i32_346 : BitVec 32 := 0#32
  ![v379.toNat, 0]
def k0_off15 (d0 : Dev nD) (c0_i32_347 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let v385 : BitVec 32 := Scalar.addi v11 c0_i32_347
  let c2_i32_348 : BitVec 32 := 2#32
  let v386 : BitVec 32 := Scalar.addi v385 c2_i32_348
  let c8_i32_349 : BitVec 32 := 8#32
  let c0_i32_350 : BitVec 32 := 0#32
  let v387 : BitVec 1 := Scalar.cmpi .eq c8_i32_349 c0_i32_350
  let c1_i32_351 : BitVec 32 := 1#32
  let v388 : BitVec 32 := Scalar.select v387 c1_i32_351 c8_i32_349
  let v389 : BitVec 32 := Scalar.remsi v386 v388
  let c0_i32_353 : BitVec 32 := 0#32
  let v391 : BitVec 1 := Scalar.cmpi .slt v389 c0_i32_353
  let c0_i32_354 : BitVec 32 := 0#32
  let v392 : BitVec 1 := Scalar.cmpi .slt v388 c0_i32_354
  let v393 : BitVec 1 := Scalar.xori v391 v392
  let c0_i32_352 : BitVec 32 := 0#32
  let v390 : BitVec 1 := Scalar.cmpi .ne v389 c0_i32_352
  let v394 : BitVec 1 := Scalar.andi v393 v390
  let v395 : BitVec 32 := Scalar.addi v389 v388
  let v396 : BitVec 32 := Scalar.select v394 v395 v389
  let c256_i32_355 : BitVec 32 := 256#32
  let v397 : BitVec 32 := Scalar.muli v396 c256_i32_355
  let c0_i32_360 : BitVec 32 := 0#32
  ![v397.toNat, 0]
def k0_dev41 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_387 : BitVec 32 := 16#32
  let v421 : BitVec 32 := Scalar.muli v40 c16_i32_387
  let v422 : BitVec 32 := Scalar.addi c0_i32_388 v421
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_389 : BitVec 32 := 4#32
  let v423 : BitVec 32 := Scalar.muli v43 c4_i32_389
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_390 : BitVec 32 := 1#32
  let v425 : BitVec 32 := Scalar.muli v8 c1_i32_390
  let v426 : BitVec 32 := Scalar.addi v424 v425
  v426.toNat
def k0_dev42 (d0 : Dev nD) : Nat :=
  let c0_i32_400 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_399 : BitVec 32 := 16#32
  let v427 : BitVec 32 := Scalar.muli v24 c16_i32_399
  let v428 : BitVec 32 := Scalar.addi c0_i32_400 v427
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_401 : BitVec 32 := 4#32
  let v429 : BitVec 32 := Scalar.muli v27 c4_i32_401
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_402 : BitVec 32 := 1#32
  let v431 : BitVec 32 := Scalar.muli v8 c1_i32_402
  let v432 : BitVec 32 := Scalar.addi v430 v431
  v432.toNat
def k0_dev43 (d0 : Dev nD) : Nat :=
  let c0_i32_434 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_433 : BitVec 32 := 16#32
  let v459 : BitVec 32 := Scalar.muli v24 c16_i32_433
  let v460 : BitVec 32 := Scalar.addi c0_i32_434 v459
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_435 : BitVec 32 := 4#32
  let v461 : BitVec 32 := Scalar.muli v27 c4_i32_435
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v463 : BitVec 32 := Scalar.muli v8 c1_i32_436
  let v464 : BitVec 32 := Scalar.addi v462 v463
  v464.toNat
def k0_dev44 (d0 : Dev nD) : Nat :=
  let c0_i32_446 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_445 : BitVec 32 := 16#32
  let v465 : BitVec 32 := Scalar.muli v40 c16_i32_445
  let v466 : BitVec 32 := Scalar.addi c0_i32_446 v465
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_447 : BitVec 32 := 4#32
  let v467 : BitVec 32 := Scalar.muli v43 c4_i32_447
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_448 : BitVec 32 := 1#32
  let v469 : BitVec 32 := Scalar.muli v8 c1_i32_448
  let v470 : BitVec 32 := Scalar.addi v468 v469
  v470.toNat
def k0_dev45 (d0 : Dev nD) : Nat :=
  let c0_i32_480 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_479 : BitVec 32 := 16#32
  let v497 : BitVec 32 := Scalar.muli v40 c16_i32_479
  let v498 : BitVec 32 := Scalar.addi c0_i32_480 v497
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_481 : BitVec 32 := 4#32
  let v499 : BitVec 32 := Scalar.muli v43 c4_i32_481
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v501 : BitVec 32 := Scalar.muli v8 c1_i32_482
  let v502 : BitVec 32 := Scalar.addi v500 v501
  v502.toNat
def k0_dev46 (d0 : Dev nD) : Nat :=
  let c0_i32_492 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_491 : BitVec 32 := 16#32
  let v503 : BitVec 32 := Scalar.muli v24 c16_i32_491
  let v504 : BitVec 32 := Scalar.addi c0_i32_492 v503
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_493 : BitVec 32 := 4#32
  let v505 : BitVec 32 := Scalar.muli v27 c4_i32_493
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v507 : BitVec 32 := Scalar.muli v8 c1_i32_494
  let v508 : BitVec 32 := Scalar.addi v506 v507
  v508.toNat
def k0_dev47 (d0 : Dev nD) : Nat :=
  let c0_i32_526 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_525 : BitVec 32 := 16#32
  let v535 : BitVec 32 := Scalar.muli v24 c16_i32_525
  let v536 : BitVec 32 := Scalar.addi c0_i32_526 v535
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_527 : BitVec 32 := 4#32
  let v537 : BitVec 32 := Scalar.muli v27 c4_i32_527
  let v538 : BitVec 32 := Scalar.addi v536 v537
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_528 : BitVec 32 := 1#32
  let v539 : BitVec 32 := Scalar.muli v8 c1_i32_528
  let v540 : BitVec 32 := Scalar.addi v538 v539
  v540.toNat
def k0_dev48 (d0 : Dev nD) : Nat :=
  let c0_i32_538 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_537 : BitVec 32 := 16#32
  let v541 : BitVec 32 := Scalar.muli v40 c16_i32_537
  let v542 : BitVec 32 := Scalar.addi c0_i32_538 v541
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_539 : BitVec 32 := 4#32
  let v543 : BitVec 32 := Scalar.muli v43 c4_i32_539
  let v544 : BitVec 32 := Scalar.addi v542 v543
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_540 : BitVec 32 := 1#32
  let v545 : BitVec 32 := Scalar.muli v8 c1_i32_540
  let v546 : BitVec 32 := Scalar.addi v544 v545
  v546.toNat
def k0_dev49 (d0 : Dev nD) : Nat :=
  let c0_i32_649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_648 : BitVec 32 := 16#32
  let v689 : BitVec 32 := Scalar.muli v40 c16_i32_648
  let v690 : BitVec 32 := Scalar.addi c0_i32_649 v689
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_650 : BitVec 32 := 4#32
  let v691 : BitVec 32 := Scalar.muli v43 c4_i32_650
  let v692 : BitVec 32 := Scalar.addi v690 v691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_651 : BitVec 32 := 1#32
  let v693 : BitVec 32 := Scalar.muli v8 c1_i32_651
  let v694 : BitVec 32 := Scalar.addi v692 v693
  v694.toNat
def k0_dev50 (d0 : Dev nD) : Nat :=
  let c0_i32_661 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_660 : BitVec 32 := 16#32
  let v695 : BitVec 32 := Scalar.muli v24 c16_i32_660
  let v696 : BitVec 32 := Scalar.addi c0_i32_661 v695
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_662 : BitVec 32 := 4#32
  let v697 : BitVec 32 := Scalar.muli v27 c4_i32_662
  let v698 : BitVec 32 := Scalar.addi v696 v697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v699 : BitVec 32 := Scalar.muli v8 c1_i32_663
  let v700 : BitVec 32 := Scalar.addi v698 v699
  v700.toNat
def k0_dev51 (d0 : Dev nD) : Nat :=
  let c0_i32_745 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c4_i32_8 : BitVec 32 := 4#32
  let v23 : BitVec 1 := Scalar.cmpi .sge v22 c4_i32_8
  let v24 : BitVec 32 := Scalar.extui v23
  let c16_i32_744 : BitVec 32 := 16#32
  let v763 : BitVec 32 := Scalar.muli v24 c16_i32_744
  let v764 : BitVec 32 := Scalar.addi c0_i32_745 v763
  let c4_i32_9 : BitVec 32 := 4#32
  let v25 : BitVec 1 := Scalar.cmpi .slt v22 c4_i32_9
  let c7_i32_10 : BitVec 32 := 7#32
  let v26 : BitVec 32 := Scalar.subi c7_i32_10 v22
  let v27 : BitVec 32 := Scalar.select v25 v22 v26
  let c4_i32_746 : BitVec 32 := 4#32
  let v765 : BitVec 32 := Scalar.muli v27 c4_i32_746
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_747 : BitVec 32 := 1#32
  let v767 : BitVec 32 := Scalar.muli v8 c1_i32_747
  let v768 : BitVec 32 := Scalar.addi v766 v767
  v768.toNat
def k0_dev52 (d0 : Dev nD) : Nat :=
  let c0_i32_757 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c7_i32_11 : BitVec 32 := 7#32
  let v28 : BitVec 32 := Scalar.addi v11 c7_i32_11
  let c8_i32_12 : BitVec 32 := 8#32
  let c0_i32_13 : BitVec 32 := 0#32
  let v29 : BitVec 1 := Scalar.cmpi .eq c8_i32_12 c0_i32_13
  let c1_i32_14 : BitVec 32 := 1#32
  let v30 : BitVec 32 := Scalar.select v29 c1_i32_14 c8_i32_12
  let v31 : BitVec 32 := Scalar.remsi v28 v30
  let c0_i32_16 : BitVec 32 := 0#32
  let v33 : BitVec 1 := Scalar.cmpi .slt v31 c0_i32_16
  let c0_i32_17 : BitVec 32 := 0#32
  let v34 : BitVec 1 := Scalar.cmpi .slt v30 c0_i32_17
  let v35 : BitVec 1 := Scalar.xori v33 v34
  let c0_i32_15 : BitVec 32 := 0#32
  let v32 : BitVec 1 := Scalar.cmpi .ne v31 c0_i32_15
  let v36 : BitVec 1 := Scalar.andi v35 v32
  let v37 : BitVec 32 := Scalar.addi v31 v30
  let v38 : BitVec 32 := Scalar.select v36 v37 v31
  let c4_i32_18 : BitVec 32 := 4#32
  let v39 : BitVec 1 := Scalar.cmpi .sge v38 c4_i32_18
  let v40 : BitVec 32 := Scalar.extui v39
  let c16_i32_756 : BitVec 32 := 16#32
  let v769 : BitVec 32 := Scalar.muli v40 c16_i32_756
  let v770 : BitVec 32 := Scalar.addi c0_i32_757 v769
  let c4_i32_19 : BitVec 32 := 4#32
  let v41 : BitVec 1 := Scalar.cmpi .slt v38 c4_i32_19
  let c7_i32_20 : BitVec 32 := 7#32
  let v42 : BitVec 32 := Scalar.subi c7_i32_20 v38
  let v43 : BitVec 32 := Scalar.select v41 v38 v42
  let c4_i32_758 : BitVec 32 := 4#32
  let v771 : BitVec 32 := Scalar.muli v43 c4_i32_758
  let v772 : BitVec 32 := Scalar.addi v770 v771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_759 : BitVec 32 := 1#32
  let v773 : BitVec 32 := Scalar.muli v8 c1_i32_759
  let v774 : BitVec 32 := Scalar.addi v772 v773
  v774.toNat
def k0_off16 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c4_i32_126 : BitVec 32 := 4#32
  let v128 : BitVec 32 := Scalar.addi v11 c4_i32_126
  let c8_i32_127 : BitVec 32 := 8#32
  let c0_i32_128 : BitVec 32 := 0#32
  let v129 : BitVec 1 := Scalar.cmpi .eq c8_i32_127 c0_i32_128
  let c1_i32_129 : BitVec 32 := 1#32
  let v130 : BitVec 32 := Scalar.select v129 c1_i32_129 c8_i32_127
  let v131 : BitVec 32 := Scalar.remsi v128 v130
  let c0_i32_131 : BitVec 32 := 0#32
  let v133 : BitVec 1 := Scalar.cmpi .slt v131 c0_i32_131
  let c0_i32_132 : BitVec 32 := 0#32
  let v134 : BitVec 1 := Scalar.cmpi .slt v130 c0_i32_132
  let v135 : BitVec 1 := Scalar.xori v133 v134
  let c0_i32_130 : BitVec 32 := 0#32
  let v132 : BitVec 1 := Scalar.cmpi .ne v131 c0_i32_130
  let v136 : BitVec 1 := Scalar.andi v135 v132
  let v137 : BitVec 32 := Scalar.addi v131 v130
  let v138 : BitVec 32 := Scalar.select v136 v137 v131
  let c256_i32_870 : BitVec 32 := 256#32
  let v905 : BitVec 32 := Scalar.muli v138 c256_i32_870
  let v931 : Index := Scalar.indexCast v905
  let c0_886 : Index := 0#32
  ![v931.toNat, 0]
def k0_off17 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c7_i32 : BitVec 32 := 7#32
  let v10 : BitVec 32 := Scalar.subi c7_i32 v5
  let v11 : BitVec 32 := Scalar.select v9 v5 v10
  let c4_i32_126 : BitVec 32 := 4#32
  let v128 : BitVec 32 := Scalar.addi v11 c4_i32_126
  let c8_i32_127 : BitVec 32 := 8#32
  let c0_i32_128 : BitVec 32 := 0#32
  let v129 : BitVec 1 := Scalar.cmpi .eq c8_i32_127 c0_i32_128
  let c1_i32_129 : BitVec 32 := 1#32
  let v130 : BitVec 32 := Scalar.select v129 c1_i32_129 c8_i32_127
  let v131 : BitVec 32 := Scalar.remsi v128 v130
  let c0_i32_131 : BitVec 32 := 0#32
  let v133 : BitVec 1 := Scalar.cmpi .slt v131 c0_i32_131
  let c0_i32_132 : BitVec 32 := 0#32
  let v134 : BitVec 1 := Scalar.cmpi .slt v130 c0_i32_132
  let v135 : BitVec 1 := Scalar.xori v133 v134
  let c0_i32_130 : BitVec 32 := 0#32
  let v132 : BitVec 1 := Scalar.cmpi .ne v131 c0_i32_130
  let v136 : BitVec 1 := Scalar.andi v135 v132
  let v137 : BitVec 32 := Scalar.addi v131 v130
  let v138 : BitVec 32 := Scalar.select v136 v137 v131
  let c256_i32_887 : BitVec 32 := 256#32
  let v933 : BitVec 32 := Scalar.muli v138 c256_i32_887
  let c128_i32_888 : BitVec 32 := 128#32
  let v934 : BitVec 32 := Scalar.addi v933 c128_i32_888
  let v955 : Index := Scalar.indexCast v934
  let c0_898 : Index := 0#32
  ![v955.toNat, 0]
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x2048, .f32⟩
  | .hbm, ⟨18, _⟩ => ⟨S2048x2048, .f32⟩
  | .hbm, ⟨19, _⟩ => ⟨S1x2048, .f32⟩
  | .hbm, ⟨20, _⟩ => ⟨S2048x2048, .f32⟩
  | .hbm, ⟨21, _⟩ => ⟨S2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Geometry.lean ====
/-
  The mesh: 32 devices, x in {0,1}, y and z in {0,…,3}, logical number 16 x + 4 y + z. The eight devices of one z
  form a ring (up the y axis at x = 0, down it at x = 1). Along z, 0 and 1 are partners, 2 and 3 are partners;
  1 and 2 are the middle devices, 0 and 3 the edge devices. Every device number, row offset and condition that the
  kernel computes is one of the closed forms below.
-/
module

public import proofs.«01_k».proof.Proof.Gen.KernelIdeal
public import proofs.«01_k».proof.Proof.Gen.KernelIdeal.Skeleton
public import proofs.«01_k».proof.Proof.Gen.KernelIdeal.Launch

@[expose] public section

set_option maxRecDepth 16384

noncomputable section

namespace Cert.Proto

open Cert.KernelIdeal Cert.KernelIdeal.Gen
open Idealize.ShloMosaic

/-- A device by its number. -/
abbrev dev (n : ℕ) : Dev nD := Fin.ofNat 32 n

def zOf (c : Dev nD) : ℕ := c.val % 4
/-- The place on the ring. -/
def pos (c : Dev nD) : ℕ := if c.val / 16 = 0 then c.val / 4 % 4 else 7 - c.val / 4 % 4
/-- The device at place p of the ring of z. -/
def at_ (p z : ℕ) : Dev nD := if p % 8 < 4 then dev (4 * (p % 8) + z) else dev (16 + 4 * (7 - p % 8) + z)
/-- The ring's neighbours: d = 0 the one that data going clockwise reaches next, d = 1 counter-clockwise. -/
def nxt (d : Fin 2) (c : Dev nD) : Dev nD := at_ (if d = 0 then pos c + 1 else pos c + 7) (zOf c)
/-- The neighbour that data of direction d comes from. -/
def prv (d : Fin 2) (c : Dev nD) : Dev nD := at_ (if d = 0 then pos c + 7 else pos c + 1) (zOf c)
/-- The partner along z. -/
def par (c : Dev nD) : Dev nD := dev (c.val - zOf c + (if zOf c % 2 = 0 then zOf c + 1 else zOf c - 1))
/-- The device mirrored along z: a middle device's other middle device. -/
def opp (c : Dev nD) : Dev nD := dev (c.val - zOf c + (3 - zOf c))
/-- A middle device. -/
def isMid (c : Dev nD) : Bool := zOf c == 1 || zOf c == 2

theorem par_par : ∀ c, par (par c) = c := by decide
theorem opp_opp : ∀ c, opp (opp c) = c := by decide
theorem nxt_prv : ∀ d c, nxt d (prv d c) = c := by decide
theorem prv_nxt : ∀ d c, prv d (nxt d c) = c := by decide
theorem isMid_par : ∀ c, isMid (par c) = !isMid c := by decide
theorem isMid_opp : ∀ c, isMid (opp c) = isMid c := by decide
theorem par_mid {c : Dev nD} (h : isMid c = true) : isMid (par c) = false := by rw [isMid_par, h]; rfl
theorem par_edge {c : Dev nD} (h : isMid c = false) : isMid (par c) = true := by rw [isMid_par, h]; rfl
theorem opp_mid {c : Dev nD} (h : isMid c = true) : isMid (opp c) = true := by rw [isMid_opp, h]
theorem pos_par : ∀ c, pos (par c) = pos c := by decide
theorem pos_opp : ∀ c, pos (opp c) = pos c := by decide
theorem pos_lt : ∀ c, pos c < 8 := by decide

/-- The place `h + 1` steps back in direction d: whose piece hop h brings. -/
def back (d : Fin 2) (c : Dev nD) : ℕ → Dev nD
  | 0 => c
  | h + 1 => back d (prv d c) h

theorem back_succ (d : Fin 2) (c : Dev nD) (h : ℕ) : back d (nxt d c) (h + 1) = back d c h := by
  show back d (prv d (nxt d c)) h = _; rw [prv_nxt]

/-! ## The kernel's conditions -/

theorem cond1_mid : ∀ c, isMid c = true → k0_cond1 c = 1#1 := by decide +kernel
theorem cond1_edge : ∀ c, isMid c = false → k0_cond1 c ≠ 1#1 := by decide +kernel
theorem cond3_mid : ∀ c, isMid c = true → k0_cond3 c ≠ 1#1 := by decide +kernel
theorem cond3_edge : ∀ c, isMid c = false → k0_cond3 c = 1#1 := by decide +kernel
theorem cond4_mid : ∀ c, isMid c = true → k0_cond4 c = 1#1 := by decide +kernel
theorem cond4_edge : ∀ c, isMid c = false → k0_cond4 c ≠ 1#1 := by decide +kernel

/-! ## The devices it names -/

theorem devs_bar : ∀ c, k0_dev1 c = (par c).val ∧ k0_dev2 c = (nxt 1 c).val ∧ k0_dev3 c = (nxt 0 c).val := by decide +kernel
theorem dev_bar_opp : ∀ c, isMid c = true → k0_dev4 c = (opp c).val := by decide +kernel

theorem devs_edge : ∀ c, isMid c = false → k0_dev5 c = (par c).val ∧ k0_dev6 c = (par c).val ∧ k0_dev7 c = (par c).val
    ∧ k0_dev8 c = (par c).val ∧ k0_dev9 c = (par c).val ∧ k0_dev10 c = (par c).val ∧ k0_dev11 c = (par c).val
    ∧ k0_dev12 c = (par c).val ∧ k0_dev13 c = (nxt 0 c).val ∧ k0_dev14 c = (nxt 1 c).val ∧ k0_dev15 c = (nxt 0 c).val
    ∧ k0_dev16 c = (nxt 1 c).val := by decide +kernel
theorem devs_ex : ∀ c, isMid c = true → k0_dev17 c = (opp c).val ∧ k0_dev18 c = (opp c).val ∧ k0_dev19 c = (opp c).val
    ∧ k0_dev20 c = (opp c).val ∧ k0_dev21 c = (opp c).val ∧ k0_dev22 c = (opp c).val ∧ k0_dev23 c = (opp c).val
    ∧ k0_dev24 c = (opp c).val := by decide +kernel
theorem devs_fin : ∀ c, isMid c = true → k0_dev25 c = (par c).val ∧ k0_dev26 c = (par c).val ∧ k0_dev27 c = (par c).val
    ∧ k0_dev28 c = (par c).val ∧ k0_dev31 c = (par c).val ∧ k0_dev32 c = (par c).val ∧ k0_dev33 c = (par c).val
    ∧ k0_dev34 c = (par c).val ∧ k0_dev29 c = (nxt 0 c).val ∧ k0_dev30 c = (nxt 1 c).val ∧ k0_dev35 c = (nxt 0 c).val
    ∧ k0_dev36 c = (nxt 1 c).val := by decide +kernel
/-- Hops 1, 2 and 3 go on; -/
theorem devs_ring : ∀ c, k0_dev37 c = (nxt 0 c).val ∧ k0_dev38 c = (nxt 1 c).val ∧ k0_dev39 c = (nxt 0 c).val
    ∧ k0_dev40 c = (nxt 1 c).val ∧ k0_dev42 c = (nxt 0 c).val ∧ k0_dev44 c = (nxt 1 c).val ∧ k0_dev46 c = (nxt 0 c).val
    ∧ k0_dev48 c = (nxt 1 c).val ∧ k0_dev50 c = (nxt 0 c).val ∧ k0_dev52 c = (nxt 1 c).val := by decide +kernel
/-- the credits go back. -/
theorem devs_credit : ∀ c, k0_dev41 c = (prv 0 c).val ∧ k0_dev43 c = (prv 1 c).val ∧ k0_dev45 c = (prv 0 c).val
    ∧ k0_dev47 c = (prv 1 c).val ∧ k0_dev49 c = (prv 0 c).val ∧ k0_dev51 c = (prv 1 c).val := by decide +kernel

/-! ## The rows it names -/

/-- Piece p of the result starts at this row. -/
abbrev row0 (p : ℕ) : ℕ := 256 * (p % 8)

theorem offs_load : ∀ c, k0_off1 c = ![0, row0 (pos c), 0] ∧ k0_off2 c = ![row0 (pos c + 7), 0]
    ∧ k0_off3 c 1#32 = ![row0 (pos c + 1), 0] ∧ k0_off4 c = ![row0 (pos c), 0] := by decide +kernel
theorem offs_own : ∀ c, isMid c = false → ∀ s : Fin 8, k0_off5 c (BitVec.ofNat 32 (32 * s.val)) = ![row0 (pos c) + 32 * s.val, 0] := by decide +kernel
theorem offs_own7 : ∀ c, isMid c = true → ∀ s : Fin 8, k0_off7 c (BitVec.ofNat 32 (32 * s.val)) = ![row0 (pos c) + 32 * s.val, 0]
   ∧ k0_off8 c (BitVec.ofNat 32 (32 * s.val)) = ![row0 (pos c) + 32 * s.val, 0] := by decide +kernel
theorem offs_half6 : ∀ c, isMid c = false → ∀ j : Fin 2, k0_off6 c (BitVec.ofNat 32 (128 * j.val)) = ![row0 (pos c) + 128 * j.val, 0] := by decide +kernel
theorem offs_half9 : ∀ c, isMid c = true → ∀ j : Fin 2, k0_off9 c (BitVec.ofNat 32 (128 * j.val)) = ![row0 (pos c) + 128 * j.val, 0] := by decide +kernel
theorem offs_half10 : ∀ c, ∀ j : Fin 2, k0_off10 c (BitVec.ofNat 32 (128 * j.val)) = ![row0 (pos c) + 128 * j.val, 0] := by decide +kernel
theorem offs_out : ∀ c, ∀ h : Fin 3, k0_off11 c (BitVec.ofNat 32 h.val) = ![row0 (pos c + 7 - h.val), 0]
    ∧ k0_off12 c (BitVec.ofNat 32 h.val) = ![row0 (pos c + h.val + 1), 0] := by decide +kernel
theorem offs_out' : ∀ c, k0_off13 c = ![row0 (pos c), 0] ∧ k0_off16 c = ![row0 (pos c + 4), 0] ∧ k0_off17 c = ![row0 (pos c + 4) + 128, 0]
    ∧ k0_off3 c 4#32 = ![row0 (pos c + 4), 0] := by decide +kernel
theorem offs_pref : ∀ c, ∀ h : Fin 2, k0_off14 c (BitVec.ofNat 32 h.val) = ![row0 (pos c + 6 - h.val), 0]
    ∧ k0_off15 c (BitVec.ofNat 32 h.val) = ![row0 (pos c + h.val + 2), 0] := by decide +kernel

end Cert.Proto

end
-- ==== Proof.Cells.lean ====
/-
  The buffers, the pieces of them that travel, and what they hold; the semaphore cells.
-/
module

public import proofs.«01_k».proof.Proof.Geometry
public import Idealize.ShloMosaic.Lib.Pipeline.Launch
public import Idealize.ShloMosaic.Lib.Pipeline.Kit
public import Idealize.ShloMosaic.Lib.Tactic
public import Idealize.ShloMosaic.Lib.Release
public import Idealize.ShloMosaic.Lib.ValueLayout
public import Idealize.ShloMosaic.Lib.Pipeline.ValueKit
public import Idealize.ShloMosaic.Lib.Pipeline.TalkSites

@[expose] public section

set_option maxRecDepth 16384

noncomputable section

namespace Cert.Proto

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-! ## Memrefs -/

abbrev xM : Memref sig .tc .hbm S1x2048x2048 .f32 := Memref.whole main_arg0
abbrev rM : Memref sig .tc .hbm S2048x2048 .f32 := Memref.whole main_arg1
abbrev gM : Memref sig .tc .vmem S2048 .f32 := Memref.whole cc0_stg0_0
abbrev oM : Memref sig .tc .vmem S2048x2048 .f32 := Memref.whole cc0_stg1_0
abbrev aM : Memref sig .tc .vmem S256x2048 .f32 := Memref.whole cc0_scratch0
abbrev kM : Memref sig .tc .vmem S8x2x32x2048 .f32 := Memref.whole cc0_scratch1
abbrev sM : Memref sig .tc .vmem S4x256x2048 .f32 := Memref.whole cc0_scratch4
/-- The ring's landing buffer of direction d, -/
abbrev ringB : Fin 2 → Ref sig .tc := fun | 0 => cc0_scratch2 | 1 => cc0_scratch3
abbrev ringM : Fin 2 → Memref sig .tc .vmem S2x256x2048 .f32 := fun | 0 => Memref.whole cc0_scratch2 | 1 => Memref.whole cc0_scratch3
/-- and its semaphores. -/
abbrev sendS : Fin 2 → DmaSems sig S2x2 := fun | 0 => cc0_scratch7 | 1 => cc0_scratch9
abbrev recvS : Fin 2 → DmaSems sig S2x2 := fun | 0 => cc0_scratch8 | 1 => cc0_scratch10
abbrev credS : Fin 2 → Sems sig S_ := fun | 0 => cc0_scratch11 | 1 => cc0_scratch12
abbrev barS : Sem sig := (SemArray.scalar (d := ![]) (sig.barrier 0 rfl)).sem

/-! ## The cells -/

inductive Cell where
  | aS (s : Fin 8) (k : Fin 2)
  | aR (s : Fin 8) (k : Fin 2)
  | rS (d k j : Fin 2)
  | rR (d k j : Fin 2)
  | loc
  | st (i : Fin 4)
  | bar
  | cr (d : Fin 2)
  deriving DecidableEq, Fintype

def Cell.toSem : Cell → SemLoc sig
  | .aS s k => .dma (Fin.ofNat 55 (2 + 2 * s.val + k.val))
  | .aR s k => .dma (Fin.ofNat 55 (18 + 2 * s.val + k.val))
  | .rS d k j => .dma (Fin.ofNat 55 (34 + 8 * d.val + 2 * k.val + j.val))
  | .rR d k j => .dma (Fin.ofNat 55 (38 + 8 * d.val + 2 * k.val + j.val))
  | .loc => .dma (Fin.ofNat 55 50)
  | .st i => .dma (Fin.ofNat 55 (51 + i.val))
  | .bar => .reg (Fin.ofNat 3 2)
  | .cr d => .reg (Fin.ofNat 3 d.val)

theorem toSem_inj : Function.Injective Cell.toSem := by
  have h : ∀ a b : Cell, a.toSem = b.toSem → a = b := by decide +kernel
  exact fun a b => h a b

/-- The cell of device c. -/
abbrev cellAt (c : Dev nD) (cl : Cell) : GSem nD τ sig := ((c : Thread nD τ), cl.toSem)

theorem cellAt_inj {c c' : Dev nD} {cl cl' : Cell} (h : cellAt c cl = cellAt c' cl') : c = c' ∧ cl = cl' :=
  ⟨congrArg (fun g : GSem nD τ sig => g.1.1) h, toSem_inj (congrArg (fun g : GSem nD τ sig => g.2) h)⟩

theorem sem_at2 {n a b : ℕ} (base : ℕ) (h) (k0 k1 : ℕ) (hin) :
    ((((SemArray.consecutive (n := n) base ⟨2, ![a, b]⟩ h).slice (Rect.unit (s := ⟨2, ![a, b]⟩) ![k0, k1] S1x1.size hin)).squeeze S_ squeezes_S1x1_S_).sem).val
      = base + (k0 * b + k1) := by
  show base + ((⟨2, ![a, b]⟩ : Shape).rowMajor _).val = _
  rw [Shape.rowMajor_val_two]
  congr 1
  generalize Shape.reshapeEquiv _ _ = j
  have h0 : (j 0).val = 0 := Nat.lt_one_iff.mp (j 0).isLt
  have h1 : (j 1).val = 0 := Nat.lt_one_iff.mp (j 1).isLt
  have e0 := ValueKit.rect_emb_unit_val (s := ⟨2, ![a, b]⟩) ![k0, k1] S1x1.size hin j 0
  have e1 := ValueKit.rect_emb_unit_val (s := ⟨2, ![a, b]⟩) ![k0, k1] S1x1.size hin j 1
  show ((Rect.unit (s := ⟨2, ![a, b]⟩) ![k0, k1] S1x1.size hin).emb j 0).val * b + ((Rect.unit (s := ⟨2, ![a, b]⟩) ![k0, k1] S1x1.size hin).emb j 1).val = _
  rw [e0, e1, h0, h1]; rfl

theorem sem_at1 {n a : ℕ} (base : ℕ) (h) (k0 : ℕ) (hin) :
    ((((SemArray.consecutive (n := n) base ⟨1, ![a]⟩ h).slice (Rect.unit (s := ⟨1, ![a]⟩) ![k0] S1.size hin)).squeeze S_ squeezes_S1_S_).sem).val
      = base + k0 := by
  show base + ((⟨1, ![a]⟩ : Shape).rowMajor _).val = _
  rw [Shape.rowMajor_val_one]
  congr 1
  generalize Shape.reshapeEquiv _ _ = j
  have h0 : (j 0).val = 0 := Nat.lt_one_iff.mp (j 0).isLt
  have e0 := ValueKit.rect_emb_unit_val (s := ⟨1, ![a]⟩) ![k0] S1.size hin j 0
  show ((Rect.unit (s := ⟨1, ![a]⟩) ![k0] S1.size hin).emb j 0).val = _
  rw [e0, h0]; rfl

/-- The cells, as the kernel writes them. -/
theorem sem_aS (s : Fin 8) (k : Fin 2) (h) : SemLoc.dma ((cc0_scratch5.slice (Rect.unit (s := S8x2) ![s.val, k.val] S1x1.size h)).squeeze S_ squeezes_S1x1_S_).sem = (Cell.aS s k).toSem :=
  congrArg SemLoc.dma (Fin.ext ((sem_at2 (n := 55) (a := 8) (b := 2) 2 _ _ _ h).trans (by revert s k; decide)))
theorem sem_aR (s : Fin 8) (k : Fin 2) (h) : SemLoc.dma ((cc0_scratch6.slice (Rect.unit (s := S8x2) ![s.val, k.val] S1x1.size h)).squeeze S_ squeezes_S1x1_S_).sem = (Cell.aR s k).toSem :=
  congrArg SemLoc.dma (Fin.ext ((sem_at2 (n := 55) (a := 8) (b := 2) 18 _ _ _ h).trans (by revert s k; decide)))
theorem sem_rS (d k j : Fin 2) (h) : SemLoc.dma (((sendS d).slice (Rect.unit (s := S2x2) ![k.val, j.val] S1x1.size h)).squeeze S_ squeezes_S1x1_S_).sem = (Cell.rS d k j).toSem :=
  congrArg SemLoc.dma (Fin.ext (match d with
    | 0 => (sem_at2 (n := 55) (a := 2) (b := 2) 34 _ _ _ h).trans (by revert k j; decide)
    | 1 => (sem_at2 (n := 55) (a := 2) (b := 2) 42 _ _ _ h).trans (by revert k j; decide)))
theorem sem_rR (d k j : Fin 2) (h) : SemLoc.dma (((recvS d).slice (Rect.unit (s := S2x2) ![k.val, j.val] S1x1.size h)).squeeze S_ squeezes_S1x1_S_).sem = (Cell.rR d k j).toSem :=
  congrArg SemLoc.dma (Fin.ext (match d with
    | 0 => (sem_at2 (n := 55) (a := 2) (b := 2) 38 _ _ _ h).trans (by revert k j; decide)
    | 1 => (sem_at2 (n := 55) (a := 2) (b := 2) 46 _ _ _ h).trans (by revert k j; decide)))
theorem sem_at0 {n : ℕ} (base : ℕ) (h) : ((SemArray.consecutive (n := n) base S_ h).sem).val = base := by
  show base + (S_.rowMajor _).val = _
  have := (S_.rowMajor fun i => i.elim0).isLt
  have e : S_.numel = 1 := by decide
  omega
theorem sem_loc : SemLoc.dma cc0_scratch13.sem = Cell.loc.toSem := congrArg SemLoc.dma (Fin.ext (sem_at0 (n := 55) 50 _))
theorem sem_st (i : Fin 4) (h) : SemLoc.dma ((cc0_scratch14.slice (Rect.unit (s := S4) ![i.val] S1.size h)).squeeze S_ squeezes_S1_S_).sem = (Cell.st i).toSem :=
  congrArg SemLoc.dma (Fin.ext ((sem_at1 (n := 55) (a := 4) 51 _ _ h).trans (by revert i; decide)))
theorem sem_bar : SemLoc.reg barS = Cell.bar.toSem := by decide +kernel
theorem sem_cr (d : Fin 2) : SemLoc.reg (credS d).sem = (Cell.cr d).toSem :=
  congrArg SemLoc.reg (Fin.ext (match d with
    | 0 => (sem_at0 (n := 3) 0 _)
    | 1 => (sem_at0 (n := 3) 1 _)))

/-! ## Pieces of the buffers -/

/-- k rows from row lo on. -/
def rows {n m : ℕ} (lo k : ℕ) : Finset (⟨2, ![n, m]⟩ : Shape).Idx := Finset.univ.filter fun i => lo ≤ (i 0).val ∧ (i 0).val < lo + k
/-- Landing place s of phase k. -/
def blk (s k : ℕ) : Finset S8x2x32x2048.Idx := Finset.univ.filter fun i => (i 0).val = s ∧ (i 1).val = k
/-- Half j of ring slot k. -/
def half (k j : ℕ) : Finset S2x256x2048.Idx := Finset.univ.filter fun i => (i 0).val = k ∧ 128 * j ≤ (i 1).val ∧ (i 1).val < 128 * j + 128
/-- Ring slot k. -/
def slotS (k : ℕ) : Finset S2x256x2048.Idx := Finset.univ.filter fun i => (i 0).val = k
/-- Half staging plane. -/
def plane (i : ℕ) : Finset S4x256x2048.Idx := Finset.univ.filter fun x => (x 0).val = i

theorem rect_mem_unit {S : Shape} (off size : Fin S.rank → ℕ) (inb) (i : S.Idx) :
    i ∈ (Rect.unit (s := S) off size inb).set ↔ ∀ a, off a ≤ (i a).val ∧ (i a).val < off a + size a := by
  exact Rect.mem_set_unit

end Cert.Proto

end
-- ==== Proof.Pieces.lean ====
/-
  What the pieces hold, and what a copy, a load or a store does to a piece.
-/
module

public import proofs.«01_k».proof.Proof.Cells

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The keys of the credits: device, direction, number of the credit. -/
abbrev Key : Type := Dev nD × Fin 2 × Fin 3
abbrev UU : Type := UR sig nD τ × Rounds.URounds (GSem nD τ sig) (Fin 4) × Release.USlots Key

local notation "𝕄" => MT nD τ sig ℕ (Elt F) ℕ UU ℕ

/-! ## Contents, by row and column -/

abbrev El (F : FTy → Type) : Type := Elt F .f32

/-- Rows of a matrix, as rows from lo on; -/
def f2 {n k : ℕ} (lo : ℕ) (V : ℕ → ℕ → El F) : (⟨2, ![n, k]⟩ : Shape).Idx → El F := fun i => V ((i 0).val - lo) (i 1).val
/-- as the rows of every plane; -/
def f3 {a n k : ℕ} (V : ℕ → ℕ → El F) : (⟨3, ![a, n, k]⟩ : Shape).Idx → El F := fun i => V (i 1).val (i 2).val
/-- as eight bands of 32 rows. -/
def f4 (V : ℕ → ℕ → El F) : S8x2x32x2048.Idx → El F := fun i => V (32 * (i 0).val + (i 2).val) (i 3).val

abbrev bufL (c : Dev nD) (b : Ref sig .tc) : Loc nD τ sig := (c : Thread nD τ).loc b

def accP (c : Dev nD) (q : PosShare TreeShare) (lo k : ℕ) (V : ℕ → ℕ → El F) : sProp 𝕄 :=
  bufL c cc0_scratch0 ↦[(rows lo k : Finset S256x2048.Idx)]{q} (f2 0 V : S256x2048.Idx → El F)
def commP (c : Dev nD) (s k : ℕ) (V : ℕ → ℕ → El F) : sProp 𝕄 :=
  bufL c cc0_scratch1 ↦[blk s k]{fullShare} f4 V
def commAny (c : Dev nD) (s k : ℕ) : sProp 𝕄 := iprop(∃ f : Buf (Elt F) (bufL c cc0_scratch1), bufL c cc0_scratch1 ↦[blk s k]{fullShare} f)
def ringP (d : Fin 2) (c : Dev nD) (q : PosShare TreeShare) (k j : ℕ) (V : ℕ → ℕ → El F) : sProp 𝕄 :=
  match d with
  | 0 => bufL c cc0_scratch2 ↦[half k j]{q} (f3 V : S2x256x2048.Idx → El F)
  | 1 => bufL c cc0_scratch3 ↦[half k j]{q} (f3 V : S2x256x2048.Idx → El F)
def ringAny (d : Fin 2) (c : Dev nD) (k j : ℕ) : sProp 𝕄 :=
  match d with
  | 0 => Release.slot (bufL c cc0_scratch2) (half k j)
  | 1 => Release.slot (bufL c cc0_scratch3) (half k j)
def stP (c : Dev nD) (i : ℕ) (V : ℕ → ℕ → El F) : sProp 𝕄 :=
  bufL c cc0_scratch4 ↦[plane i]{fullShare} (f3 V : S4x256x2048.Idx → El F)
def outP (c : Dev nD) (q : PosShare TreeShare) (lo k : ℕ) (f : S2048x2048.Idx → El F) : sProp 𝕄 :=
  bufL c cc0_stg1_0 ↦[(rows lo k : Finset S2048x2048.Idx)]{q} f

instance (c q lo k V) : BI.Storable (upEmb : UEmb _ 𝕄) (accP (F := F) c q lo k V) := by unfold accP; infer_instance
instance (c s k V) : BI.Storable (upEmb : UEmb _ 𝕄) (commP (F := F) c s k V) := by unfold commP; infer_instance
instance (c s k) : BI.Storable (upEmb : UEmb _ 𝕄) (commAny (F := F) c s k) := by unfold commAny; infer_instance
instance (d c q k j V) : BI.Storable (upEmb : UEmb _ 𝕄) (ringP (F := F) d c q k j V) := by
  unfold ringP; match d with
  | 0 => infer_instance
  | 1 => infer_instance
instance (d c k j) : BI.Storable (upEmb : UEmb _ 𝕄) (ringAny (F := F) d c k j) := by
  unfold ringAny; match d with
  | 0 => infer_instance
  | 1 => infer_instance
instance (c i V) : BI.Storable (upEmb : UEmb _ 𝕄) (stP (F := F) c i V) := by unfold stP; infer_instance
instance (c q lo k f) : BI.Storable (upEmb : UEmb _ 𝕄) (outP (F := F) c q lo k f) := by unfold outP; infer_instance

/-! ## Writes and reads through a view -/

/-- A write of w through all of a view of 32-bit floats gives contents G on it if w is G's values in order. -/
theorem written {sp : Space} {s : Shape} (v : View sig .tc sp s .f32) (hv : v.ty.elt = .f32) (f G : v.ty.Contents (Elt F)) (w : s.Idx → El F)
    (h : ∀ j, w j = v.read (Elt F) G j) : ∀ i ∈ v.set, v.write (Elt F) f w Finset.univ i = G i := by
  intro i hi
  obtain ⟨j, -, rfl⟩ := Finset.mem_map.mp hi
  rw [View.write_emb_of_mem _ _ (Finset.mem_univ j), h, View.read_apply, cast_cast, cast_eq]

theorem pts_written (c : Dev nD) {sp : Space} {s : Shape} (v : View sig .tc sp s .f32) (hv : v.ty.elt = .f32) {q : PosShare TreeShare}
    (f G : v.ty.Contents (Elt F)) (w : s.Idx → El F) (h : ∀ j, w j = v.read (Elt F) G j) :
    ((v.loc (c : Thread nD τ) ↦[v.set]{q} v.write (Elt F) f w Finset.univ : sProp 𝕄)) = (v.loc (c : Thread nD τ) ↦[v.set]{q} G) :=
  pointsTo_congr (written v hv f G w h)

section Views
variable {n k : ℕ}

/-- The rectangle of the rows from lo on. -/
theorem rows_rect (sz : ℕ) (lo : ℕ) (h : ∀ a, ![lo, 0] a + (⟨2, ![sz, k]⟩ : Shape).size a ≤ (⟨2, ![n, k]⟩ : Shape).size a) :
    (Rect.unit (s := ⟨2, ![n, k]⟩) ![lo, 0] (⟨2, ![sz, k]⟩ : Shape).size h).set = rows lo sz := by
  ext i
  rw [rect_mem_unit]
  unfold rows
  rw [Finset.mem_filter]
  constructor
  · intro hi; exact ⟨Finset.mem_univ _, hi 0⟩
  · rintro ⟨-, hi⟩ a
    match a with
    | ⟨0, _⟩ => exact hi
    | ⟨1, _⟩ => exact ⟨Nat.zero_le _, by have := (i 1).isLt; show (i 1).val < 0 + k; rw [Nat.zero_add]; exact this⟩

theorem blk_rect (s q : ℕ) (h) :
    (Rect.unit (s := S8x2x32x2048) ![s, q, 0, 0] S1x1x32x2048.size h).set = blk s q := by
  ext i
  rw [rect_mem_unit]
  unfold blk
  rw [Finset.mem_filter]
  constructor
  · intro hi
    have h0 : s ≤ (i 0).val ∧ (i 0).val < s + 1 := hi 0
    have h1 : q ≤ (i 1).val ∧ (i 1).val < q + 1 := hi 1
    exact ⟨Finset.mem_univ _, by omega, by omega⟩
  · rintro ⟨-, h0, h1⟩ a
    have h2 : (i 2).val < 32 := (i 2).isLt
    have h3 : (i 3).val < 2048 := (i 3).isLt
    match a with
    | ⟨0, _⟩ => show s ≤ (i 0).val ∧ (i 0).val < s + 1; omega
    | ⟨1, _⟩ => show q ≤ (i 1).val ∧ (i 1).val < q + 1; omega
    | ⟨2, _⟩ => show 0 ≤ (i 2).val ∧ (i 2).val < 0 + 32; omega
    | ⟨3, _⟩ => show 0 ≤ (i 3).val ∧ (i 3).val < 0 + 2048; omega

theorem half_rect (q j : ℕ) (h) :
    (Rect.unit (s := S2x256x2048) ![q, 128 * j, 0] S1x128x2048.size h).set = half q j := by
  ext i
  rw [rect_mem_unit]
  unfold half
  rw [Finset.mem_filter]
  constructor
  · intro hi
    have h0 : q ≤ (i 0).val ∧ (i 0).val < q + 1 := hi 0
    have h1 : 128 * j ≤ (i 1).val ∧ (i 1).val < 128 * j + 128 := hi 1
    exact ⟨Finset.mem_univ _, by omega, by omega⟩
  · rintro ⟨-, h0, h1⟩ a
    have h2 : (i 2).val < 2048 := (i 2).isLt
    match a with
    | ⟨0, _⟩ => show q ≤ (i 0).val ∧ (i 0).val < q + 1; omega
    | ⟨1, _⟩ => show 128 * j ≤ (i 1).val ∧ (i 1).val < 128 * j + 128; omega
    | ⟨2, _⟩ => show 0 ≤ (i 2).val ∧ (i 2).val < 0 + 2048; omega

theorem slot_rect (q : ℕ) (h) :
    (Rect.unit (s := S2x256x2048) ![q, 0, 0] S1x256x2048.size h).set = slotS q := by
  ext i
  rw [rect_mem_unit]
  unfold slotS
  rw [Finset.mem_filter]
  constructor
  · intro hi
    have h0 : q ≤ (i 0).val ∧ (i 0).val < q + 1 := hi 0
    exact ⟨Finset.mem_univ _, by omega⟩
  · rintro ⟨-, h0⟩ a
    have h1 : (i 1).val < 256 := (i 1).isLt
    have h2 : (i 2).val < 2048 := (i 2).isLt
    match a with
    | ⟨0, _⟩ => show q ≤ (i 0).val ∧ (i 0).val < q + 1; omega
    | ⟨1, _⟩ => show 0 ≤ (i 1).val ∧ (i 1).val < 0 + 256; omega
    | ⟨2, _⟩ => show 0 ≤ (i 2).val ∧ (i 2).val < 0 + 2048; omega

theorem plane_rect (q : ℕ) (h) :
    (Rect.unit (s := S4x256x2048) ![q, 0, 0] S1x256x2048.size h).set = plane q := by
  ext i
  rw [rect_mem_unit]
  unfold plane
  rw [Finset.mem_filter]
  constructor
  · intro hi
    have h0 : q ≤ (i 0).val ∧ (i 0).val < q + 1 := hi 0
    exact ⟨Finset.mem_univ _, by omega⟩
  · rintro ⟨-, h0⟩ a
    have h1 : (i 1).val < 256 := (i 1).isLt
    have h2 : (i 2).val < 2048 := (i 2).isLt
    match a with
    | ⟨0, _⟩ => show q ≤ (i 0).val ∧ (i 0).val < q + 1; omega
    | ⟨1, _⟩ => show 0 ≤ (i 1).val ∧ (i 1).val < 0 + 256; omega
    | ⟨2, _⟩ => show 0 ≤ (i 2).val ∧ (i 2).val < 0 + 2048; omega

end Views

/-! ## The views the kernel uses: their elements, and what they read off the contents above -/

abbrev accV (lo : ℕ) (h : ∀ a, ![lo, 0] a + S32x2048.size a ≤ S256x2048.size a) : Memref sig .tc .vmem S32x2048 .f32 := aM.slice (Rect.unit (s := S256x2048) ![lo, 0] S32x2048.size h) (fun _ => rfl)
abbrev commV (s k : ℕ) (h : ∀ a, ![s, k, 0, 0] a + S1x1x32x2048.size a ≤ S8x2x32x2048.size a) : Memref sig .tc .vmem S32x2048 .f32 :=
  (kM.slice (Rect.unit (s := S8x2x32x2048) ![s, k, 0, 0] S1x1x32x2048.size h) (fun _ => rfl)).squeeze S32x2048 squeezes_S1x1x32x2048_S32x2048
abbrev outQ (lo : ℕ) (h : ∀ a, ![lo, 0] a + S32x2048.size a ≤ S2048x2048.size a) : Memref sig .tc .vmem S32x2048 .f32 := oM.slice (Rect.unit (s := S2048x2048) ![lo, 0] S32x2048.size h) (fun _ => rfl)
abbrev outH (lo : ℕ) (h : ∀ a, ![lo, 0] a + S128x2048.size a ≤ S2048x2048.size a) : Memref sig .tc .vmem S128x2048 .f32 := oM.slice (Rect.unit (s := S2048x2048) ![lo, 0] S128x2048.size h) (fun _ => rfl)
abbrev ringV (d : Fin 2) (k j : ℕ) (h : ∀ a, ![k, 128 * j, 0] a + S1x128x2048.size a ≤ S2x256x2048.size a) : Memref sig .tc .vmem S128x2048 .f32 :=
  ((ringM d).slice (Rect.unit (s := S2x256x2048) ![k, 128 * j, 0] S1x128x2048.size h) (fun _ => rfl)).squeeze S128x2048 squeezes_S1x128x2048_S128x2048
abbrev stV (i : ℕ) (h : ∀ a, ![i, 0, 0] a + S1x256x2048.size a ≤ S4x256x2048.size a) : Memref sig .tc .vmem S256x2048 .f32 :=
  (sM.slice (Rect.unit (s := S4x256x2048) ![i, 0, 0] S1x256x2048.size h) (fun _ => rfl)).squeeze S256x2048 squeezes_S1x256x2048_S256x2048
abbrev xV (lo : ℕ) (h : ∀ a, ![0, lo, 0] a + S1x256x2048.size a ≤ S1x2048x2048.size a) : Memref sig .tc .hbm S256x2048 .f32 :=
  (xM.slice (Rect.unit (s := S1x2048x2048) ![0, lo, 0] S1x256x2048.size h) (fun _ => rfl)).squeeze S256x2048 squeezes_S1x256x2048_S256x2048
abbrev resV (lo : ℕ) (h : ∀ a, ![lo, 0] a + S256x2048.size a ≤ S2048x2048.size a) : Memref sig .tc .hbm S256x2048 .f32 := rM.slice (Rect.unit (s := S2048x2048) ![lo, 0] S256x2048.size h) (fun _ => rfl)

theorem accV_set (lo : ℕ) (h : ∀ a, ![lo, 0] a + S32x2048.size a ≤ S256x2048.size a) : (accV lo h).view.set = rows lo 32 := (View.set_slice_whole _ _).trans (rows_rect 32 lo h)
theorem commV_set (s k : ℕ) (h : ∀ a, ![s, k, 0, 0] a + S1x1x32x2048.size a ≤ S8x2x32x2048.size a) : (commV s k h).view.set = blk s k := (View.set_reshape _ _).trans ((View.set_slice_whole _ _).trans (blk_rect s k h))
theorem outQ_set (lo : ℕ) (h : ∀ a, ![lo, 0] a + S32x2048.size a ≤ S2048x2048.size a) : (outQ lo h).view.set = rows lo 32 := (View.set_slice_whole _ _).trans (rows_rect 32 lo h)
theorem outH_set (lo : ℕ) (h : ∀ a, ![lo, 0] a + S128x2048.size a ≤ S2048x2048.size a) : (outH lo h).view.set = rows lo 128 := (View.set_slice_whole _ _).trans (rows_rect 128 lo h)
theorem stV_set (i : ℕ) (h : ∀ a, ![i, 0, 0] a + S1x256x2048.size a ≤ S4x256x2048.size a) : (stV i h).view.set = plane i := (View.set_reshape _ _).trans ((View.set_slice_whole _ _).trans (plane_rect i h))
theorem ringV_set0 (k j : ℕ) (h : ∀ a, ![k, 128 * j, 0] a + S1x128x2048.size a ≤ S2x256x2048.size a) : (ringV 0 k j h).view.set = half k j := (View.set_reshape _ _).trans ((View.set_slice_whole _ _).trans (half_rect k j h))
theorem ringV_set1 (k j : ℕ) (h : ∀ a, ![k, 128 * j, 0] a + S1x128x2048.size a ≤ S2x256x2048.size a) : (ringV 1 k j h).view.set = half k j := (View.set_reshape _ _).trans ((View.set_slice_whole _ _).trans (half_rect k j h))

theorem accV_read (lo : ℕ) (h) (V : ℕ → ℕ → El F) (j : S32x2048.Idx) :
    (accV lo h).view.read (Elt F) (f2 0 V : S256x2048.Idx → El F) j = V (lo + (j 0).val) (j 1).val := by
  rw [View.read_apply, cast_eq]
  have e0 := ValueKit.view_emb_slice_whole_unit_val cc0_scratch0 ![lo, 0] S32x2048.size h j 0
  have e1 := ValueKit.view_emb_slice_whole_unit_val cc0_scratch0 ![lo, 0] S32x2048.size h j 1
  show V (_ - 0) _ = _
  exact congrArg₂ V (e0.trans rfl) (e1.trans (Nat.zero_add _))

theorem outQ_read (lo lo0 : ℕ) (h) (V : ℕ → ℕ → El F) (j : S32x2048.Idx) :
    (outQ lo h).view.read (Elt F) (f2 lo0 V : S2048x2048.Idx → El F) j = V (lo + (j 0).val - lo0) (j 1).val := by
  rw [View.read_apply, cast_eq]
  have e0 := ValueKit.view_emb_slice_whole_unit_val cc0_stg1_0 ![lo, 0] S32x2048.size h j 0
  have e1 := ValueKit.view_emb_slice_whole_unit_val cc0_stg1_0 ![lo, 0] S32x2048.size h j 1
  exact congrArg₂ V (congrArg (· - lo0) e0) (e1.trans (Nat.zero_add _))

theorem outH_read (lo lo0 : ℕ) (h) (V : ℕ → ℕ → El F) (j : S128x2048.Idx) :
    (outH lo h).view.read (Elt F) (f2 lo0 V : S2048x2048.Idx → El F) j = V (lo + (j 0).val - lo0) (j 1).val := by
  rw [View.read_apply, cast_eq]
  have e0 := ValueKit.view_emb_slice_whole_unit_val cc0_stg1_0 ![lo, 0] S128x2048.size h j 0
  have e1 := ValueKit.view_emb_slice_whole_unit_val cc0_stg1_0 ![lo, 0] S128x2048.size h j 1
  exact congrArg₂ V (congrArg (· - lo0) e0) (e1.trans (Nat.zero_add _))

/-- A load of rows of the accumulator. -/
theorem accL_read (lo : ℕ) (h : ∀ a, ![lo, 0] a + S32x2048.size a ≤ S256x2048.size a) (V : ℕ → ℕ → El F) (j : S32x2048.Idx) :
    aM.view.readAt (Elt F) (Rect.unit (s := S256x2048) ![lo, 0] S32x2048.size h).toLoadRect (f2 0 V : S256x2048.Idx → El F) j = V (lo + (j 0).val) (j 1).val :=
  accV_read lo h V j

/-- A load of a landing place. -/
theorem commL_read (s k : ℕ) (h : ∀ a, ![s, k, 0, 0] a + S1x1x32x2048.size a ≤ S8x2x32x2048.size a) (V : ℕ → ℕ → El F) (j : S1x1x32x2048.Idx) :
    kM.view.readAt (Elt F) (Rect.unit (s := S8x2x32x2048) ![s, k, 0, 0] S1x1x32x2048.size h).toLoadRect (f4 V) j = V (32 * s + (j 2).val) (j 3).val := by
  show ((View.whole cc0_scratch1).slice (Rect.unit (s := S8x2x32x2048) ![s, k, 0, 0] S1x1x32x2048.size h)).read (Elt F) (f4 V) j = _
  rw [View.read_apply, cast_eq]
  have e0 := ValueKit.view_emb_slice_whole_unit_val cc0_scratch1 ![s, k, 0, 0] S1x1x32x2048.size h j 0
  have e2 := ValueKit.view_emb_slice_whole_unit_val cc0_scratch1 ![s, k, 0, 0] S1x1x32x2048.size h j 2
  have e3 := ValueKit.view_emb_slice_whole_unit_val cc0_scratch1 ![s, k, 0, 0] S1x1x32x2048.size h j 3
  have j0 : (j 0).val = 0 := Nat.lt_one_iff.mp (j 0).isLt
  have e0' := e0.trans (show s + (j 0).val = s by rw [j0]; rfl)
  exact congrArg₂ V (congrArg₂ (fun x y => 32 * x + y) e0' (e2.trans (Nat.zero_add _))) (e3.trans (Nat.zero_add _))

theorem commV_read (s k : ℕ) (h) (V : ℕ → ℕ → El F) (j : S32x2048.Idx) :
    (commV s k h).view.read (Elt F) (f4 V) j = V (32 * s + (j 0).val) (j 1).val := by
  have := commL_read s k h V (ix4 (⟨0, Nat.one_pos⟩ : Fin 1) (⟨0, Nat.one_pos⟩ : Fin 1) (j 0) (j 1))
  rw [eq_ix2 j]
  exact (congrArg (((View.whole cc0_scratch1).slice (Rect.unit (s := S8x2x32x2048) ![s, k, 0, 0] S1x1x32x2048.size h)).read (Elt F) (f4 V)) (reshapeEquiv_ix2_11ab _ _ _)).trans this

/-- A load of a ring slot, or of rows of one. -/
theorem ringL_read0 (k lo : ℕ) (sz : ℕ) (h : ∀ a, ![k, lo, 0] a + (⟨3, ![1, sz, 2048]⟩ : Shape).size a ≤ S2x256x2048.size a) (V : ℕ → ℕ → El F) (j : (⟨3, ![1, sz, 2048]⟩ : Shape).Idx) :
    (ringM 0).view.readAt (Elt F) (Rect.unit (s := S2x256x2048) ![k, lo, 0] (⟨3, ![1, sz, 2048]⟩ : Shape).size h).toLoadRect (f3 V : S2x256x2048.Idx → El F) j = V (lo + (j 1).val) (j 2).val := by
  show ((View.whole cc0_scratch2).slice (Rect.unit (s := S2x256x2048) ![k, lo, 0] (⟨3, ![1, sz, 2048]⟩ : Shape).size h)).read (Elt F) (f3 V : S2x256x2048.Idx → El F) j = _
  rw [View.read_apply, cast_eq]
  have e1 := ValueKit.view_emb_slice_whole_unit_val cc0_scratch2 ![k, lo, 0] (⟨3, ![1, sz, 2048]⟩ : Shape).size h j 1
  have e2 := ValueKit.view_emb_slice_whole_unit_val cc0_scratch2 ![k, lo, 0] (⟨3, ![1, sz, 2048]⟩ : Shape).size h j 2
  exact congrArg₂ V e1 (e2.trans (Nat.zero_add _))
theorem ringL_read1 (k lo : ℕ) (sz : ℕ) (h : ∀ a, ![k, lo, 0] a + (⟨3, ![1, sz, 2048]⟩ : Shape).size a ≤ S2x256x2048.size a) (V : ℕ → ℕ → El F) (j : (⟨3, ![1, sz, 2048]⟩ : Shape).Idx) :
    (ringM 1).view.readAt (Elt F) (Rect.unit (s := S2x256x2048) ![k, lo, 0] (⟨3, ![1, sz, 2048]⟩ : Shape).size h).toLoadRect (f3 V : S2x256x2048.Idx → El F) j = V (lo + (j 1).val) (j 2).val := by
  show ((View.whole cc0_scratch3).slice (Rect.unit (s := S2x256x2048) ![k, lo, 0] (⟨3, ![1, sz, 2048]⟩ : Shape).size h)).read (Elt F) (f3 V : S2x256x2048.Idx → El F) j = _
  rw [View.read_apply, cast_eq]
  have e1 := ValueKit.view_emb_slice_whole_unit_val cc0_scratch3 ![k, lo, 0] (⟨3, ![1, sz, 2048]⟩ : Shape).size h j 1
  have e2 := ValueKit.view_emb_slice_whole_unit_val cc0_scratch3 ![k, lo, 0] (⟨3, ![1, sz, 2048]⟩ : Shape).size h j 2
  exact congrArg₂ V e1 (e2.trans (Nat.zero_add _))

theorem ringV_read0 (k j : ℕ) (h) (V : ℕ → ℕ → El F) (y : S128x2048.Idx) :
    (ringV 0 k j h).view.read (Elt F) (f3 V : S2x256x2048.Idx → El F) y = V (128 * j + (y 0).val) (y 1).val := by
  have := ringL_read0 (F := F) k (128 * j) 128 h V (ix3 (⟨0, Nat.one_pos⟩ : Fin 1) (y 0) (y 1))
  rw [eq_ix2 y]
  exact (congrArg (((View.whole cc0_scratch2).slice (Rect.unit (s := S2x256x2048) ![k, 128 * j, 0] S1x128x2048.size h)).read (Elt F) (f3 V : S2x256x2048.Idx → El F)) (reshapeEquiv_ix2_1ab _ _ _)).trans this
theorem ringV_read1 (k j : ℕ) (h) (V : ℕ → ℕ → El F) (y : S128x2048.Idx) :
    (ringV 1 k j h).view.read (Elt F) (f3 V : S2x256x2048.Idx → El F) y = V (128 * j + (y 0).val) (y 1).val := by
  have := ringL_read1 (F := F) k (128 * j) 128 h V (ix3 (⟨0, Nat.one_pos⟩ : Fin 1) (y 0) (y 1))
  rw [eq_ix2 y]
  exact (congrArg (((View.whole cc0_scratch3).slice (Rect.unit (s := S2x256x2048) ![k, 128 * j, 0] S1x128x2048.size h)).read (Elt F) (f3 V : S2x256x2048.Idx → El F)) (reshapeEquiv_ix2_1ab _ _ _)).trans this

/-- A load of a staging plane, or of rows of one. -/
theorem stL_read (i lo sz : ℕ) (h : ∀ a, ![i, lo, 0] a + (⟨3, ![1, sz, 2048]⟩ : Shape).size a ≤ S4x256x2048.size a) (V : ℕ → ℕ → El F) (j : (⟨3, ![1, sz, 2048]⟩ : Shape).Idx) :
    sM.view.readAt (Elt F) (Rect.unit (s := S4x256x2048) ![i, lo, 0] (⟨3, ![1, sz, 2048]⟩ : Shape).size h).toLoadRect (f3 V : S4x256x2048.Idx → El F) j = V (lo + (j 1).val) (j 2).val := by
  show ((View.whole cc0_scratch4).slice (Rect.unit (s := S4x256x2048) ![i, lo, 0] (⟨3, ![1, sz, 2048]⟩ : Shape).size h)).read (Elt F) (f3 V : S4x256x2048.Idx → El F) j = _
  rw [View.read_apply, cast_eq]
  have e1 := ValueKit.view_emb_slice_whole_unit_val cc0_scratch4 ![i, lo, 0] (⟨3, ![1, sz, 2048]⟩ : Shape).size h j 1
  have e2 := ValueKit.view_emb_slice_whole_unit_val cc0_scratch4 ![i, lo, 0] (⟨3, ![1, sz, 2048]⟩ : Shape).size h j 2
  exact congrArg₂ V e1 (e2.trans (Nat.zero_add _))
theorem stV_read (i : ℕ) (h) (V : ℕ → ℕ → El F) (y : S256x2048.Idx) :
    (stV i h).view.read (Elt F) (f3 V : S4x256x2048.Idx → El F) y = V (y 0).val (y 1).val := by
  have := stL_read (F := F) i 0 256 h V (ix3 (⟨0, Nat.one_pos⟩ : Fin 1) (y 0) (y 1))
  rw [Nat.zero_add] at this
  rw [eq_ix2 y]
  exact (congrArg (((View.whole cc0_scratch4).slice (Rect.unit (s := S4x256x2048) ![i, 0, 0] S1x256x2048.size h)).read (Elt F) (f3 V : S4x256x2048.Idx → El F)) (reshapeEquiv_ix2_1ab _ _ _)).trans this

/-- A piece of the inputs. -/
theorem xV_read (lo : ℕ) (h) (f : S1x2048x2048.Idx → El F) (y : S256x2048.Idx) (hlo : lo + 256 ≤ 2048) :
    (xV lo h).view.read (Elt F) f y = f (ix3 0 (Fin.ofNat 2048 (lo + (y 0).val)) (Fin.ofNat 2048 (y 1).val)) := by
  rw [eq_ix2 y]
  refine (congrArg (((View.whole main_arg0).slice (Rect.unit (s := S1x2048x2048) ![0, lo, 0] S1x256x2048.size h)).read (Elt F) f) (reshapeEquiv_ix2_1ab _ _ _)).trans ?_
  rw [View.read_apply, cast_eq]
  refine congrArg f ?_
  have y0 : (y 0).val < 256 := (y 0).isLt
  have y1 : (y 1).val < 2048 := (y 1).isLt
  funext a
  refine Fin.ext ((ValueKit.view_emb_slice_whole_unit_val main_arg0 ![0, lo, 0] S1x256x2048.size h _ a).trans ?_)
  match a with
  | ⟨0, _⟩ => rfl
  | ⟨1, _⟩ => exact (Nat.mod_eq_of_lt (show lo + (y 0).val < 2048 by omega)).symm
  | ⟨2, _⟩ => exact (Nat.zero_add _).trans (Nat.mod_eq_of_lt y1).symm
theorem resV_read (lo : ℕ) (h) (f : S2048x2048.Idx → El F) (y : S256x2048.Idx) (hlo : lo + 256 ≤ 2048) :
    (resV lo h).view.read (Elt F) f y = f (ix2 (Fin.ofNat 2048 (lo + (y 0).val)) (Fin.ofNat 2048 (y 1).val)) := by
  rw [View.read_apply, cast_eq]
  refine congrArg f ?_
  have y0 : (y 0).val < 256 := (y 0).isLt
  have y1 : (y 1).val < 2048 := (y 1).isLt
  funext a
  refine Fin.ext ((ValueKit.view_emb_slice_whole_unit_val main_arg1 ![lo, 0] S256x2048.size h _ a).trans ?_)
  match a with
  | ⟨0, _⟩ => exact (Nat.mod_eq_of_lt (show lo + (y 0).val < 2048 by omega)).symm
  | ⟨1, _⟩ => exact (Nat.zero_add _).trans (Nat.mod_eq_of_lt y1).symm

/-! ## What has landed -/

section Landed
variable (c : Dev nD)

theorem comm_landed (s k : ℕ) (h) (fd : Buf (Elt F) (bufL c cc0_scratch1)) (w : S32x2048.Idx → El F) (V : ℕ → ℕ → El F)
    (hw : ∀ y, w y = V (32 * s + (y 0).val) (y 1).val) :
    ((commV s k h).view.loc (c : Thread nD τ) ↦[(commV s k h).view.set]{fullShare} (commV s k h).view.write (Elt F) fd w Finset.univ : sProp 𝕄) = commP c s k V := by
  refine (pts_written c (commV s k h).view rfl fd (f4 V) w fun y => (hw y).trans (commV_read s k h V y).symm).trans ?_
  unfold commP; rw [commV_set]

theorem ring_landed0 (k j : ℕ) (h) (fd : Buf (Elt F) (bufL c cc0_scratch2)) (w : S128x2048.Idx → El F) (V : ℕ → ℕ → El F)
    (hw : ∀ y, w y = V (128 * j + (y 0).val) (y 1).val) :
    ((ringV 0 k j h).view.loc (c : Thread nD τ) ↦[(ringV 0 k j h).view.set]{fullShare} (ringV 0 k j h).view.write (Elt F) fd w Finset.univ : sProp 𝕄) = ringP 0 c fullShare k j V := by
  refine (pts_written c (ringV 0 k j h).view rfl fd (f3 V : S2x256x2048.Idx → El F) w fun y => (hw y).trans (ringV_read0 k j h V y).symm).trans ?_
  unfold ringP; rw [ringV_set0]
theorem ring_landed1 (k j : ℕ) (h) (fd : Buf (Elt F) (bufL c cc0_scratch3)) (w : S128x2048.Idx → El F) (V : ℕ → ℕ → El F)
    (hw : ∀ y, w y = V (128 * j + (y 0).val) (y 1).val) :
    ((ringV 1 k j h).view.loc (c : Thread nD τ) ↦[(ringV 1 k j h).view.set]{fullShare} (ringV 1 k j h).view.write (Elt F) fd w Finset.univ : sProp 𝕄) = ringP 1 c fullShare k j V := by
  refine (pts_written c (ringV 1 k j h).view rfl fd (f3 V : S2x256x2048.Idx → El F) w fun y => (hw y).trans (ringV_read1 k j h V y).symm).trans ?_
  unfold ringP; rw [ringV_set1]

theorem st_landed (i : ℕ) (h) (fd : Buf (Elt F) (bufL c cc0_scratch4)) (w : S256x2048.Idx → El F) (V : ℕ → ℕ → El F)
    (hw : ∀ y, w y = V (y 0).val (y 1).val) :
    ((stV i h).view.loc (c : Thread nD τ) ↦[(stV i h).view.set]{fullShare} (stV i h).view.write (Elt F) fd w Finset.univ : sProp 𝕄) = stP c i V := by
  refine (pts_written c (stV i h).view rfl fd (f3 V : S4x256x2048.Idx → El F) w fun y => (hw y).trans (stV_read i h V y).symm).trans ?_
  unfold stP; rw [stV_set]

theorem rows_all {n k : ℕ} : (rows 0 n : Finset (⟨2, ![n, k]⟩ : Shape).Idx) = Finset.univ := by
  ext i; unfold rows; simp only [Finset.mem_filter, Finset.mem_univ, true_and, iff_true]
  have : (i 0).val < n := (i 0).isLt
  omega

theorem acc_landed (fd : Buf (Elt F) (bufL c cc0_scratch0)) (w : S256x2048.Idx → El F) (V : ℕ → ℕ → El F)
    (hw : ∀ y, w y = V (y 0).val (y 1).val) :
    (aM.view.loc (c : Thread nD τ) ↦[aM.view.set]{fullShare} aM.view.write (Elt F) fd w Finset.univ : sProp 𝕄) = accP c fullShare 0 256 V := by
  unfold accP
  rw [show (aM.view.set : Finset S256x2048.Idx) = rows 0 256 from (View.set_whole _).trans rows_all.symm,
    show aM.view.write (Elt F) fd w Finset.univ = w from View.write_whole_univ _ _ _]
  exact pointsTo_congr fun i _ => hw i

/-- A store to rows of the accumulator; -/
theorem acc_stored (lo : ℕ) (h : ∀ a, ![lo, 0] a + S32x2048.size a ≤ S256x2048.size a) (fd : Buf (Elt F) (bufL c cc0_scratch0)) (w : S32x2048.Idx → El F) (V : ℕ → ℕ → El F)
    (hw : ∀ y, w y = V (lo + (y 0).val) (y 1).val) :
    (bufL c cc0_scratch0 ↦[(rows lo 32 : Finset S256x2048.Idx)]{fullShare} (aM.access (Rect.unit (s := S256x2048) ![lo, 0] S32x2048.size h)).write (Elt F) fd w Finset.univ : sProp 𝕄) = accP c fullShare lo 32 V := by
  rw [← accV_set lo h]
  refine (pts_written c (accV lo h).view rfl fd (f2 0 V : S256x2048.Idx → El F) w fun y => (hw y).trans (accV_read lo h V y).symm).trans ?_
  unfold accP; rw [accV_set]
/-- to rows of the result. -/
theorem out_stored (sz lo lo0 : ℕ) (h : ∀ a, ![lo, 0] a + (⟨2, ![sz, 2048]⟩ : Shape).size a ≤ S2048x2048.size a) (fd : Buf (Elt F) (bufL c cc0_stg1_0)) (w : (⟨2, ![sz, 2048]⟩ : Shape).Idx → El F) (V : ℕ → ℕ → El F)
    (hw : ∀ y, w y = V (lo + (y 0).val - lo0) (y 1).val) :
    (bufL c cc0_stg1_0 ↦[(rows lo sz : Finset S2048x2048.Idx)]{fullShare} (oM.access (Rect.unit (s := S2048x2048) ![lo, 0] (⟨2, ![sz, 2048]⟩ : Shape).size h)).write (Elt F) fd w Finset.univ : sProp 𝕄)
      = outP c fullShare lo sz (f2 lo0 V) := by
  have hset : ((View.whole cc0_stg1_0).slice (Rect.unit (s := S2048x2048) ![lo, 0] (⟨2, ![sz, 2048]⟩ : Shape).size h)).set = rows lo sz :=
    (View.set_slice_whole _ _).trans (rows_rect sz lo h)
  rw [← hset]
  refine (pts_written c ((View.whole cc0_stg1_0).slice (Rect.unit (s := S2048x2048) ![lo, 0] (⟨2, ![sz, 2048]⟩ : Shape).size h)) rfl fd (f2 lo0 V : S2048x2048.Idx → El F) w fun y => (hw y).trans ?_).trans ?_
  · rw [View.read_apply, cast_eq]
    have e0 := ValueKit.view_emb_slice_whole_unit_val cc0_stg1_0 ![lo, 0] (⟨2, ![sz, 2048]⟩ : Shape).size h y 0
    have e1 := ValueKit.view_emb_slice_whole_unit_val cc0_stg1_0 ![lo, 0] (⟨2, ![sz, 2048]⟩ : Shape).size h y 1
    exact (congrArg₂ V (congrArg (· - lo0) e0) (e1.trans (Nat.zero_add _))).symm
  · unfold outP; rw [hset]

end Landed

end Cert.Proto

end
-- ==== Proof.Schedule.lean ====
/-
  The schedule: for every semaphore cell, by round, who contributes how many units and what comes with them; what a
  device owes, in program order, and the levels that order the waits.

  In rounds r, per cell of device c (X: a device's own piece of its partial sum, A: the sum over it and its partner,
  S: the sum over all four devices along z):
    aS s 0   an edge device's piece s has been sent to its partner.          aR s 0  a middle device has got its partner's X.
    aS s 1   round 0: A has been sent to the other middle device; round 1: S to the partner.
    aR s 1   a middle device has got the other's A, an edge device its partner's S.
    rS d k j / rR d k j   half j of the ring's hop 2 r + k in direction d has left / has arrived.
    loc, st i             the copies into the accumulator and into staging plane i.
    bar      everyone who writes into a buffer of the signalling device gets the places it will write.
    cr d     the ring neighbour in direction d has freed landing places for another write.
-/
module

public import Idealize.ShloMosaic.Lib.Pipeline.TalkSites
public import proofs.«01_k».proof.Proof.Pieces

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

abbrev URo : Type := Rounds.URounds (GSem nD τ sig) (Fin 4)
abbrev USl : Type := Release.USlots Key

abbrev EP : Emb (UR sig nD τ) (MT nD τ sig ℕ (Elt F) ℕ UU ℕ) := embL
def ER : Emb URo (MT nD τ sig ℕ (Elt F) ℕ UU ℕ) :=
  ((Emb.inl : Emb URo (URo × USl)).trans (Emb.inr : Emb (URo × USl) UU)).trans
    (uEmb (nD := nD) (sig := sig) (Ix := ℕ) (Val := Elt F) (Name := ℕ) (U := UU) (Lvl := ℕ)).toEmb
instance ER_landsIn : (ER : Emb URo 𝕄).LandsIn (upEmb : UEmb _ 𝕄) := by unfold ER; infer_instance
def ES : Emb USl (MT nD τ sig ℕ (Elt F) ℕ UU ℕ) :=
  ((Emb.inr : Emb USl (URo × USl)).trans (Emb.inr : Emb (URo × USl) UU)).trans
    (uEmb (nD := nD) (sig := sig) (Ix := ℕ) (Val := Elt F) (Name := ℕ) (U := UU) (Lvl := ℕ)).toEmb
instance ES_landsIn : (ES : Emb USl 𝕄).LandsIn (upEmb : UEmb _ 𝕄) := by unfold ES; infer_instance

variable (m : (ℓ : Loc nD τ sig) → Buf (Elt F) ℓ) (ρ : Dev nD → PrngReg)

/-! ## The values -/

/-- A device's own piece of its partial sum; -/
def X (c : Dev nD) : ℕ → ℕ → El F := fun r l =>
  (m (bufL c main_arg0) : S1x2048x2048.Idx → El F) (ix3 0 (Fin.ofNat 2048 (row0 (pos c) + r)) (Fin.ofNat 2048 l))
/-- its and its partner's, summed; -/
def A (c : Dev nD) : ℕ → ℕ → El F := fun r l => FloatOps.addf (F := F) (φ := .f32) (X m c r l) (X m (par c) r l)
/-- a middle device's sum over all four; -/
def SM (c : Dev nD) : ℕ → ℕ → El F := fun r l => FloatOps.addf (F := F) (φ := .f32) (A m c r l) (A m (opp c) r l)
/-- any device's: an edge device has its partner's. -/
def S (c : Dev nD) : ℕ → ℕ → El F := if isMid c = true then SM m c else SM m (par c)
/-- Piece p of the residual. -/
def R (c : Dev nD) (p : ℕ) : ℕ → ℕ → El F := fun r l =>
  (m (bufL c main_arg1) : S2048x2048.Idx → El F) (ix2 (Fin.ofNat 2048 (row0 p + r)) (Fin.ofNat 2048 l))

omit [FloatOps F] in
theorem S_mid [FloatOps F] {c : Dev nD} (h : isMid c = true) : S m c = SM m c := if_pos h
theorem S_edge {c : Dev nD} (h : isMid c = false) : S m c = S m (par c) := by
  unfold S; rw [if_neg (by rw [h]; decide), if_pos (par_edge h)]

/-! ## Shares of a device's own rows of the result: for the partner, and for the two directions of the ring -/

abbrev qF : PosShare TreeShare := fullShare.left
abbrev qR : Fin 2 → PosShare TreeShare := fun | 0 => fullShare.right.left | 1 => fullShare.right.right

/-! ## The schedule -/

/-- The place and half of the landing place that credit i of direction d frees. -/
def keyK (i : Fin 3) : Fin 2 := if i = 2 then 1 else 0
def keyJ (d : Fin 2) (i : Fin 3) : Fin 2 := if i = 0 then 0 else if i = 1 then 1 else d

/-- The neighbour in direction d has freed landing place i once, and its arrival semaphore counts the second round. -/
def freed (d : Fin 2) (c : Dev nD) (i : Fin 3) : sProp 𝕄 :=
  iprop(Release.released ES (nxt d c, d, i) 1 ∗ reached ER (cellAt (nxt d c) (.rR d (keyK i) (keyJ d i))) 1)

instance (d c i) : BI.Persistent (freed (F := F) d c i) := by unfold freed; infer_instance
instance (d c i) : BI.Storable (upEmb : UEmb _ 𝕄) (freed (F := F) d c i) := by unfold freed; infer_instance

def freedTo (d : Fin 2) (c : Dev nD) (t : ℕ) : sProp 𝕄 := bigSep (Finset.univ.filter fun i : Fin 3 => i.val ≤ t) (freed (F := F) d c)

instance (d c t) : BI.Persistent (freedTo (F := F) d c t) := by unfold freedTo; infer_instance
instance (d c t) : BI.Storable (upEmb : UEmb _ 𝕄) (freedTo (F := F) d c t) := by unfold freedTo; infer_instance

/-- All landing places of one phase on a device; all of its ring landing places of a direction. -/
def commAll (c : Dev nD) (k : ℕ) : sProp 𝕄 := bigSep Finset.univ fun s : Fin 8 => commAny (F := F) c s.val k
def ringAll (d : Fin 2) (c : Dev nD) : sProp 𝕄 := bigSep Finset.univ fun k : Fin 2 => bigSep Finset.univ fun j : Fin 2 => ringAny (F := F) d c k.val j.val

instance (c k) : BI.Storable (upEmb : UEmb _ 𝕄) (commAll (F := F) c k) := by unfold commAll; infer_instance
instance (d c) : BI.Storable (upEmb : UEmb _ 𝕄) (ringAll (F := F) d c) := by unfold ringAll; infer_instance

def dutC (c : Dev nD) : Cell → ℕ → Finset (Fin 4)
  | .aS _ k, r => if k = 0 then (if isMid c = false ∧ r = 0 then {0} else ∅) else (if isMid c = true ∧ r < 2 then {0} else ∅)
  | .aR _ k, r => if k = 0 then (if isMid c = true ∧ r = 0 then {0} else ∅) else (if r = 0 then (if isMid c = true then {0} else {1}) else ∅)
  | .rS d k j, r => if r = 0 ∨ (r = 1 ∧ (k = 0 ∨ j = d)) then {0} else ∅
  | .rR d k j, r => if r = 0 ∨ (r = 1 ∧ (k = 0 ∨ j = d)) then {0} else ∅
  | .loc, r => if r = 0 then {0} else ∅
  | .st _, r => if r < 2 then {0} else ∅
  | .bar, r => if r = 0 then (if isMid c = true then {0, 1, 2, 3} else {0, 1, 2}) else ∅
  | .cr _, r => if r = 0 then {0, 1, 2} else ∅

def NQ : ℕ := (accV 0 (by decide)).view.dmaCredit
def NH : ℕ := (outH 0 (by decide)).view.dmaCredit
def NP : ℕ := aM.view.dmaCredit

theorem NQ_pos : 0 < NQ := (accV 0 (by decide)).view.dmaCredit_pos (Shape.numel_pos (by decide))
theorem NH_pos : 0 < NH := (outH 0 (by decide)).view.dmaCredit_pos (Shape.numel_pos (by decide))
theorem NP_pos : 0 < NP := aM.view.dmaCredit_pos (Shape.numel_pos (by decide))

theorem NQ_acc (lo h) : (accV lo h).view.dmaCredit = NQ := rfl
theorem NQ_out (lo h) : (outQ lo h).view.dmaCredit = NQ := rfl
theorem NQ_comm (s k h) : (commV s k h).view.dmaCredit = NQ := rfl
theorem NH_out (lo h) : (outH lo h).view.dmaCredit = NH := rfl
theorem NH_ring : ∀ (d : Fin 2) (k j h), (ringV d k j h).view.dmaCredit = NH
  | 0, _, _, _ => rfl
  | 1, _, _, _ => rfl
theorem NP_st (i h) : (stV i h).view.dmaCredit = NP := rfl

def amtC : Cell → ℕ
  | .aS _ _ => NQ
  | .aR _ _ => NQ
  | .rS _ _ _ => NH
  | .rR _ _ _ => NH
  | .loc => NP
  | .st _ => NP
  | .bar => 1
  | .cr _ => 1

theorem amtC_pos (cl : Cell) : 0 < amtC cl := by
  cases cl
  · exact NQ_pos
  · exact NQ_pos
  · exact NH_pos
  · exact NH_pos
  · exact NP_pos
  · exact NP_pos
  · exact Nat.one_pos
  · exact Nat.one_pos

/-- The piece of the residual that staging plane i holds, counted from the device's place. -/
def stPiece : Fin 4 → ℕ → ℕ
  | 0, 0 => 7 | 0, _ => 2
  | 1, 0 => 1 | 1, _ => 5
  | 2, 0 => 0 | 2, _ => 3
  | 3, 0 => 6 | 3, _ => 4

def payC (c : Dev nD) : Cell → ℕ → Fin 4 → sProp 𝕄
  | .aS s k, r, _ => if k = 0 then accP c fullShare (32 * s.val) 32 (X m c)
      else if r = 0 then accP c fullShare (32 * s.val) 32 (A m c)
      else outP c qF (row0 (pos c) + 32 * s.val) 32 (f2 (row0 (pos c)) (S m c))
  | .aR s k, _, _ => if k = 0 then commP c s.val 0 (X m (par c)) else commP c s.val 1 (if isMid c = true then A m (opp c) else S m c)
  | .rS d k j, r, _ => if 2 * r + k.val = 0 then outP c (qR d) (row0 (pos c) + 128 * j.val) 128 (f2 (row0 (pos c)) (S m c))
      else ringP d c fullShare.left ((2 * r + k.val + 1) % 2) j.val (S m (back d c (2 * r + k.val)))
  | .rR d k j, r, _ => ringP d c fullShare k.val j.val (S m (back d c (2 * r + k.val + 1)))
  | .loc, _, _ => accP c fullShare 0 256 (X m c)
  | .st i, r, _ => stP c i.val (R m c (pos c + stPiece i r))
  | .bar, _, t => if t = 0 then commAll (par c) (if isMid c = true then 1 else 0) else if t = 1 then ringAll 0 (nxt 0 c)
      else if t = 2 then ringAll 1 (nxt 1 c) else commAll (opp c) 1
  | .cr d, _, t => freedTo d c t.val

instance payC_storable (c cl r t) : BI.Storable (upEmb : UEmb _ 𝕄) (payC m c cl r t) := by
  cases cl <;> unfold payC <;> dsimp only <;> (repeat' split) <;> infer_instance

def cellOfSem : SemLoc sig → Option Cell := Function.partialInv Cell.toSem
theorem cellOfSem_toSem (cl : Cell) : cellOfSem cl.toSem = some cl := Function.partialInv_left toSem_inj cl

def Rd : Rounds.Schedule (GSem nD τ sig) (Fin 4) 𝕄 where
  duties g r := match cellOfSem g.2 with
    | some cl => dutC g.1.1 cl r
    | none => ∅
  amount g _ _ := match cellOfSem g.2 with
    | some cl => amtC cl
    | none => 1
  payload g r t := match cellOfSem g.2 with
    | some cl => payC m g.1.1 cl r t
    | none => iprop(emp)
  amount_pos g _ _ _ := by
    split
    · exact amtC_pos _
    · exact Nat.one_pos

instance Rd_storable (g r t) : BI.Storable (upEmb : UEmb _ 𝕄) ((Rd m).payload g r t) := by
  unfold Rd; dsimp only; split <;> infer_instance

section Tables
variable (c : Dev nD) (cl : Cell) (r : ℕ) (t : Fin 4)

theorem duties_at : (Rd m).duties (cellAt c cl) r = dutC c cl r := by unfold Rd; dsimp only; rw [cellOfSem_toSem]
theorem amount_at : (Rd m).amount (cellAt c cl) r t = amtC cl := by unfold Rd; dsimp only; rw [cellOfSem_toSem]
theorem payload_at : (Rd m).payload (cellAt c cl) r t = payC m c cl r t := by unfold Rd; dsimp only; rw [cellOfSem_toSem]
theorem expect_at : (Rd m).expect (cellAt c cl) r = (dutC c cl r).card * amtC cl := by
  unfold Schedule.expect Schedule.amountOf
  rw [duties_at, Finset.sum_congr rfl fun t _ => amount_at m c cl r t, Finset.sum_const, smul_eq_mul]

end Tables

/-! ## What is owed -/

inductive Dir where
  | par | opp | nx (d : Fin 2) | pv (d : Fin 2)

def Dir.tgt : Dir → Dev nD → Dev nD
  | .par => Proto.par
  | .opp => Proto.opp
  | .nx d => Proto.nxt d
  | .pv d => Proto.prv d
/-- The device of which a device is the target. -/
def Dir.inv : Dir → Dev nD → Dev nD
  | .par => Proto.par
  | .opp => Proto.opp
  | .nx d => Proto.prv d
  | .pv d => Proto.nxt d
theorem Dir.tgt_inv : ∀ (d : Dir) c, d.tgt (d.inv c) = c
  | .par => par_par
  | .opp => opp_opp
  | .nx d => nxt_prv d
  | .pv d => prv_nxt d
theorem Dir.inv_tgt : ∀ (d : Dir) c, d.inv (d.tgt c) = c
  | .par => par_par
  | .opp => opp_opp
  | .nx d => prv_nxt d
  | .pv d => nxt_prv d

/-- One payment: whose cell, which cell, at which level; `on` is the devices that make it. -/
structure Row where
  dir : Dir
  cell : Cell
  idx : ℕ
  mid : Bool := true
  edge : Bool := true

def Row.on (r : Row) (b : Bool) : Bool := if b then r.mid else r.edge

abbrev Tring (h j d : ℕ) : ℕ := 10 + 4 * (2 * h + j) + 2 * d

def rowBar : List Row := [⟨.par, .bar, 1, true, true⟩, ⟨.nx 1, .bar, 1, true, true⟩, ⟨.nx 0, .bar, 1, true, true⟩, ⟨.opp, .bar, 1, true, false⟩]
def rowRd (s : Fin 8) : Row := ⟨.par, .aR s 0, 2, false, true⟩
def rowEx (s : Fin 8) : Row := ⟨.opp, .aR s 1, 3, true, false⟩
def rowFin (s : Fin 8) : Row := ⟨.par, .aR s 1, 4, true, false⟩
def rowR (d k j : Fin 2) (h : ℕ) : Row := ⟨.nx d, .rR d k j, Tring h j.val d.val, true, true⟩
def rowCr (d j : Fin 2) (h : ℕ) : Row := ⟨.pv d, .cr d, Tring h j.val d.val + 1, true, true⟩

/-- Everything any device pays, in program order. -/
def rows₀ : List Row :=
  rowBar ++ [rowRd 0, rowRd 1, rowRd 2, rowRd 3, rowRd 4, rowRd 5, rowRd 6, rowRd 7]
  ++ [rowEx 0, rowEx 1, rowEx 2, rowEx 3, rowEx 4, rowEx 5, rowEx 6, rowEx 7]
  ++ [rowFin 0, rowFin 1, rowFin 2, rowFin 3, rowR 0 0 0 0, rowR 1 0 0 0, rowFin 4, rowFin 5, rowFin 6, rowFin 7, rowR 0 0 1 0, rowR 1 0 1 0]
  ++ [rowR 0 1 0 1, rowR 1 1 0 1, rowR 0 1 1 1, rowR 1 1 1 1]
  ++ [rowCr 0 0 1, rowR 0 0 0 2, rowCr 1 0 1, rowR 1 0 0 2, rowCr 0 1 1, rowR 0 0 1 2, rowCr 1 1 1, rowR 1 0 1 2]
  ++ [rowCr 0 0 2, rowR 0 1 0 3, rowCr 1 1 2, rowR 1 1 1 3]

def rowsOf (b : Bool) : List Row := rows₀.filter (·.on b)

def Row.pay (c : Dev nD) (r : Row) : Pay nD τ sig := (cellAt (r.dir.tgt c) r.cell, r.idx, amtC r.cell)

/-- What device c still owes: the payments of a list. -/
def owesT (c : Dev nD) (l : List Row) : CellTallies nD τ sig ℕ := tallyL (l.map (Row.pay c))
def owesL (c : Dev nD) (l : List Row) : sProp 𝕄 := iprop(∃ W, owes (c : Thread nD τ) (owesT c l) W)

/-! ## Levels: a wait's index is its level -/

def L (g : GSem nD τ sig) : Finset ℕ := if g.1.2 = .tc then Finset.range 64 else ∅
def lv (g : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 64 := if_pos rfl

theorem mayWait (c : Dev nD) (sm : SemLoc sig) (ι : ℕ) (l : List Row) (h : l.all (fun r => decide (ι < r.idx ∧ r.idx < 64)) = true) (hι : ι < 64) :
    (levAts L lv : sProp 𝕄) ⊢ MayWait (c : Thread nD τ) sm ι (owesT c l) := by
  have key : ∀ g u, 0 < owesT c l g u → g.1.2 = .tc ∧ ι < u ∧ u < 64 := by
    intro g u hg
    obtain ⟨x, hx, rfl, rfl⟩ := tallyL_pos hg
    obtain ⟨r, hr, rfl⟩ := List.mem_map.mp hx
    have := of_decide_eq_true (List.all_eq_true.mp h r hr)
    exact ⟨rfl, this⟩
  refine MayOwe.of_cut (L := L) (lev := lv) ι (fun p hp => ?_) (fun g u hg => ?_) (fun p hp => ?_) (fun g u hg => (key g u hg).2.1)
  · rw [Finset.mem_singleton.mp hp, L_tc]; exact Finset.mem_range.mpr hι
  · unfold L; rw [if_pos (key g u hg).1]; exact Finset.mem_range.mpr (key g u hg).2.2
  · rw [Finset.mem_singleton.mp hp]; exact le_rfl

end Cert.Proto

end
-- ==== Proof.Split.lean ====
module

public import proofs.«01_k».proof.Proof.Schedule

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

/-! ## Index sets in parts -/

theorem rows_parts {n k : ℕ} (lo sz cnt : ℕ) :
    (rows lo (sz * cnt) : Finset (⟨2, ![n, k]⟩ : Shape).Idx) = (Finset.univ : Finset (Fin cnt)).biUnion fun s => rows (lo + sz * s.val) sz := by
  ext i
  simp only [rows, Finset.mem_filter, Finset.mem_univ, true_and, Finset.mem_biUnion]
  constructor
  · rintro ⟨h1, h2⟩
    have hpos : 0 < sz := by
      rcases Nat.eq_zero_or_pos sz with h | h
      · subst h; omega
      · exact h
    have hlt : ((i 0).val - lo) / sz < cnt := Nat.div_lt_of_lt_mul (by omega)
    refine ⟨⟨((i 0).val - lo) / sz, hlt⟩, ?_, ?_⟩
    · have := Nat.mul_div_le ((i 0).val - lo) sz; dsimp only; omega
    · have := Nat.lt_mul_div_succ ((i 0).val - lo) hpos; dsimp only; rw [Nat.mul_add] at this; omega
  · rintro ⟨s, h1, h2⟩
    have : sz * s.val + sz ≤ sz * cnt := by rw [← Nat.mul_succ]; exact Nat.mul_le_mul_left sz s.isLt
    omega

theorem rows_disjoint {n k : ℕ} (lo sz : ℕ) {cnt : ℕ} (s t : Fin cnt) (h : s ≠ t) :
    Disjoint (rows (lo + sz * s.val) sz : Finset (⟨2, ![n, k]⟩ : Shape).Idx) (rows (lo + sz * t.val) sz) := by
  refine Finset.disjoint_left.mpr fun i hi hj => ?_
  simp only [rows, Finset.mem_filter, Finset.mem_univ, true_and] at hi hj
  rcases Nat.lt_or_gt_of_ne (Fin.val_ne_of_ne h) with h | h
  · have := Nat.mul_le_mul_left sz (Nat.succ_le_of_lt h); rw [Nat.mul_succ] at this; omega
  · have := Nat.mul_le_mul_left sz (Nat.succ_le_of_lt h); rw [Nat.mul_succ] at this; omega

theorem blk_parts : (Finset.univ : Finset S8x2x32x2048.Idx) = (Finset.univ : Finset (Fin 2 × Fin 8)).biUnion fun x => blk x.2.val x.1.val := by
  ext i; simp only [blk, Finset.mem_filter, Finset.mem_univ, true_and, Finset.mem_biUnion]
  exact ⟨fun _ => ⟨(i 1, i 0), rfl, rfl⟩, fun _ => trivial⟩
theorem blk_disjoint (x y : Fin 2 × Fin 8) (h : x ≠ y) : Disjoint (blk x.2.val x.1.val) (blk y.2.val y.1.val) := by
  refine Finset.disjoint_left.mpr fun i hi hj => h ?_
  simp only [blk, Finset.mem_filter, Finset.mem_univ, true_and] at hi hj
  exact Prod.ext (Fin.ext (hi.2.symm.trans hj.2)) (Fin.ext (hi.1.symm.trans hj.1))

theorem half_parts : (Finset.univ : Finset S2x256x2048.Idx) = (Finset.univ : Finset (Fin 2 × Fin 2)).biUnion fun x => half x.1.val x.2.val := by
  ext i; simp only [half, Finset.mem_filter, Finset.mem_univ, true_and, Finset.mem_biUnion]
  have h1 : (i 1).val < 256 := (i 1).isLt
  exact ⟨fun _ => ⟨(i 0, ⟨(i 1).val / 128, by omega⟩), rfl, by dsimp only; omega, by dsimp only; omega⟩, fun _ => trivial⟩
theorem half_disjoint (x y : Fin 2 × Fin 2) (h : x ≠ y) : Disjoint (half x.1.val x.2.val) (half y.1.val y.2.val) := by
  refine Finset.disjoint_left.mpr fun i hi hj => h ?_
  simp only [half, Finset.mem_filter, Finset.mem_univ, true_and] at hi hj
  exact Prod.ext (Fin.ext (hi.1.symm.trans hj.1)) (Fin.ext (by omega))

theorem slot_parts (k : ℕ) : slotS k = (Finset.univ : Finset (Fin 2)).biUnion fun j => half k j.val := by
  ext i; simp only [half, slotS, Finset.mem_filter, Finset.mem_univ, true_and, Finset.mem_biUnion]
  have h1 : (i 1).val < 256 := (i 1).isLt
  exact ⟨fun h => ⟨⟨(i 1).val / 128, by omega⟩, h, by dsimp only; omega, by dsimp only; omega⟩, fun ⟨_, h, _⟩ => h⟩

theorem plane_parts : (Finset.univ : Finset S4x256x2048.Idx) = (Finset.univ : Finset (Fin 4)).biUnion fun x => plane x.val := by
  ext i; simp only [plane, Finset.mem_filter, Finset.mem_univ, true_and, Finset.mem_biUnion]
  exact ⟨fun _ => ⟨i 0, rfl⟩, fun _ => trivial⟩
theorem plane_disjoint (x y : Fin 4) (h : x ≠ y) : Disjoint (plane x.val) (plane y.val) := by
  refine Finset.disjoint_left.mpr fun i hi hj => h ?_
  simp only [plane, Finset.mem_filter, Finset.mem_univ, true_and] at hi hj
  exact Fin.ext (hi.symm.trans hj)

/-! ## Elements at any contents, in parts -/

/-- The elements `I`, whatever they hold. -/
def anyOn (ℓ : Loc nD τ sig) (I : Finset (Idx ℓ)) : sProp 𝕄 := iprop(∃ f : Buf (Elt F) ℓ, ℓ ↦[I]{fullShare} f)

omit [FloatOps F] in
theorem anyOn_parts {ℓ : Loc nD τ sig} {T : Type} (P : Finset T) (K : T → Finset (Idx ℓ)) (h : ∀ x ∈ P, ∀ y ∈ P, x ≠ y → Disjoint (K x) (K y)) :
    (anyOn (F := F) ℓ (P.biUnion K) : sProp 𝕄) ⊢ bigSep P fun x => anyOn ℓ (K x) := by
  unfold anyOn
  iintro ⟨%f, H⟩
  rw [pointsTo_biUnion P K h]
  have hm : ∀ t, (ℓ ↦[K t]{fullShare} f : sProp 𝕄) ⊢ iprop(∃ f : Buf (Elt F) ℓ, ℓ ↦[K t]{fullShare} f) := fun t => by iintro H; iexists f; iexact H
  exact BI.bigSep_mono fun t _ => hm t

omit [FloatOps F] in
theorem anyOn_glue {ℓ : Loc nD τ sig} {T : Type} (f₀ : Buf (Elt F) ℓ) (P : Finset T) (K : T → Finset (Idx ℓ)) (h : ∀ x ∈ P, ∀ y ∈ P, x ≠ y → Disjoint (K x) (K y)) :
    (bigSep P fun x => anyOn (F := F) ℓ (K x)) ⊢ (anyOn ℓ (P.biUnion K) : sProp 𝕄) := by
  classical
  induction P using Finset.induction_on with
  | empty =>
    rw [BI.bigSep_empty, Finset.biUnion_empty]; unfold anyOn
    iintro -; iexists f₀; rw [pointsTo_empty]; iempintro
  | insert x P hx ih =>
    rw [show (bigSep (insert x P) fun x => anyOn (F := F) ℓ (K x)) = iprop(anyOn ℓ (K x) ∗ bigSep P fun x => anyOn (F := F) ℓ (K x)) from BI.bigSep_insert hx, Finset.biUnion_insert]
    have hd : Disjoint (K x) (P.biUnion K) := (Finset.disjoint_biUnion_right _ _ _).mpr fun y hy =>
      h x (Finset.mem_insert_self _ _) y (Finset.mem_insert_of_mem hy) fun e => hx (e ▸ hy)
    iintro ⟨H, HP⟩
    ihave HP := (ih fun a ha b hb => h a (Finset.mem_insert_of_mem ha) b (Finset.mem_insert_of_mem hb)) $$ HP
    unfold anyOn
    icases H with ⟨%f, H⟩
    icases HP with ⟨%g, HP⟩
    iexists _
    iapply (pointsTo_join (I := K x) (J := P.biUnion K) (f := f) (g := g) hd)
    iframe

omit [FloatOps F] in
theorem to_any {ℓ : Loc nD τ sig} {I : Finset (Idx ℓ)} (f : Buf (Elt F) ℓ) : (ℓ ↦[I]{fullShare} f : sProp 𝕄) ⊢ anyOn ℓ I := by
  unfold anyOn; iintro H; iexists f; iexact H

/-! ## The buffers in parts -/

theorem acc_parts (c : Dev nD) (V : ℕ → ℕ → El F) :
    accP c fullShare 0 256 V = bigSep Finset.univ fun s : Fin 8 => accP c fullShare (32 * s.val) 32 V := by
  unfold accP
  rw [show (rows 0 256 : Finset S256x2048.Idx) = (Finset.univ : Finset (Fin 8)).biUnion fun s => rows (0 + 32 * s.val) 32 from rows_parts 0 32 8,
    pointsTo_biUnion _ _ fun x _ y _ h => rows_disjoint 0 32 x y h]
  simp only [Nat.zero_add]

theorem out_parts (c : Dev nD) (q : PosShare TreeShare) (lo sz cnt : ℕ) (f : S2048x2048.Idx → El F) :
    outP c q lo (sz * cnt) f = bigSep Finset.univ fun s : Fin cnt => outP c q (lo + sz * s.val) sz f := by
  unfold outP
  rw [show (rows lo (sz * cnt) : Finset S2048x2048.Idx) = (Finset.univ : Finset (Fin cnt)).biUnion fun s => rows (lo + sz * s.val) sz from rows_parts lo sz cnt,
    pointsTo_biUnion _ _ fun x _ y _ h => rows_disjoint lo sz x y h]

def outAny (c : Dev nD) (lo sz : ℕ) : sProp 𝕄 := anyOn (F := F) (bufL c cc0_stg1_0) (rows lo sz : Finset S2048x2048.Idx)

omit [FloatOps F] in
theorem outAny_parts (c : Dev nD) (lo sz cnt : ℕ) :
    (outAny (F := F) c lo (sz * cnt) : sProp 𝕄) ⊢ bigSep Finset.univ fun s : Fin cnt => outAny c (lo + sz * s.val) sz := by
  unfold outAny
  rw [show (rows lo (sz * cnt) : Finset S2048x2048.Idx) = (Finset.univ : Finset (Fin cnt)).biUnion fun s => rows (lo + sz * s.val) sz from rows_parts lo sz cnt]
  exact anyOn_parts _ _ fun x _ y _ h => rows_disjoint lo sz x y h

omit [FloatOps F] in
theorem comm_parts (c : Dev nD) : (anyOn (F := F) (bufL c cc0_scratch1) Finset.univ : sProp 𝕄) ⊢ iprop(commAll c 0 ∗ commAll c 1) := by
  have h : iprop(commAll (F := F) c 0 ∗ commAll c 1) = bigSep Finset.univ fun k : Fin 2 => bigSep Finset.univ fun s : Fin 8 => commAny (F := F) c s.val k.val :=
    (BI.bigSep_fin_two (fun k : Fin 2 => commAll (F := F) c k.val)).symm
  rw [h, ← BI.bigSep_univ_prod (fun x : Fin 2 × Fin 8 => commAny (F := F) c x.2.val x.1.val)]
  rw [show (Finset.univ : Finset (Idx (bufL c cc0_scratch1))) = _ from blk_parts]
  exact anyOn_parts _ _ fun x _ y _ h => blk_disjoint x y h

omit [FloatOps F] in
theorem comm_glue (c : Dev nD) (f₀ : Buf (Elt F) (bufL c cc0_scratch1)) :
    iprop(commAll (F := F) c 0 ∗ commAll c 1) ⊢ (anyOn (F := F) (bufL c cc0_scratch1) Finset.univ : sProp 𝕄) := by
  have h : iprop(commAll (F := F) c 0 ∗ commAll c 1) = bigSep Finset.univ fun k : Fin 2 => bigSep Finset.univ fun s : Fin 8 => commAny (F := F) c s.val k.val :=
    (BI.bigSep_fin_two (fun k : Fin 2 => commAll (F := F) c k.val)).symm
  rw [h, ← BI.bigSep_univ_prod (fun x : Fin 2 × Fin 8 => commAny (F := F) c x.2.val x.1.val)]
  rw [show (Finset.univ : Finset (Idx (bufL c cc0_scratch1))) = _ from blk_parts]
  exact anyOn_glue f₀ _ _ fun x _ y _ h => blk_disjoint x y h

/-- The ring's landing buffer of a direction. -/
abbrev ringB' : Fin 2 → Ref sig .tc := fun | 0 => cc0_scratch2 | 1 => cc0_scratch3

omit [FloatOps F] in
theorem ring_parts : ∀ (d : Fin 2) (c : Dev nD), (anyOn (F := F) (bufL c (ringB' d)) Finset.univ : sProp 𝕄) ⊢ ringAll d c
  | 0, c => by
    unfold ringAll
    rw [← BI.bigSep_univ_prod (fun x : Fin 2 × Fin 2 => ringAny (F := F) 0 c x.1.val x.2.val)]
    rw [show (Finset.univ : Finset (Idx (bufL c (ringB' 0)))) = _ from half_parts]
    exact anyOn_parts _ _ fun x _ y _ h => half_disjoint x y h
  | 1, c => by
    unfold ringAll
    rw [← BI.bigSep_univ_prod (fun x : Fin 2 × Fin 2 => ringAny (F := F) 1 c x.1.val x.2.val)]
    rw [show (Finset.univ : Finset (Idx (bufL c (ringB' 1)))) = _ from half_parts]
    exact anyOn_parts _ _ fun x _ y _ h => half_disjoint x y h

omit [FloatOps F] in
theorem ring_glue : ∀ (d : Fin 2) (c : Dev nD) (f₀ : Buf (Elt F) (bufL c (ringB' d))), ringAll d c ⊢ (anyOn (F := F) (bufL c (ringB' d)) Finset.univ : sProp 𝕄)
  | 0, c, f₀ => by
    unfold ringAll
    rw [← BI.bigSep_univ_prod (fun x : Fin 2 × Fin 2 => ringAny (F := F) 0 c x.1.val x.2.val)]
    rw [show (Finset.univ : Finset (Idx (bufL c (ringB' 0)))) = _ from half_parts]
    exact anyOn_glue f₀ _ _ fun x _ y _ h => half_disjoint x y h
  | 1, c, f₀ => by
    unfold ringAll
    rw [← BI.bigSep_univ_prod (fun x : Fin 2 × Fin 2 => ringAny (F := F) 1 c x.1.val x.2.val)]
    rw [show (Finset.univ : Finset (Idx (bufL c (ringB' 1)))) = _ from half_parts]
    exact anyOn_glue f₀ _ _ fun x _ y _ h => half_disjoint x y h

def stAny (c : Dev nD) (i : ℕ) : sProp 𝕄 := anyOn (F := F) (bufL c cc0_scratch4) (plane i)

omit [FloatOps F] in
theorem st_parts (c : Dev nD) : (anyOn (F := F) (bufL c cc0_scratch4) Finset.univ : sProp 𝕄) ⊢ bigSep Finset.univ fun i : Fin 4 => stAny c i.val := by
  rw [show (Finset.univ : Finset (Idx (bufL c cc0_scratch4))) = _ from plane_parts]
  exact anyOn_parts _ _ fun x _ y _ h => plane_disjoint x y h
omit [FloatOps F] in
theorem st_glue (c : Dev nD) (f₀ : Buf (Elt F) (bufL c cc0_scratch4)) : (bigSep Finset.univ fun i : Fin 4 => stAny c i.val) ⊢ (anyOn (F := F) (bufL c cc0_scratch4) Finset.univ : sProp 𝕄) := by
  rw [show (Finset.univ : Finset (Idx (bufL c cc0_scratch4))) = _ from plane_parts]
  exact anyOn_glue f₀ _ _ fun x _ y _ h => plane_disjoint x y h

/-! ## A whole ring slot, at the share a load needs -/

def slotP (d : Fin 2) (c : Dev nD) (q : PosShare TreeShare) (k : ℕ) (V : ℕ → ℕ → El F) : sProp 𝕄 :=
  match d with
  | 0 => bufL c cc0_scratch2 ↦[slotS k]{q} (f3 V : S2x256x2048.Idx → El F)
  | 1 => bufL c cc0_scratch3 ↦[slotS k]{q} (f3 V : S2x256x2048.Idx → El F)

theorem halves_disjoint (k : ℕ) (x y : Fin 2) (h : x ≠ y) : Disjoint (half k x.val) (half k y.val) := by
  refine Finset.disjoint_left.mpr fun i hi hj => h (Fin.ext ?_)
  simp only [half, Finset.mem_filter, Finset.mem_univ, true_and] at hi hj
  omega

theorem slotP_eq : ∀ (d : Fin 2) (c : Dev nD) (q : PosShare TreeShare) (k : ℕ) (V : ℕ → ℕ → El F),
    slotP d c q k V = iprop(ringP d c q k 0 V ∗ ringP d c q k 1 V)
  | 0, c, q, k, V => by
    unfold slotP ringP; dsimp only
    rw [slot_parts, pointsTo_biUnion _ _ fun x _ y _ h => halves_disjoint k x y h, BI.bigSep_fin_two]; rfl
  | 1, c, q, k, V => by
    unfold slotP ringP; dsimp only
    rw [slot_parts, pointsTo_biUnion _ _ fun x _ y _ h => halves_disjoint k x y h, BI.bigSep_fin_two]; rfl

theorem ringP_share : ∀ (d : Fin 2) (c : Dev nD) (k j : ℕ) (V : ℕ → ℕ → El F),
    ringP d c fullShare k j V ⊣⊢ iprop(ringP d c fullShare.left k j V ∗ ringP d c fullShare.right k j V)
  | 0, c, k, j, V => by unfold ringP; exact pointsTo_share (PosShare.mem_left_op_right fullShare)
  | 1, c, k, j, V => by unfold ringP; exact pointsTo_share (PosShare.mem_left_op_right fullShare)

theorem ringP_any : ∀ (d : Fin 2) (c : Dev nD) (k j : ℕ) (V : ℕ → ℕ → El F), ringP d c fullShare k j V ⊢ ringAny d c k j
  | 0, c, k, j, V => by unfold ringP ringAny Release.slot; iintro H; iexists _; iexact H
  | 1, c, k, j, V => by unfold ringP ringAny Release.slot; iintro H; iexists _; iexact H

theorem commP_any (c : Dev nD) (s k : ℕ) (V : ℕ → ℕ → El F) : commP c s k V ⊢ commAny c s k := by
  unfold commP commAny; iintro H; iexists _; iexact H
theorem stP_any (c : Dev nD) (i : ℕ) (V : ℕ → ℕ → El F) : stP c i V ⊢ stAny c i := by
  unfold stP stAny; exact to_any _

theorem outP_share (c : Dev nD) (q : PosShare TreeShare) (lo sz : ℕ) (f : S2048x2048.Idx → El F) :
    outP c q lo sz f ⊣⊢ iprop(outP c q.left lo sz f ∗ outP c q.right lo sz f) := by
  unfold outP; exact pointsTo_share (PosShare.mem_left_op_right q)

theorem outP_any (c : Dev nD) (lo sz : ℕ) (f : S2048x2048.Idx → El F) : outP c fullShare lo sz f ⊢ outAny c lo sz := by
  unfold outP outAny; exact to_any _

end Cert.Proto

end
-- ==== Proof.Steps.lean ====
module

public import proofs.«01_k».proof.Proof.Split

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

/-! ## What every device knows throughout -/

abbrev 𝒱₀ : Variants := Variants.none

/-- The landing place of a credit. -/
abbrev keySlot (k : Key) : sProp 𝕄 := ringAny k.2.1 k.1 (keyK k.2.2).val (keyJ k.2.1 k.2.2).val

def recs (κ : Dev nD × Cell → ℕ) (ι : Key → ℕ) : sProp 𝕄 :=
  iprop((bigSep Finset.univ fun x : Dev nD × Cell => iprop(cellInv ER (Rd m) (κ x) (cellAt x.1 x.2) ∗ reached ER (cellAt x.1 x.2) 0))
    ∗ (bigSep Finset.univ fun k : Key => Release.slotInv ES (ι k) k (keySlot (F := F) k)) ∗ levAts L lv)

variable (κ : Dev nD × Cell → ℕ) (ι : Key → ℕ)

instance recs_persistent : BI.Persistent (recs m κ ι) := by unfold recs; infer_instance

theorem recs_cell (c : Dev nD) (cl : Cell) : recs m κ ι ⊢ iprop(cellInv ER (Rd m) (κ (c, cl)) (cellAt c cl) ∗ reached ER (cellAt c cl) 0) := by
  unfold recs
  have h : (bigSep Finset.univ fun x : Dev nD × Cell => iprop(cellInv ER (Rd m) (κ x) (cellAt x.1 x.2) ∗ reached ER (cellAt x.1 x.2) 0) : sProp 𝕄)
      ⊢ iprop(cellInv ER (Rd m) (κ (c, cl)) (cellAt c cl) ∗ reached ER (cellAt c cl) 0) :=
    BI.bigSep_elim (Φ := fun x : Dev nD × Cell => iprop(cellInv ER (Rd m) (κ x) (cellAt x.1 x.2) ∗ reached ER (cellAt x.1 x.2) 0)) (Finset.mem_univ (c, cl))
  iintro ⟨H, -⟩
  iapply h; iexact H
theorem recs_inv (c : Dev nD) (cl : Cell) : recs m κ ι ⊢ cellInv ER (Rd m) (κ (c, cl)) (cellAt c cl) := by
  refine (recs_cell m κ ι c cl).trans ?_
  iintro ⟨H, -⟩; iexact H
theorem recs_reached (c : Dev nD) (cl : Cell) : recs m κ ι ⊢ reached ER (cellAt c cl) 0 := by
  refine (recs_cell m κ ι c cl).trans ?_
  iintro ⟨-, H⟩; iexact H
theorem recs_slot (k : Key) : recs m κ ι ⊢ Release.slotInv ES (ι k) k (keySlot (F := F) k) := by
  unfold recs
  have h : (bigSep Finset.univ fun k : Key => Release.slotInv ES (ι k) k (keySlot (F := F) k) : sProp 𝕄) ⊢ Release.slotInv ES (ι k) k (keySlot (F := F) k) :=
    BI.bigSep_elim (Φ := fun k : Key => Release.slotInv ES (ι k) k (keySlot (F := F) k)) (Finset.mem_univ k)
  iintro ⟨-, H, -⟩
  iapply h; iexact H
theorem recs_lev : recs m κ ι ⊢ levAts L lv := by
  unfold recs
  iintro ⟨-, -, H⟩; iexact H

/-! ## One step of the program -/

/-- A device's program, and what holds when it is done. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD)

theorem owesT_cons (r : Row) (l : List Row) : owesT c (r :: l) = owesT c l + tallyAt (cellAt (r.dir.tgt c) r.cell) r.idx (amtC r.cell) := by
  unfold owesT; rw [List.map_cons]; exact add_comm _ _

theorem step_signal {α : Type} {Q : α → sProp 𝕄} {k : PUnit → Prog (TpuEff nD τ sig (Elt F) Λ₀ .tc) α}
    (row : Row) (l : List Row) (t : Fin 4) {n : Dev nD} (hn : n = row.dir.tgt c) {sem : Sem sig} (hs : SemLoc.reg sem = row.cell.toSem)
    {k' : ℕ} (hk : amtC row.cell = k') (hd : t ∈ dutC (row.dir.tgt c) row.cell 0) :
    iprop(recs m κ ι ∗ owesL c (row :: l) ∗ dutyTok ER (cellAt (row.dir.tgt c) row.cell) 0 t ∗ payC m (row.dir.tgt c) row.cell 0 t)
      ⊢ iprop((owesL c l -∗ wpc c (k ⟨⟩) Q) -∗ wpc c (.op (.semSignal (n.tc : Thread nD τ) sem k') k) Q) := by
  subst hn
  have hg : ((row.dir.tgt c).tc, SemLoc.reg sem) = cellAt (row.dir.tgt c) row.cell := by rw [hs]
  have hst := fun W => Rounds.wp_signal 𝒱₀ ER (Rd m) (defs := defs₀ (F := F)) (Γ := .empty) (Es := Set.univ) (c : Thread nD τ) none (Q := Q) (k := k) (dst := ((row.dir.tgt c).tc : Thread nD τ)) (κ := κ (row.dir.tgt c, row.cell)) (r := 0) (d := t) (sem := sem)
      (k' := k') (by rw [hg, duties_at]; exact hd) (by rw [hg, amount_at]; exact hk) row.idx (O₀ := owesT c (row :: l)) (owesT c l) (by rw [hg, owesT_cons, hk]) (W := W)
  simp only [hg, payload_at] at hst
  unfold owesL
  iintro ⟨#HR, ⟨%W, HO⟩, Ht, Hp⟩ Hk
  iapply (hst W) $$ [HO Ht Hp]
  · isplitr; · iapply (recs_inv m κ ι); iexact HR
    iframe
    iapply (recs_reached m κ ι); iexact HR
  iintro HO
  iapply Hk
  iexists W; iexact HO

theorem step_wait {α : Type} {Q : α → sProp 𝕄} {k : PUnit → Prog (TpuEff nD τ sig (Elt F) Λ₀ .tc) α}
    (cl : Cell) (r : ℕ) (t : Fin 4) (i : ℕ) (l : List Row) {sm : SemLoc sig} (hs : sm = cl.toSem)
    {w : TpuEff nD τ sig (Elt F) Λ₀ .tc PUnit} {k' : ℕ} (hw : ∀ K : PUnit → sProp 𝕄, wpE (defs₀ (F := F)) 𝒱₀ (c : Thread nD τ) none Set.univ w K = waitSpec (c : Thread nD τ) Set.univ sm k' K)
    (hk : k' = amtC cl) (hd : dutC c cl r = {t}) (hlev : l.all (fun r => decide (i < r.idx ∧ r.idx < 64)) = true) (hi : i < 64) :
    iprop(recs m κ ι ∗ owesL c l ∗ cred (tallyAt (cellAt c cl) i (amtC cl)) ∗ atPos ER (cellAt c cl) r ∅ 0)
      ⊢ iprop(((owesL c l ∗ atPos ER (cellAt c cl) (r + 1) ∅ 0 ∗ reached ER (cellAt c cl) (r + 1) ∗ payC m c cl r t) -∗ wpc c (k ⟨⟩) Q)
          -∗ wpc c (.op w k) Q) := by
  subst hs
  have hst := fun W => Rounds.wp_wait_rest_token 𝒱₀ ER (Rd m) (defs := defs₀ (F := F)) (Γ := .empty) (c : Thread nD τ) none (Q := Q) (κ := κ (c, cl)) hw (Set.mem_univ _) (k := k) i (O := owesT c l) (W := W)
      (R := r) (m := 0) (T := ∅) (by rw [show ((c : Thread nD τ), cl.toSem) = cellAt c cl from rfl, expect_at, hd, hk]; simp)
  simp only [show ((c : Thread nD τ), cl.toSem) = cellAt c cl from rfl, duties_at, hd, Finset.sdiff_empty, BI.bigSep_singleton, payload_at] at hst
  subst hk
  unfold owesL
  iintro ⟨#HR, ⟨%W, HO⟩, Hc, Ha⟩ Hk
  iapply (hst W) $$ [HO Hc Ha]
  · isplitr; · iapply (recs_inv m κ ι); iexact HR
    iframe
    iapply (mayWait c cl.toSem i l hlev hi)
    iapply (recs_lev m κ ι); iexact HR
  iintro ⟨HO, Ha, Hr, Hp⟩
  iapply Hk
  iframe
  iexists _; iexact HO

theorem step_send {α : Type} {Q : α → sProp 𝕄} {k : PUnit → Prog (TpuEff nD τ sig (Elt F) Λ₀ .tc) α}
    (row : Row) (l : List Row) (cS : Cell) (r₁ r₂ : ℕ) (t₁ t₂ : Fin 4) (j : ℕ) {n : Dev nD} (hn : n = row.dir.tgt c)
    {sp sp' : Space} {s : Shape} {src : Memref sig .tc sp s .f32} {dst : Memref sig (Dev.tc n : Thread nD τ).2.kind sp' s .f32} {sS sem : SemLoc sig}
    {hsc : dst.view.ref.isScScratch = false} {hsrc : src.view.WordExact} {hdst : dst.view.WordExact} {hsem : DmaTarget.Typed sp sem (.remote (Dev.tc n : Thread nD τ) dst sS hsc)}
    (hS : sS = cS.toSem) (hR : sem = row.cell.toSem)
    {q : PosShare TreeShare} {fs : Buf (Elt F) (src.view.loc (c : Thread nD τ))} (P D : sProp 𝕄)
    (hP : P = (src.view.loc (c : Thread nD τ) ↦[src.view.set]{q} fs))
    (hD : D ⊢ iprop(∃ fd, dst.view.loc (n.tc : Thread nD τ) ↦[dst.view.set]{fullShare} fd))
    (hN : dst.view.dmaCredit = amtC row.cell) (hNS : amtC cS = amtC row.cell)
    (hd₁ : t₁ ∈ dutC c cS r₁) (hd₂ : t₂ ∈ dutC (row.dir.tgt c) row.cell r₂) (hdma : ∃ x, row.cell.toSem = .dma x)
    (h₁ : P ⊢ payC m c cS r₁ t₁)
    (h₂ : ∀ fd, (dst.view.loc (n.tc : Thread nD τ) ↦[dst.view.set]{fullShare} (dst.view.write (Elt F) fd (src.view.read (Elt F) fs) Finset.univ)) ⊢ payC m (row.dir.tgt c) row.cell r₂ t₂) :
    iprop(recs m κ ι ∗ owesL c (row :: l) ∗ P ∗ D ∗ dutyTok ER (cellAt c cS) r₁ t₁ ∗ reached ER (cellAt c cS) r₁
        ∗ dutyTok ER (cellAt (row.dir.tgt c) row.cell) r₂ t₂ ∗ reached ER (cellAt (row.dir.tgt c) row.cell) r₂)
      ⊢ iprop(((owesL c l ∗ cred (tallyAt (cellAt c cS) j (amtC cS))) -∗ wpc c (k ⟨⟩) Q)
          -∗ wpc c (.op (.enqueueDma src (.remote (Dev.tc n : Thread nD τ) dst sS hsc) sem hsrc hdst hsem) k) Q) := by
  subst hn hS hR
  have hst := fun W fd => Rounds.wp_send_pointsTo 𝒱₀ ER (Rd m) (defs := defs₀ (F := F)) (Γ := .empty) (Es := Set.univ) (c : Thread nD τ) none (Q := Q) (k := k) (κ₁ := κ (c, cS)) (κ₂ := κ (row.dir.tgt c, row.cell))
    (src := src) (dst := dst) (hsc := hsc) (hsrc := hsrc) (hdst := hdst) (hsem := hsem)
    (r₁ := r₁) (r₂ := r₂) (d₁ := t₁) (d₂ := t₂) (fs := fs) (fd := fd) (q := q) (sS := cS.toSem) (sem := row.cell.toSem) (c' := (Dev.tc (row.dir.tgt c) : Thread nD τ))
    (by rw [show ((c : Thread nD τ), cS.toSem) = cellAt c cS from rfl, duties_at]; exact hd₁)
    (by rw [show ((Dev.tc (row.dir.tgt c) : Thread nD τ), row.cell.toSem) = cellAt (row.dir.tgt c) row.cell from rfl, duties_at]; exact hd₂)
    row.idx j (amtC row.cell) (by obtain ⟨x, hx⟩ := hdma; rw [hx]; exact hN)
    ((amount_at m c cS r₁ t₁).trans hNS) (amount_at m (row.dir.tgt c) row.cell r₂ t₂) (owesT c l) (owesT_cons c row l) (W := W)
    (by rw [← hP]; exact h₁.trans (Entails.of_eq (payload_at m c cS r₁ t₁).symm))
    ((h₂ fd).trans (Entails.of_eq (payload_at m (row.dir.tgt c) row.cell r₂ t₂).symm))
  unfold owesL
  iintro ⟨#HR, ⟨%W, HO⟩, HP, HD, Ht1, Hr1, Ht2, Hr2⟩ Hk
  ihave HD := hD $$ HD
  icases HD with ⟨%fd, HD⟩
  ihave HP := (Entails.of_eq hP) $$ HP
  iapply (hst W fd) $$ [HO HP HD Ht1 Hr1 Ht2 Hr2]
  · isplitr; · iapply (recs_inv m κ ι c cS); iexact HR
    isplitr; · iapply (recs_inv m κ ι (row.dir.tgt c) row.cell); iexact HR
    isplitl [HP]; · iexact HP
    isplitl [HD]; · iexact HD
    isplitl [HO]; · iexact HO
    isplitl [Ht1]; · iexact Ht1
    isplitl [Hr1]; · iexact Hr1
    isplitl [Ht2]; · iexact Ht2
    iexact Hr2
  iintro ⟨Hc, HO⟩
  iapply Hk
  isplitl [HO]; · iexists W; iexact HO
  rw [hNS]; iexact Hc

end Steps

end Cert.Proto

end
-- ==== Proof.Local.lean ====
module

public import proofs.«01_k».proof.Proof.Steps

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

/-! ## Loads and stores of the pieces -/

section Loads

variable (c : Dev nD)

theorem load_acc {α : Type} {Q : α → sProp 𝕄} {k : (S32x2048.Idx → El F) → Prog (TpuEff nD τ sig (Elt F) Λ₀ .tc) α} (lo : ℕ) {h : ∀ a, ![lo, 0] a + S32x2048.size a ≤ S256x2048.size a}
    {hl : aM.view.LoadsAt (Rect.unit (s := S256x2048) ![lo, 0] S32x2048.size h).toLoadRect} (q : PosShare TreeShare) (V : ℕ → ℕ → El F) :
    accP c q lo 32 V ⊢ iprop((accP c q lo 32 V -∗ wpc c (k fun j => V (lo + (j 0).val) (j 1).val) Q)
      -∗ wpc c (.op (.load aM (Rect.unit (s := S256x2048) ![lo, 0] S32x2048.size h).toLoadRect hl) k) Q) := by
  have hst := wp_load_rect (defs := defs₀ (F := F)) (Γ := .empty) 𝒱₀ (c : Thread nD τ) none Set.univ (Q := Q) (k := k) (m := aM) (r := Rect.unit (s := S256x2048) ![lo, 0] S32x2048.size h) (hl := hl)
    (S := rows lo 32) (q := q) (f := (f2 0 V : S256x2048.Idx → El F)) (le_of_eq (accV_set lo h))
  have hr : (aM.access (Rect.unit (s := S256x2048) ![lo, 0] S32x2048.size h)).read (Elt F) (f2 0 V : S256x2048.Idx → El F) = fun j => V (lo + (j 0).val) (j 1).val := funext fun j => accL_read lo h V j
  rw [hr] at hst
  exact hst

theorem load_comm {α : Type} {Q : α → sProp 𝕄} {k : (S1x1x32x2048.Idx → El F) → Prog (TpuEff nD τ sig (Elt F) Λ₀ .tc) α} (s p : ℕ) {h : ∀ a, ![s, p, 0, 0] a + S1x1x32x2048.size a ≤ S8x2x32x2048.size a}
    {hl : kM.view.LoadsAt (Rect.unit (s := S8x2x32x2048) ![s, p, 0, 0] S1x1x32x2048.size h).toLoadRect} (V : ℕ → ℕ → El F) :
    commP c s p V ⊢ iprop((commP c s p V -∗ wpc c (k fun j => V (32 * s + (j 2).val) (j 3).val) Q)
      -∗ wpc c (.op (.load kM (Rect.unit (s := S8x2x32x2048) ![s, p, 0, 0] S1x1x32x2048.size h).toLoadRect hl) k) Q) := by
  have hst := wp_load_rect (defs := defs₀ (F := F)) (Γ := .empty) 𝒱₀ (c : Thread nD τ) none Set.univ (Q := Q) (k := k) (m := kM) (r := Rect.unit (s := S8x2x32x2048) ![s, p, 0, 0] S1x1x32x2048.size h) (hl := hl)
    (S := blk s p) (q := fullShare) (f := f4 V) (le_of_eq ((View.set_slice_whole _ _).trans (blk_rect s p h)))
  have hr : (kM.access (Rect.unit (s := S8x2x32x2048) ![s, p, 0, 0] S1x1x32x2048.size h)).read (Elt F) (f4 V) = fun j => V (32 * s + (j 2).val) (j 3).val := funext fun j => commL_read s p h V j
  rw [hr] at hst
  exact hst

theorem load_slot {α : Type} {Q : α → sProp 𝕄} : ∀ (d : Fin 2) {k : ((⟨3, ![1, 256, 2048]⟩ : Shape).Idx → El F) → Prog (TpuEff nD τ sig (Elt F) Λ₀ .tc) α} (p : ℕ)
    {h : ∀ a, ![p, 0, 0] a + (⟨3, ![1, 256, 2048]⟩ : Shape).size a ≤ S2x256x2048.size a}
    {hl : (ringM d).view.LoadsAt (Rect.unit (s := S2x256x2048) ![p, 0, 0] (⟨3, ![1, 256, 2048]⟩ : Shape).size h).toLoadRect} (q : PosShare TreeShare) (V : ℕ → ℕ → El F),
    slotP d c q p V ⊢ iprop((slotP d c q p V -∗ wpc c (k fun j => V (j 1).val (j 2).val) Q)
      -∗ wpc c (.op (.load (ringM d) (Rect.unit (s := S2x256x2048) ![p, 0, 0] (⟨3, ![1, 256, 2048]⟩ : Shape).size h).toLoadRect hl) k) Q)
  | 0, k, p, h, hl, q, V => by
    have hst := wp_load_rect (defs := defs₀ (F := F)) (Γ := .empty) 𝒱₀ (c : Thread nD τ) none Set.univ (Q := Q) (k := k) (m := ringM 0) (r := Rect.unit (s := S2x256x2048) ![p, 0, 0] (⟨3, ![1, 256, 2048]⟩ : Shape).size h) (hl := hl)
      (S := slotS p) (q := q) (f := (f3 V : S2x256x2048.Idx → El F)) (le_of_eq ((View.set_slice_whole _ _).trans (slot_rect p h)))
    have hr : ((ringM 0).access (Rect.unit (s := S2x256x2048) ![p, 0, 0] (⟨3, ![1, 256, 2048]⟩ : Shape).size h)).read (Elt F) (f3 V : S2x256x2048.Idx → El F) = fun j => V (j 1).val (j 2).val :=
      funext fun j => (ringL_read0 p 0 256 h V j).trans (by rw [Nat.zero_add])
    rw [hr] at hst
    exact hst
  | 1, k, p, h, hl, q, V => by
    have hst := wp_load_rect (defs := defs₀ (F := F)) (Γ := .empty) 𝒱₀ (c : Thread nD τ) none Set.univ (Q := Q) (k := k) (m := ringM 1) (r := Rect.unit (s := S2x256x2048) ![p, 0, 0] (⟨3, ![1, 256, 2048]⟩ : Shape).size h) (hl := hl)
      (S := slotS p) (q := q) (f := (f3 V : S2x256x2048.Idx → El F)) (le_of_eq ((View.set_slice_whole _ _).trans (slot_rect p h)))
    have hr : ((ringM 1).access (Rect.unit (s := S2x256x2048) ![p, 0, 0] (⟨3, ![1, 256, 2048]⟩ : Shape).size h)).read (Elt F) (f3 V : S2x256x2048.Idx → El F) = fun j => V (j 1).val (j 2).val :=
      funext fun j => (ringL_read1 p 0 256 h V j).trans (by rw [Nat.zero_add])
    rw [hr] at hst
    exact hst

theorem load_half {α : Type} {Q : α → sProp 𝕄} : ∀ (d : Fin 2) {k : ((⟨3, ![1, 128, 2048]⟩ : Shape).Idx → El F) → Prog (TpuEff nD τ sig (Elt F) Λ₀ .tc) α} (p j : ℕ)
    {h : ∀ a, ![p, 128 * j, 0] a + (⟨3, ![1, 128, 2048]⟩ : Shape).size a ≤ S2x256x2048.size a}
    {hl : (ringM d).view.LoadsAt (Rect.unit (s := S2x256x2048) ![p, 128 * j, 0] (⟨3, ![1, 128, 2048]⟩ : Shape).size h).toLoadRect} (q : PosShare TreeShare) (V : ℕ → ℕ → El F),
    ringP d c q p j V ⊢ iprop((ringP d c q p j V -∗ wpc c (k fun y => V (128 * j + (y 1).val) (y 2).val) Q)
      -∗ wpc c (.op (.load (ringM d) (Rect.unit (s := S2x256x2048) ![p, 128 * j, 0] (⟨3, ![1, 128, 2048]⟩ : Shape).size h).toLoadRect hl) k) Q)
  | 0, k, p, j, h, hl, q, V => by
    have hst := wp_load_rect (defs := defs₀ (F := F)) (Γ := .empty) 𝒱₀ (c : Thread nD τ) none Set.univ (Q := Q) (k := k) (m := ringM 0) (r := Rect.unit (s := S2x256x2048) ![p, 128 * j, 0] (⟨3, ![1, 128, 2048]⟩ : Shape).size h) (hl := hl)
      (S := half p j) (q := q) (f := (f3 V : S2x256x2048.Idx → El F)) (le_of_eq ((View.set_slice_whole _ _).trans (half_rect p j h)))
    have hr : ((ringM 0).access (Rect.unit (s := S2x256x2048) ![p, 128 * j, 0] (⟨3, ![1, 128, 2048]⟩ : Shape).size h)).read (Elt F) (f3 V : S2x256x2048.Idx → El F) = fun y => V (128 * j + (y 1).val) (y 2).val :=
      funext fun y => ringL_read0 p (128 * j) 128 h V y
    rw [hr] at hst
    exact hst
  | 1, k, p, j, h, hl, q, V => by
    have hst := wp_load_rect (defs := defs₀ (F := F)) (Γ := .empty) 𝒱₀ (c : Thread nD τ) none Set.univ (Q := Q) (k := k) (m := ringM 1) (r := Rect.unit (s := S2x256x2048) ![p, 128 * j, 0] (⟨3, ![1, 128, 2048]⟩ : Shape).size h) (hl := hl)
      (S := half p j) (q := q) (f := (f3 V : S2x256x2048.Idx → El F)) (le_of_eq ((View.set_slice_whole _ _).trans (half_rect p j h)))
    have hr : ((ringM 1).access (Rect.unit (s := S2x256x2048) ![p, 128 * j, 0] (⟨3, ![1, 128, 2048]⟩ : Shape).size h)).read (Elt F) (f3 V : S2x256x2048.Idx → El F) = fun y => V (128 * j + (y 1).val) (y 2).val :=
      funext fun y => ringL_read1 p (128 * j) 128 h V y
    rw [hr] at hst
    exact hst

theorem load_st {α : Type} {Q : α → sProp 𝕄} (i lo sz : ℕ) {k : ((⟨3, ![1, sz, 2048]⟩ : Shape).Idx → El F) → Prog (TpuEff nD τ sig (Elt F) Λ₀ .tc) α}
    {h : ∀ a, ![i, lo, 0] a + (⟨3, ![1, sz, 2048]⟩ : Shape).size a ≤ S4x256x2048.size a}
    {hl : sM.view.LoadsAt (Rect.unit (s := S4x256x2048) ![i, lo, 0] (⟨3, ![1, sz, 2048]⟩ : Shape).size h).toLoadRect} (V : ℕ → ℕ → El F) :
    stP c i V ⊢ iprop((stP c i V -∗ wpc c (k fun j => V (lo + (j 1).val) (j 2).val) Q)
      -∗ wpc c (.op (.load sM (Rect.unit (s := S4x256x2048) ![i, lo, 0] (⟨3, ![1, sz, 2048]⟩ : Shape).size h).toLoadRect hl) k) Q) := by
  have hst := wp_load_rect (defs := defs₀ (F := F)) (Γ := .empty) 𝒱₀ (c : Thread nD τ) none Set.univ (Q := Q) (k := k) (m := sM) (r := Rect.unit (s := S4x256x2048) ![i, lo, 0] (⟨3, ![1, sz, 2048]⟩ : Shape).size h) (hl := hl)
    (S := plane i) (q := fullShare) (f := (f3 V : S4x256x2048.Idx → El F)) (by
      rw [show (sM.access (Rect.unit (s := S4x256x2048) ![i, lo, 0] (⟨3, ![1, sz, 2048]⟩ : Shape).size h)).set = _ from View.set_slice_whole _ _]
      intro x hx
      have := (rect_mem_unit _ _ h x).mp hx 0
      simp only [plane, Finset.mem_filter, Finset.mem_univ, true_and]
      change i ≤ (x 0).val ∧ (x 0).val < i + 1 at this
      omega)
  have hr : (sM.access (Rect.unit (s := S4x256x2048) ![i, lo, 0] (⟨3, ![1, sz, 2048]⟩ : Shape).size h)).read (Elt F) (f3 V : S4x256x2048.Idx → El F) = fun j => V (lo + (j 1).val) (j 2).val :=
    funext fun j => stL_read i lo sz h V j
  rw [hr] at hst
  exact hst

theorem load_out {α : Type} {Q : α → sProp 𝕄} (lo sz : ℕ) {off : Fin 2 → ℕ} (ho : off = ![lo, 0]) {k : ((⟨2, ![sz, 2048]⟩ : Shape).Idx → El F) → Prog (TpuEff nD τ sig (Elt F) Λ₀ .tc) α}
    {h : ∀ a, off a + (⟨2, ![sz, 2048]⟩ : Shape).size a ≤ S2048x2048.size a}
    {hl : oM.view.LoadsAt (Rect.unit (s := S2048x2048) off (⟨2, ![sz, 2048]⟩ : Shape).size h).toLoadRect} :
    outAny (F := F) c lo sz ⊢ iprop((∀ w, outAny (F := F) c lo sz -∗ wpc c (k w) Q)
      -∗ wpc c (.op (.load oM (Rect.unit (s := S2048x2048) off (⟨2, ![sz, 2048]⟩ : Shape).size h).toLoadRect hl) k) Q) := by
  subst ho
  have hst := fun f => wp_load_rect (defs := defs₀ (F := F)) (Γ := .empty) 𝒱₀ (c : Thread nD τ) none Set.univ (Q := Q) (k := k) (m := oM) (r := Rect.unit (s := S2048x2048) ![lo, 0] (⟨2, ![sz, 2048]⟩ : Shape).size h) (hl := hl)
    (S := rows lo sz) (q := fullShare) (f := f) (le_of_eq ((View.set_slice_whole _ _).trans (rows_rect sz lo h)))
  unfold outAny anyOn
  iintro ⟨%f, H⟩ Hk
  iapply (hst f) $$ [H]
  · iexact H
  iintro H
  iapply Hk
  iexists f; iexact H

theorem load_outP {α : Type} {Q : α → sProp 𝕄} (lo lo0 : ℕ) {off : Fin 2 → ℕ} (ho : off = ![lo, 0]) {k : (S256x2048.Idx → El F) → Prog (TpuEff nD τ sig (Elt F) Λ₀ .tc) α}
    {h : ∀ a, off a + S256x2048.size a ≤ S2048x2048.size a}
    {hl : oM.view.LoadsAt (Rect.unit (s := S2048x2048) off S256x2048.size h).toLoadRect} (V : ℕ → ℕ → El F) :
    outP c fullShare lo 256 (f2 lo0 V) ⊢ iprop((outP c fullShare lo 256 (f2 lo0 V) -∗ wpc c (k fun j => V (lo + (j 0).val - lo0) (j 1).val) Q)
      -∗ wpc c (.op (.load oM (Rect.unit (s := S2048x2048) off S256x2048.size h).toLoadRect hl) k) Q) := by
  subst ho
  have hst := wp_load_rect (defs := defs₀ (F := F)) (Γ := .empty) 𝒱₀ (c : Thread nD τ) none Set.univ (Q := Q) (k := k) (m := oM) (r := Rect.unit (s := S2048x2048) ![lo, 0] S256x2048.size h) (hl := hl)
    (S := rows lo 256) (q := fullShare) (f := (f2 lo0 V : S2048x2048.Idx → El F)) (le_of_eq ((View.set_slice_whole _ _).trans (rows_rect 256 lo h)))
  have hr : (oM.access (Rect.unit (s := S2048x2048) ![lo, 0] S256x2048.size h)).read (Elt F) (f2 lo0 V : S2048x2048.Idx → El F) = fun j => V (lo + (j 0).val - lo0) (j 1).val := funext fun j => by
    rw [View.read_apply, cast_eq]
    have e0 := ValueKit.view_emb_slice_whole_unit_val cc0_stg1_0 ![lo, 0] S256x2048.size h j 0
    have e1 := ValueKit.view_emb_slice_whole_unit_val cc0_stg1_0 ![lo, 0] S256x2048.size h j 1
    exact congrArg₂ V (congrArg (· - lo0) e0) (e1.trans (Nat.zero_add _))
  rw [hr] at hst
  exact hst

theorem store_acc {α : Type} {Q : α → sProp 𝕄} {k : PUnit → Prog (TpuEff nD τ sig (Elt F) Λ₀ .tc) α} (lo : ℕ) {h : ∀ a, ![lo, 0] a + S32x2048.size a ≤ S256x2048.size a} {w : S32x2048.Idx → El F}
    {hx : (aM.access (Rect.unit (s := S256x2048) ![lo, 0] S32x2048.size h)).Stores Finset.univ} {hm} (V V' : ℕ → ℕ → El F) (hw : ∀ y, w y = V' (lo + (y 0).val) (y 1).val) :
    accP c fullShare lo 32 V ⊢ iprop((accP c fullShare lo 32 V' -∗ wpc c (k ⟨⟩) Q)
      -∗ wpc c (.op (.store aM (Rect.unit (s := S256x2048) ![lo, 0] S32x2048.size h) w Finset.univ hx hm) k) Q) := by
  have hst := wp_store (defs := defs₀ (F := F)) (Γ := .empty) 𝒱₀ (c : Thread nD τ) none Set.univ (Q := Q) (k := k) (m := aM) (r := Rect.unit (s := S256x2048) ![lo, 0] S32x2048.size h) (w := w) (Mk := Finset.univ) (hx := hx) (hm := hm)
    (S := rows lo 32) (f := (f2 0 V : S256x2048.Idx → El F)) (by rw [View.setOn_univ]; exact le_of_eq (accV_set lo h))
  have e := acc_stored c lo h (f2 0 V : S256x2048.Idx → El F) w V' hw
  unfold accP at e ⊢
  rw [← e]
  exact hst

theorem store_out {α : Type} {Q : α → sProp 𝕄} {k : PUnit → Prog (TpuEff nD τ sig (Elt F) Λ₀ .tc) α} (lo sz lo0 : ℕ) {off : Fin 2 → ℕ} (ho : off = ![lo, 0]) {h : ∀ a, off a + (⟨2, ![sz, 2048]⟩ : Shape).size a ≤ S2048x2048.size a} {w : (⟨2, ![sz, 2048]⟩ : Shape).Idx → El F}
    {hx : (oM.access (Rect.unit (s := S2048x2048) off (⟨2, ![sz, 2048]⟩ : Shape).size h)).Stores Finset.univ} {hm} (V' : ℕ → ℕ → El F) (hw : ∀ y, w y = V' (lo + (y 0).val - lo0) (y 1).val) :
    outAny (F := F) c lo sz ⊢ iprop((outP c fullShare lo sz (f2 lo0 V') -∗ wpc c (k ⟨⟩) Q)
      -∗ wpc c (.op (.store oM (Rect.unit (s := S2048x2048) off (⟨2, ![sz, 2048]⟩ : Shape).size h) w Finset.univ hx hm) k) Q) := by
  subst ho
  have hst := fun f => wp_store (defs := defs₀ (F := F)) (Γ := .empty) 𝒱₀ (c : Thread nD τ) none Set.univ (Q := Q) (k := k) (m := oM) (r := Rect.unit (s := S2048x2048) ![lo, 0] (⟨2, ![sz, 2048]⟩ : Shape).size h) (w := w) (Mk := Finset.univ) (hx := hx) (hm := hm)
    (S := rows lo sz) (f := f) (by rw [View.setOn_univ]; exact le_of_eq ((View.set_slice_whole _ _).trans (rows_rect sz lo h)))
  have e := fun f => out_stored c sz lo lo0 h f w V' hw
  unfold outAny anyOn
  iintro ⟨%f, H⟩ Hk
  iapply (hst f) $$ [H]
  · iexact H
  iintro H
  iapply Hk
  rw [← e f]; iexact H

end Loads

/-! ## Copies and sends of the pieces -/

/-- An array of the device's own memory that nobody writes: some share of it. -/
def hbm (c : Dev nD) (b : Ref sig .tc) : sProp 𝕄 := iprop(∃ q : PosShare TreeShare, bufL c b ↦[Finset.univ]{q} m (bufL c b))

theorem hbm_two (c : Dev nD) (b : Ref sig .tc) : hbm m c b ⊢ iprop(hbm m c b ∗ hbm m c b) := by
  unfold hbm
  iintro ⟨%q, H⟩
  ihave H := (pointsTo_share (PosShare.mem_left_op_right q)).1 $$ H
  icases H with ⟨H1, H2⟩
  isplitl [H1]
  · iexists _; iexact H1
  · iexists _; iexact H2

theorem step_copy (c : Dev nD) {α : Type} {Q : α → sProp 𝕄} {k : PUnit → Prog (TpuEff nD τ sig (Elt F) Λ₀ .tc) α}
    (cl : Cell) (r : ℕ) (t : Fin 4) (b : Ref sig .tc) (hne : ∃ x, cl.toSem = .dma x) {sp sp' : Space} {s : Shape} {src : Memref sig (c : Thread nD τ).2.kind sp s .f32} {dst : Memref sig (c : Thread nD τ).2.kind sp' s .f32} {sem : SemLoc sig}
    {hsrc : src.view.WordExact} {hdst : dst.view.WordExact} {hsem : DmaTarget.Typed (nD := nD) sp sem (.here dst)}
    (hS : sem = cl.toSem) (fs : Buf (Elt F) (src.view.loc (c : Thread nD τ)))
    (hP : hbm m c b ⊢ iprop(∃ q, src.view.loc (c : Thread nD τ) ↦[src.view.set]{q} fs)) (D : sProp 𝕄)
    (hD : D ⊢ iprop(∃ fd, dst.view.loc (c : Thread nD τ) ↦[dst.view.set]{fullShare} fd)) (hN : dst.view.dmaCredit = amtC cl) (hd : t ∈ dutC c cl r)
    (h₂ : ∀ fd, (dst.view.loc (c : Thread nD τ) ↦[dst.view.set]{fullShare} (dst.view.write (Elt F) fd (src.view.read (Elt F) fs) Finset.univ)) ⊢ payC m c cl r t) :
    iprop(recs m κ ι ∗ hbm m c b ∗ D ∗ dutyTok ER (cellAt c cl) r t ∗ reached ER (cellAt c cl) r)
      ⊢ iprop(((hbm m c b ∗ cred (tallyAt (cellAt c cl) 0 (amtC cl))) -∗ wpc c (k ⟨⟩) Q)
          -∗ wpc c (.op (.enqueueDma src (.here dst) sem hsrc hdst hsem) k) Q) := by
  subst hS
  have hst := fun q fd => Rounds.wp_copy_pointsTo 𝒱₀ ER (Rd m) (defs := defs₀ (F := F)) (Γ := .empty) (Es := Set.univ) (c : Thread nD τ) none (Q := Q) (k := k) (κ := κ (c, cl))
    (src := src) (dst := dst) (hsrc := hsrc) (hdst := hdst) (hsem := hsem) (r := r) (d := t) (fs := fs) (fd := fd) (q := q) (sem := cl.toSem)
    (by rw [show ((c : Thread nD τ), cl.toSem) = cellAt c cl from rfl, duties_at]; exact hd)
    0 (amtC cl) (by obtain ⟨x, hx⟩ := hne; rw [hx]; exact hN) (amount_at m c cl r t)
    (by
      refine BIBase.Entails.trans ?_ (Entails.of_eq (payload_at m c cl r t).symm)
      refine BIBase.Entails.trans ?_ (h₂ fd)
      iintro ⟨H, -⟩; iexact H)
  iintro ⟨#HR, Hb, HD, Ht, Hr⟩ Hk
  ihave HD := hD $$ HD
  icases HD with ⟨%fd, HD⟩
  ihave Hb := (hbm_two m c b) $$ Hb
  icases Hb with ⟨Hb, Hb'⟩
  ihave HP := hP $$ Hb'
  icases HP with ⟨%q, HP⟩
  iapply (hst q fd) $$ [HP HD Ht Hr]
  · isplitr; · iapply (recs_inv m κ ι c cl); iexact HR
    isplitl [HP]; · iexact HP
    isplitl [HD]; · iexact HD
    isplitl [Ht]; · iexact Ht
    iexact Hr
  iintro Hc
  iapply Hk
  iframe

end Cert.Proto

end
-- ==== Proof.Sends.lean ====
module

public import proofs.«01_k».proof.Proof.Local

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

section Sends

variable (c : Dev nD)

/-- Piece s of the accumulator to a landing place. -/
theorem send_acc {α : Type} {Q : α → sProp 𝕄} {k : PUnit → Prog (TpuEff nD τ sig (Elt F) Λ₀ .tc) α}
    (row : Row) (l : List Row) (s : Fin 8) (p : Fin 2) (t₂ : Fin 4) (V : ℕ → ℕ → El F) {n : Dev nD} (hn : n = row.dir.tgt c) {sS sem : SemLoc sig} {h h'}
    {hsc : (commV s.val p.val h' : Memref sig (Dev.tc n : Thread nD τ).2.kind _ _ _).view.ref.isScScratch = false} {hsrc : (accV (32 * s.val) h).view.WordExact} {hdst : (commV s.val p.val h').view.WordExact}
    {hsem : DmaTarget.Typed .vmem sem (.remote (Dev.tc n : Thread nD τ) (commV s.val p.val h') sS hsc)}
    (hS : sS = (Cell.aS s p).toSem) (hR : sem = row.cell.toSem) (hcell : row.cell = .aR s p)
    (hd₁ : (0 : Fin 4) ∈ dutC c (.aS s p) 0) (hd₂ : t₂ ∈ dutC (row.dir.tgt c) row.cell 0)
    (h₁ : accP c fullShare (32 * s.val) 32 V ⊢ payC m c (.aS s p) 0 0) (h₂ : commP (row.dir.tgt c) s.val p.val V ⊢ payC m (row.dir.tgt c) row.cell 0 t₂) :
    iprop(recs m κ ι ∗ owesL c (row :: l) ∗ accP c fullShare (32 * s.val) 32 V ∗ commAny (row.dir.tgt c) s.val p.val ∗ dutyTok ER (cellAt c (.aS s p)) 0 0
        ∗ dutyTok ER (cellAt (row.dir.tgt c) row.cell) 0 t₂)
      ⊢ iprop(((owesL c l ∗ cred (tallyAt (cellAt c (.aS s p)) 0 (amtC (.aS s p)))) -∗ wpc c (k ⟨⟩) Q)
          -∗ wpc c (.op (.enqueueDma (accV (32 * s.val) h) (.remote (Dev.tc n : Thread nD τ) (commV s.val p.val h') sS hsc) sem hsrc hdst hsem) k) Q) := by
  subst hn
  have hst := step_send m κ ι c (Q := Q) (k := k) row l (.aS s p) 0 0 0 t₂ 0 rfl hS hR (src := accV (32 * s.val) h) (dst := commV s.val p.val h') (hsc := hsc) (hsrc := hsrc) (hdst := hdst) (hsem := hsem)
    (q := fullShare) (fs := (f2 0 V : S256x2048.Idx → El F)) (accP c fullShare (32 * s.val) 32 V) (commAny (row.dir.tgt c) s.val p.val)
    (by unfold accP; rw [accV_set]) (by unfold commAny; rw [commV_set]) (by rw [hcell]; exact NQ_comm _ _ _) (by rw [hcell]; rfl) hd₁ hd₂ (by rw [hcell]; exact ⟨_, rfl⟩) h₁
    (fun fd => (Entails.of_eq (comm_landed (row.dir.tgt c) s.val p.val h' fd _ V fun y => accV_read (32 * s.val) h V y)).trans h₂)
  iintro ⟨#HR, HO, HP, HD, Ht1, Ht2⟩ Hk
  iapply hst $$ [HO HP HD Ht1 Ht2]
  · isplitr; · iexact HR
    isplitl [HO]; · iexact HO
    isplitl [HP]; · iexact HP
    isplitl [HD]; · iexact HD
    isplitl [Ht1]; · iexact Ht1
    isplitr; · iapply (recs_reached m κ ι); iexact HR
    isplitl [Ht2]; · iexact Ht2
    iapply (recs_reached m κ ι); iexact HR
  iexact Hk

/-- Piece s of a device's own rows of the result to the partner's landing place. -/
theorem send_own {α : Type} {Q : α → sProp 𝕄} {k : PUnit → Prog (TpuEff nD τ sig (Elt F) Λ₀ .tc) α}
    (row : Row) (l : List Row) (s : Fin 8) (t₂ : Fin 4) (lo : ℕ) (q : PosShare TreeShare) (V : ℕ → ℕ → El F) {n : Dev nD} (hn : n = row.dir.tgt c) {sS sem : SemLoc sig}
    {off : Fin 2 → ℕ} (ho : off = ![lo + 32 * s.val, 0]) {h : ∀ a, off a + S32x2048.size a ≤ S2048x2048.size a} {h'}
    {hsc : (commV s.val 1 h' : Memref sig (Dev.tc n : Thread nD τ).2.kind _ _ _).view.ref.isScScratch = false}
    {hsrc : (oM.slice (Rect.unit (s := S2048x2048) off S32x2048.size h) (fun _ => rfl)).view.WordExact} {hdst : (commV s.val 1 h').view.WordExact}
    {hsem : DmaTarget.Typed .vmem sem (.remote (Dev.tc n : Thread nD τ) (commV s.val 1 h') sS hsc)}
    (hS : sS = (Cell.aS s 1).toSem) (hR : sem = row.cell.toSem) (hcell : row.cell = .aR s 1)
    (hd₁ : (0 : Fin 4) ∈ dutC c (.aS s 1) 1) (hd₂ : t₂ ∈ dutC (row.dir.tgt c) row.cell 0)
    (h₁ : outP c q (lo + 32 * s.val) 32 (f2 lo V) ⊢ payC m c (.aS s 1) 1 0) (h₂ : commP (row.dir.tgt c) s.val 1 V ⊢ payC m (row.dir.tgt c) row.cell 0 t₂) :
    iprop(recs m κ ι ∗ owesL c (row :: l) ∗ outP c q (lo + 32 * s.val) 32 (f2 lo V) ∗ commAny (row.dir.tgt c) s.val 1 ∗ dutyTok ER (cellAt c (.aS s 1)) 1 0 ∗ reached ER (cellAt c (.aS s 1)) 1
        ∗ dutyTok ER (cellAt (row.dir.tgt c) row.cell) 0 t₂)
      ⊢ iprop(((owesL c l ∗ cred (tallyAt (cellAt c (.aS s 1)) 0 (amtC (.aS s 1)))) -∗ wpc c (k ⟨⟩) Q)
          -∗ wpc c (.op (.enqueueDma (oM.slice (Rect.unit (s := S2048x2048) off S32x2048.size h) (fun _ => rfl)) (.remote (Dev.tc n : Thread nD τ) (commV s.val 1 h') sS hsc) sem hsrc hdst hsem) k) Q) := by
  subst hn ho
  have hst := step_send m κ ι c (Q := Q) (k := k) row l (.aS s 1) 1 0 0 t₂ 0 rfl hS hR (src := outQ (lo + 32 * s.val) h) (dst := commV s.val 1 h') (hsc := hsc) (hsrc := hsrc) (hdst := hdst) (hsem := hsem)
    (q := q) (fs := (f2 lo V : S2048x2048.Idx → El F)) (outP c q (lo + 32 * s.val) 32 (f2 lo V)) (commAny (row.dir.tgt c) s.val 1)
    (by unfold outP; rw [outQ_set]) (by unfold commAny; rw [commV_set]) (by rw [hcell]; exact NQ_comm _ _ _) (by rw [hcell]; rfl) hd₁ hd₂ (by rw [hcell]; exact ⟨_, rfl⟩) h₁
    (fun fd => (Entails.of_eq (comm_landed (row.dir.tgt c) s.val 1 h' fd _ V fun y =>
      (outQ_read (lo + 32 * s.val) lo h V y).trans (by rw [Nat.add_assoc, Nat.add_sub_cancel_left]))).trans h₂)
  iintro ⟨#HR, HO, HP, HD, Ht1, Hr1, Ht2⟩ Hk
  iapply hst $$ [HO HP HD Ht1 Hr1 Ht2]
  · isplitr; · iexact HR
    isplitl [HO]; · iexact HO
    isplitl [HP]; · iexact HP
    isplitl [HD]; · iexact HD
    isplitl [Ht1]; · iexact Ht1
    isplitl [Hr1]; · iexact Hr1
    isplitl [Ht2]; · iexact Ht2
    iapply (recs_reached m κ ι); iexact HR
  iexact Hk

theorem rowR_tgt (d k j : Fin 2) (h : ℕ) : (rowR d k j h).dir.tgt c = nxt d c := rfl

/-- Half j of a device's own rows into the ring. -/
theorem send_half {α : Type} {Q : α → sProp 𝕄} {k : PUnit → Prog (TpuEff nD τ sig (Elt F) Λ₀ .tc) α} : ∀ (d j : Fin 2) (l : List Row) {n : Dev nD} (hn : n = nxt d c) {sS sem : SemLoc sig}
    {off : Fin 2 → ℕ} (ho : off = ![row0 (pos c) + 128 * j.val, 0]) {h : ∀ a, off a + S128x2048.size a ≤ S2048x2048.size a} {h'}
    {hsc : (ringV d 0 j.val h' : Memref sig (Dev.tc n : Thread nD τ).2.kind _ _ _).view.ref.isScScratch = false}
    {hsrc : (oM.slice (Rect.unit (s := S2048x2048) off S128x2048.size h) (fun _ => rfl)).view.WordExact} {hdst : (ringV d 0 j.val h').view.WordExact}
    {hsem : DmaTarget.Typed .vmem sem (.remote (Dev.tc n : Thread nD τ) (ringV d 0 j.val h') sS hsc)}
    (hS : sS = (Cell.rS d 0 j).toSem) (hR : sem = (Cell.rR d 0 j).toSem),
    iprop(recs m κ ι ∗ owesL c (rowR d 0 j 0 :: l) ∗ outP c (qR d) (row0 (pos c) + 128 * j.val) 128 (f2 (row0 (pos c)) (S m c)) ∗ ringAny d (nxt d c) 0 j.val
        ∗ dutyTok ER (cellAt c (.rS d 0 j)) 0 0 ∗ dutyTok ER (cellAt (nxt d c) (.rR d 0 j)) 0 0)
      ⊢ iprop(((owesL c l ∗ cred (tallyAt (cellAt c (.rS d 0 j)) 0 NH)) -∗ wpc c (k ⟨⟩) Q)
          -∗ wpc c (.op (.enqueueDma (oM.slice (Rect.unit (s := S2048x2048) off S128x2048.size h) (fun _ => rfl)) (.remote (Dev.tc n : Thread nD τ) (ringV d 0 j.val h') sS hsc) sem hsrc hdst hsem) k) Q)
  | 0, j, l, n, hn, sS, sem, off, ho, h, h', hsc, hsrc, hdst, hsem, hS, hR => by
    subst hn ho
    have hst := step_send m κ ι c (Q := Q) (k := k) (rowR 0 0 j 0) l (.rS 0 0 j) 0 0 0 0 0 rfl hS hR (src := outH (row0 (pos c) + 128 * j.val) h) (dst := ringV 0 0 j.val h') (hsc := hsc) (hsrc := hsrc) (hdst := hdst) (hsem := hsem)
      (q := qR 0) (fs := (f2 (row0 (pos c)) (S m c) : S2048x2048.Idx → El F)) (outP c (qR 0) (row0 (pos c) + 128 * j.val) 128 (f2 (row0 (pos c)) (S m c))) (ringAny 0 (nxt 0 c) 0 j.val)
      (by unfold outP; rw [outH_set]) (by unfold ringAny Release.slot; rw [ringV_set0]; exact BI.Entails.refl _) (NH_ring 0 _ _ _) rfl (by simp [dutC]) (by simp [dutC, rowR]) ⟨_, rfl⟩ (BI.Entails.refl _)
      (fun fd => (Entails.of_eq (ring_landed0 (nxt 0 c) 0 j.val h' fd _ (S m c) fun y =>
        (outH_read (row0 (pos c) + 128 * j.val) (row0 (pos c)) h _ y).trans (by rw [Nat.add_assoc, Nat.add_sub_cancel_left]))).trans
          (Entails.of_eq (by show _ = ringP 0 (nxt 0 c) fullShare 0 j.val (S m (back 0 (nxt 0 c) (0 + 1))); rw [back_succ]; rfl)))
    iintro ⟨#HR, HO, HP, HD, Ht1, Ht2⟩ Hk
    iapply hst $$ [HO HP HD Ht1 Ht2]
    · isplitr; · iexact HR
      isplitl [HO]; · iexact HO
      isplitl [HP]; · iexact HP
      isplitl [HD]; · iexact HD
      isplitl [Ht1]; · iexact Ht1
      isplitr; · iapply (recs_reached m κ ι); iexact HR
      isplitl [Ht2]; · iexact Ht2
      iapply (recs_reached m κ ι); iexact HR
    iexact Hk
  | 1, j, l, n, hn, sS, sem, off, ho, h, h', hsc, hsrc, hdst, hsem, hS, hR => by
    subst hn ho
    have hst := step_send m κ ι c (Q := Q) (k := k) (rowR 1 0 j 0) l (.rS 1 0 j) 0 0 0 0 0 rfl hS hR (src := outH (row0 (pos c) + 128 * j.val) h) (dst := ringV 1 0 j.val h') (hsc := hsc) (hsrc := hsrc) (hdst := hdst) (hsem := hsem)
      (q := qR 1) (fs := (f2 (row0 (pos c)) (S m c) : S2048x2048.Idx → El F)) (outP c (qR 1) (row0 (pos c) + 128 * j.val) 128 (f2 (row0 (pos c)) (S m c))) (ringAny 1 (nxt 1 c) 0 j.val)
      (by unfold outP; rw [outH_set]) (by unfold ringAny Release.slot; rw [ringV_set1]; exact BI.Entails.refl _) (NH_ring 1 _ _ _) rfl (by simp [dutC]) (by simp [dutC, rowR]) ⟨_, rfl⟩ (BI.Entails.refl _)
      (fun fd => (Entails.of_eq (ring_landed1 (nxt 1 c) 0 j.val h' fd _ (S m c) fun y =>
        (outH_read (row0 (pos c) + 128 * j.val) (row0 (pos c)) h _ y).trans (by rw [Nat.add_assoc, Nat.add_sub_cancel_left]))).trans
          (Entails.of_eq (by show _ = ringP 1 (nxt 1 c) fullShare 0 j.val (S m (back 1 (nxt 1 c) (0 + 1))); rw [back_succ]; rfl)))
    iintro ⟨#HR, HO, HP, HD, Ht1, Ht2⟩ Hk
    iapply hst $$ [HO HP HD Ht1 Ht2]
    · isplitr; · iexact HR
      isplitl [HO]; · iexact HO
      isplitl [HP]; · iexact HP
      isplitl [HD]; · iexact HD
      isplitl [Ht1]; · iexact Ht1
      isplitr; · iapply (recs_reached m κ ι); iexact HR
      isplitl [Ht2]; · iexact Ht2
      iapply (recs_reached m κ ι); iexact HR
    iexact Hk

/-- Half j of the slot p that hop h arrived in, on to the next device, as hop h + 1 into slot k of round r. -/
theorem send_ring {α : Type} {Q : α → sProp 𝕄} {kk : PUnit → Prog (TpuEff nD τ sig (Elt F) Λ₀ .tc) α} : ∀ (d k j : Fin 2) (r p h : ℕ) (hh : 2 * r + k.val = h + 1) (hp : p = h % 2) (l : List Row) {n : Dev nD} (hn : n = nxt d c) {sS sem : SemLoc sig} {hb h'}
    {hsc : (ringV d k.val j.val h' : Memref sig (Dev.tc n : Thread nD τ).2.kind _ _ _).view.ref.isScScratch = false}
    {hsrc : (ringV d p j.val hb).view.WordExact} {hdst : (ringV d k.val j.val h').view.WordExact}
    {hsem : DmaTarget.Typed .vmem sem (.remote (Dev.tc n : Thread nD τ) (ringV d k.val j.val h') sS hsc)}
    (hS : sS = (Cell.rS d k j).toSem) (hR : sem = (Cell.rR d k j).toSem) (hdS : (0 : Fin 4) ∈ dutC c (.rS d k j) r),
    iprop(recs m κ ι ∗ owesL c (rowR d k j (h + 1) :: l) ∗ ringP d c fullShare.left p j.val (S m (back d c (h + 1))) ∗ ringAny d (nxt d c) k.val j.val
        ∗ dutyTok ER (cellAt c (.rS d k j)) r 0 ∗ reached ER (cellAt c (.rS d k j)) r ∗ dutyTok ER (cellAt (nxt d c) (.rR d k j)) r 0 ∗ reached ER (cellAt (nxt d c) (.rR d k j)) r)
      ⊢ iprop(((owesL c l ∗ cred (tallyAt (cellAt c (.rS d k j)) 0 NH)) -∗ wpc c (kk ⟨⟩) Q)
          -∗ wpc c (.op (.enqueueDma (ringV d p j.val hb) (.remote (Dev.tc n : Thread nD τ) (ringV d k.val j.val h') sS hsc) sem hsrc hdst hsem) kk) Q)
  | 0, k, j, r, p, h, hh, hp, l, n, hn, sS, sem, hb, h', hsc, hsrc, hdst, hsem, hS, hR, hdS => by
    subst hn hp
    exact step_send m κ ι c (Q := Q) (k := kk) (rowR 0 k j (h + 1)) l (.rS 0 k j) r r 0 0 0 rfl hS hR (src := ringV 0 (h % 2) j.val hb) (dst := ringV 0 k.val j.val h') (hsc := hsc) (hsrc := hsrc) (hdst := hdst) (hsem := hsem)
      (q := fullShare.left) (fs := (f3 (S m (back 0 c (h + 1))) : S2x256x2048.Idx → El F)) (ringP 0 c fullShare.left (h % 2) j.val (S m (back 0 c (h + 1)))) (ringAny 0 (nxt 0 c) k.val j.val)
      (by unfold ringP; rw [ringV_set0]) (by unfold ringAny Release.slot; rw [ringV_set0]; exact BI.Entails.refl _) (NH_ring 0 _ _ _) rfl hdS hdS ⟨_, rfl⟩
      (by unfold payC; dsimp only; rw [hh, if_neg (Nat.succ_ne_zero h), show (h + 1 + 1) % 2 = h % 2 by omega])
      (fun fd => (Entails.of_eq (ring_landed0 (nxt 0 c) k.val j.val h' fd _ (S m (back 0 c (h + 1))) fun y => ringV_read0 (h % 2) j.val hb _ y)).trans
          (Entails.of_eq (by show _ = ringP 0 (nxt 0 c) fullShare k.val j.val (S m (back 0 (nxt 0 c) (2 * r + k.val + 1))); rw [hh, back_succ])))
  | 1, k, j, r, p, h, hh, hp, l, n, hn, sS, sem, hb, h', hsc, hsrc, hdst, hsem, hS, hR, hdS => by
    subst hn hp
    exact step_send m κ ι c (Q := Q) (k := kk) (rowR 1 k j (h + 1)) l (.rS 1 k j) r r 0 0 0 rfl hS hR (src := ringV 1 (h % 2) j.val hb) (dst := ringV 1 k.val j.val h') (hsc := hsc) (hsrc := hsrc) (hdst := hdst) (hsem := hsem)
      (q := fullShare.left) (fs := (f3 (S m (back 1 c (h + 1))) : S2x256x2048.Idx → El F)) (ringP 1 c fullShare.left (h % 2) j.val (S m (back 1 c (h + 1)))) (ringAny 1 (nxt 1 c) k.val j.val)
      (by unfold ringP; rw [ringV_set1]) (by unfold ringAny Release.slot; rw [ringV_set1]; exact BI.Entails.refl _) (NH_ring 1 _ _ _) rfl hdS hdS ⟨_, rfl⟩
      (by unfold payC; dsimp only; rw [hh, if_neg (Nat.succ_ne_zero h), show (h + 1 + 1) % 2 = h % 2 by omega])
      (fun fd => (Entails.of_eq (ring_landed1 (nxt 1 c) k.val j.val h' fd _ (S m (back 1 c (h + 1))) fun y => ringV_read1 (h % 2) j.val hb _ y)).trans
          (Entails.of_eq (by show _ = ringP 1 (nxt 1 c) fullShare k.val j.val (S m (back 1 (nxt 1 c) (2 * r + k.val + 1))); rw [hh, back_succ])))

end Sends

/-! ## A family worked off in order -/

/-- Of n things `A 0, A 1, …`, the first `i` have become `B`. -/
def fam {N : ℕ} (A B : Fin N → sProp 𝕄) (i : ℕ) : sProp 𝕄 := bigSep Finset.univ fun s : Fin N => if s.val < i then B s else A s

omit [FloatOps F] in
theorem fam_zero {N : ℕ} (A B : Fin N → sProp 𝕄) : fam A B 0 = bigSep Finset.univ A := by
  unfold fam; simp only [Nat.not_lt_zero, if_false]
omit [FloatOps F] in
theorem fam_all {N : ℕ} (A B : Fin N → sProp 𝕄) : fam A B N = bigSep Finset.univ B := by
  unfold fam; exact BI.bigSep_congr fun s _ => if_pos s.isLt

omit [FloatOps F] in
theorem fam_take {N : ℕ} (A B : Fin N → sProp 𝕄) (i : Fin N) : fam A B i.val ⊢ iprop(A i ∗ (B i -∗ fam A B (i.val + 1))) := by
  have h₁ : fam A B i.val = iprop(A i ∗ bigSep (Finset.univ.erase i) fun s : Fin N => if s.val < i.val then B s else A s) := by
    unfold fam
    refine (BI.bigSep_erase (Finset.mem_univ i)).trans ?_
    rw [if_neg (Nat.lt_irrefl _)]; rfl
  have h₂ : fam A B (i.val + 1) = iprop(B i ∗ bigSep (Finset.univ.erase i) fun s : Fin N => if s.val < i.val then B s else A s) := by
    unfold fam
    refine (BI.bigSep_erase (Finset.mem_univ i)).trans ?_
    rw [if_pos (Nat.lt_succ_self _), BI.bigSep_congr (Ψ := fun s : Fin N => if s.val < i.val then B s else A s) fun s hs => ?_]; · rfl
    have hne : s.val ≠ i.val := Fin.val_ne_of_ne (Finset.ne_of_mem_erase hs)
    by_cases h : s.val < i.val
    · rw [if_pos h, if_pos (by omega)]
    · rw [if_neg h, if_neg (by omega)]
  rw [h₁, h₂]
  iintro ⟨Ha, H⟩
  isplitl [Ha]; · iexact Ha
  iintro Hb
  iframe

end Cert.Proto

end
-- ==== Proof.Edge.lean ====
module

public import proofs.«01_k».proof.Proof.Sends

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## The rows still to be paid, phase by phase -/

/-- What a device pays once its own rows are under way. -/
def rowsRing : List Row :=
  [rowR 0 1 0 1, rowR 1 1 0 1, rowR 0 1 1 1, rowR 1 1 1 1,
   rowCr 0 0 1, rowR 0 0 0 2, rowCr 1 0 1, rowR 1 0 0 2, rowCr 0 1 1, rowR 0 0 1 2, rowCr 1 1 1, rowR 1 0 1 2,
   rowCr 0 0 2, rowR 0 1 0 3, rowCr 1 1 2, rowR 1 1 1 3]

/-- The last half of its own rows, then the ring. -/
abbrev rowsHalf : List Row := rowR 0 0 1 0 :: rowR 1 0 1 0 :: rowsRing

/-- Both halves of its own rows, then the ring. -/
abbrev rowsBoth : List Row := rowR 0 0 0 0 :: rowR 1 0 0 0 :: rowsHalf

/-- What a device on an end plane pays from its first send on. -/
abbrev rowsEdge : List Row :=
  rowRd 0 :: rowRd 1 :: rowRd 2 :: rowRd 3 :: rowRd 4 :: rowRd 5 :: rowRd 6 :: rowRd 7 :: rowsBoth

/-- What a device on a middle plane pays from its first send on. -/
abbrev rowsFin1 : List Row := rowFin 4 :: rowFin 5 :: rowFin 6 :: rowFin 7 :: rowsHalf
abbrev rowsFin0 : List Row := rowFin 0 :: rowFin 1 :: rowFin 2 :: rowFin 3 :: rowR 0 0 0 0 :: rowR 1 0 0 0 :: rowsFin1
abbrev rowsMid : List Row :=
  rowEx 0 :: rowEx 1 :: rowEx 2 :: rowEx 3 :: rowEx 4 :: rowEx 5 :: rowEx 6 :: rowEx 7 :: rowsFin0

/-! ## What a phase leaves behind -/

/-- A cell that receives nothing any more. -/
def shut (cl : Cell) : sProp 𝕄 := iprop(∃ r, ⌜∀ r', r ≤ r' → dutC c cl r' = ∅⌝ ∗ atPos ER (cellAt c cl) r ∅ 0)

theorem shut_at (cl : Cell) (r : ℕ) (h : ∀ r', r ≤ r' → dutC c cl r' = ∅) : (atPos ER (cellAt c cl) r ∅ 0 : sProp 𝕄) ⊢ shut (F := F) c cl := by
  unfold shut; iintro H; iexists r; isplitr; · ipureintro; exact h
  iexact H

/-- What the first send of half j round ring d takes. -/
def ringStart (d j : Fin 2) : sProp 𝕄 :=
  iprop(ringAny (F := F) d (nxt d c) 0 j.val ∗ dutyTok ER (cellAt c (.rS d 0 j)) 0 0 ∗ dutyTok ER (cellAt (nxt d c) (.rR d 0 j)) 0 0)

def accAny (s : ℕ) : sProp 𝕄 := iprop(∃ V : ℕ → ℕ → El F, accP c fullShare (32 * s) 32 V)

theorem accP_any (s : ℕ) (V : ℕ → ℕ → El F) : accP c fullShare (32 * s) 32 V ⊢ accAny c s := by
  unfold accAny; iintro H; iexists V; iexact H

def ringSent (d j : Fin 2) : sProp 𝕄 := cred (tallyAt (cellAt c (.rS d 0 j)) 0 NH)

/-- After the sum along the column: the device's own rows are in place and on their way round both rings. -/
def ownDone : sProp 𝕄 :=
  iprop((bigSep Finset.univ fun s : Fin 8 => accAny (F := F) c s.val) ∗ commAll (F := F) c 0 ∗ commAll (F := F) c 1
    ∗ (bigSep Finset.univ fun x : Fin 8 × Fin 2 => shut (F := F) c (.aS x.1 x.2)) ∗ (bigSep Finset.univ fun x : Fin 8 × Fin 2 => shut (F := F) c (.aR x.1 x.2))
    ∗ outP c qF (row0 (pos c)) 256 (f2 (row0 (pos c)) (S m c))
    ∗ ringSent (F := F) c 0 0 ∗ ringSent (F := F) c 1 0 ∗ ringSent (F := F) c 0 1 ∗ ringSent (F := F) c 1 1)

section Payloads
variable (s : Fin 8) (r : ℕ) (t : Fin 4)
theorem pay_aS0 : payC m c (.aS s 0) r t = accP c fullShare (32 * s.val) 32 (X m c) := rfl
theorem pay_aS1 : payC m c (.aS s 1) 0 t = accP c fullShare (32 * s.val) 32 (A m c) := rfl
theorem pay_aS1' : payC m c (.aS s 1) 1 t = outP c qF (row0 (pos c) + 32 * s.val) 32 (f2 (row0 (pos c)) (S m c)) := rfl
theorem pay_aR0 : payC m c (.aR s 0) r t = commP c s.val 0 (X m (par c)) := rfl
theorem pay_aR1_edge (h : isMid c = false) : payC m c (.aR s 1) r t = commP c s.val 1 (S m c) := by
  show commP c s.val 1 (if isMid c = true then A m (opp c) else S m c) = _
  rw [h, if_neg (by decide)]
theorem pay_aR1_mid (h : isMid c = true) : payC m c (.aR s 1) r t = commP c s.val 1 (A m (opp c)) := by
  show commP c s.val 1 (if isMid c = true then A m (opp c) else S m c) = _
  rw [h, if_pos rfl]
end Payloads

/-- Quarter i of half j. -/
def qtr (j : Fin 2) (i : Fin 4) : Fin 8 := ⟨4 * j.val + i.val, by omega⟩

/-- Four quarters of a half of the device's own rows are that half. -/
theorem quarters (q : PosShare TreeShare) (j : Fin 2) (f : S2048x2048.Idx → El F) :
    (bigSep Finset.univ fun i : Fin 4 => outP c q (row0 (pos c) + 32 * (qtr j i).val) 32 f) = outP c q (row0 (pos c) + 128 * j.val) 128 f := by
  rw [show (128 : ℕ) = 32 * 4 from rfl, out_parts]
  refine BI.bigSep_congr fun i _ => ?_
  rw [show row0 (pos c) + 32 * (qtr j i).val = row0 (pos c) + 32 * 4 * j.val + 32 * i.val by unfold qtr; dsimp only; omega]

/-- Two halves are the whole. -/
theorem halves (q : PosShare TreeShare) (f : S2048x2048.Idx → El F) :
    outP c q (row0 (pos c)) 256 f = iprop(outP c q (row0 (pos c) + 128 * (0 : Fin 2).val) 128 f ∗ outP c q (row0 (pos c) + 128 * (1 : Fin 2).val) 128 f) := by
  rw [show (256 : ℕ) = 128 * 2 from rfl, out_parts]
  exact BI.bigSep_univ_two _

/-- Eight things are two halves of four. -/
theorem eight_halves (Φ : Fin 8 → sProp 𝕄) :
    bigSep Finset.univ Φ = iprop((bigSep Finset.univ fun i : Fin 4 => Φ (qtr 0 i)) ∗ bigSep Finset.univ fun i : Fin 4 => Φ (qtr 1 i)) := by
  rw [BI.bigSep_univ_equiv (finProdFinEquiv : Fin 2 × Fin 4 ≃ Fin 8) Φ, BI.bigSep_univ_prod, BI.bigSep_univ_two]
  have e : ∀ (j : Fin 2) (i : Fin 4), (finProdFinEquiv (j, i) : Fin 8) = qtr j i := by decide
  simp only [e]

/-- The shares of one half that go round the two rings. -/
theorem half_ring (j : Fin 2) (f : S2048x2048.Idx → El F) :
    outP c fullShare.right (row0 (pos c) + 128 * j.val) 128 f
      ⊢ iprop(outP c (qR 0) (row0 (pos c) + 128 * j.val) 128 f ∗ outP c (qR 1) (row0 (pos c) + 128 * j.val) 128 f) :=
  (outP_share c fullShare.right _ _ f).1

/-! ## The end planes -/

/-- The rows of the accumulator a device on an end plane sends, and what they turn into. -/
def edgeA (s : Fin 8) : sProp 𝕄 :=
  iprop(accP c fullShare (32 * s.val) 32 (X m c) ∗ commAny (F := F) (par c) s.val 0 ∗ dutyTok ER (cellAt c (.aS s 0)) 0 0
    ∗ dutyTok ER (cellAt (par c) (.aR s 0)) 0 0 ∗ atPos ER (cellAt c (.aS s 0)) 0 ∅ 0)
def edgeB (s : Fin 8) : sProp 𝕄 :=
  iprop(cred (tallyAt (cellAt c (.aS s 0)) 0 (amtC (.aS s 0))) ∗ atPos ER (cellAt c (.aS s 0)) 0 ∅ 0)
def edgeC (s : Fin 8) : sProp 𝕄 := iprop(accAny (F := F) c s.val ∗ shut (F := F) c (.aS s 0))

/-- The rows of the result that come back, and what they turn into. -/
def edgeG (s : Fin 8) : sProp 𝕄 :=
  iprop(cred (tallyAt (cellAt c (.aR s 1)) 4 (amtC (.aR s 1))) ∗ atPos ER (cellAt c (.aR s 1)) 0 ∅ 0 ∗ outAny (F := F) c (row0 (pos c) + 32 * s.val) 32)
def edgeH (s : Fin 8) : sProp 𝕄 :=
  iprop((shut (F := F) c (.aR s 1) ∗ commAny (F := F) c s.val 1) ∗ outP c fullShare (row0 (pos c) + 32 * s.val) 32 (f2 (row0 (pos c)) (S m c)))

section Edge

variable (h : isMid c = false)
include h

theorem edge_send {α : Type} {Q : α → sProp 𝕄} {k : PUnit → Prog (TpuEff nD τ sig (Elt F) Λ₀ .tc) α} (s : Fin 8) (l : List Row) {v : ℕ} (hv : v = (par c).val) {hlt : v < nD}
    {sS sem : SemLoc sig} {h0 h'}
    {hsc : (commV s.val 0 h' : Memref sig (Dev.tc (⟨v, hlt⟩ : Dev nD) : Thread nD τ).2.kind _ _ _).view.ref.isScScratch = false} {hsrc : (accV (32 * s.val) h0).view.WordExact} {hdst : (commV s.val 0 h').view.WordExact}
    {hsem : DmaTarget.Typed .vmem sem (.remote (Dev.tc (⟨v, hlt⟩ : Dev nD) : Thread nD τ) (commV s.val 0 h') sS hsc)}
    (hS : sS = (Cell.aS s 0).toSem) (hR : sem = (Cell.aR s 0).toSem) :
    iprop(recs m κ ι ∗ owesL c (rowRd s :: l) ∗ fam (edgeA m c) (edgeB c) s.val)
      ⊢ iprop(((owesL c l ∗ fam (edgeA m c) (edgeB c) (s.val + 1)) -∗ wpc c (k ⟨⟩) Q)
          -∗ wpc c (.op (.enqueueDma (accV (32 * s.val) h0) (.remote (Dev.tc (⟨v, hlt⟩ : Dev nD) : Thread nD τ) (commV s.val 0 h') sS hsc) sem hsrc hdst hsem) k) Q) := by
  iintro ⟨#HR, HO, HF⟩ Hk
  ihave HF := (fam_take (edgeA m c) (edgeB c) s) $$ HF
  icases HF with ⟨Ha, Hn⟩
  unfold edgeA edgeB
  icases Ha with ⟨HP, HD, Ht1, Ht2, Hat⟩
  iapply (send_acc m κ ι c (k := k) (Q := Q) (rowRd s) l s 0 0 (X m c) (Fin.ext hv) hS hR rfl (by simp [dutC, h])
    (by show (0 : Fin 4) ∈ dutC (par c) (.aR s 0) 0; simp [dutC, isMid_par, h]) (Entails.of_eq (pay_aS0 m c s 0 0).symm)
    (by show _ ⊢ payC m (par c) (.aR s 0) 0 0; rw [pay_aR0, par_par]; exact BI.Entails.refl _)) $$ [HO HP HD Ht1 Ht2]
  · isplitr; · iexact HR
    isplitl [HO]; · iexact HO
    isplitl [HP]; · iexact HP
    isplitl [HD]; · iexact HD
    isplitl [Ht1]; · iexact Ht1
    iexact Ht2
  iintro ⟨HO, Hc⟩
  iapply Hk
  isplitl [HO]; · iexact HO
  iapply Hn
  isplitl [Hc]; · iexact Hc
  iexact Hat

/-- Quarter i of half j comes back and goes to its place in the result. -/
theorem edge_recv {α : Type} {Q : α → sProp 𝕄} {k : Prog (TpuEff nD τ sig (Elt F) Λ₀ .tc) α} (j : Fin 2) (i : Fin 4) (l : List Row) {sm : SemLoc sig} (hs : sm = (Cell.aR (qtr j i) 1).toSem)
    {w : TpuEff nD τ sig (Elt F) Λ₀ .tc PUnit} {k' : ℕ} (hw : ∀ K : PUnit → sProp 𝕄, wpE (defs₀ (F := F)) 𝒱₀ (c : Thread nD τ) none Set.univ w K = waitSpec (c : Thread nD τ) Set.univ sm k' K)
    (hk : k' = amtC (.aR (qtr j i) 1)) (hlev : l.all (fun r => decide (4 < r.idx ∧ r.idx < 64)) = true)
    {h0 hl} {off : Fin 2 → ℕ} (ho : off = ![row0 (pos c) + 32 * (qtr j i).val, 0]) {h1 h1' hl1 hx hm} {pay : (S1x1x32x2048.Idx → El F) → S32x2048.Idx → El F}
    (hpay : ∀ (V : ℕ → ℕ → El F) (y), pay (fun x => V (32 * (qtr j i).val + (x 2).val) (x 3).val) y = V (32 * (qtr j i).val + (y 0).val) (y 1).val) :
    iprop(recs m κ ι ∗ owesL c l ∗ fam (fun i => edgeG c (qtr j i)) (fun i => edgeH m c (qtr j i)) i.val)
      ⊢ iprop(((owesL c l ∗ fam (fun i => edgeG c (qtr j i)) (fun i => edgeH m c (qtr j i)) (i.val + 1)) -∗ wpc c k Q)
          -∗ wpc c (.op w fun _ => .op (.load kM (Rect.unit (s := S8x2x32x2048) ![(qtr j i).val, 1, 0, 0] S1x1x32x2048.size h0).toLoadRect hl) fun x =>
            .op (.load oM (Rect.unit (s := S2048x2048) off S32x2048.size h1).toLoadRect hl1) fun _ =>
            .op (.store oM (Rect.unit (s := S2048x2048) off S32x2048.size h1') (pay x) Finset.univ hx hm) fun _ => k) Q) := by
  iintro ⟨#HR, HO, HF⟩ Hk
  ihave HF := (fam_take (fun i => edgeG c (qtr j i)) (fun i => edgeH m c (qtr j i)) i) $$ HF
  icases HF with ⟨Ha, Hn⟩
  unfold edgeG edgeH
  icases Ha with ⟨Hc, Hat, HP⟩
  iapply (step_wait m κ ι c (.aR (qtr j i) 1) 0 1 4 l hs hw hk (by simp [dutC, h]) hlev (by decide)) $$ [HO Hc Hat]
  · isplitr; · iexact HR
    isplitl [HO]; · iexact HO
    isplitl [Hc]; · iexact Hc
    iexact Hat
  iintro ⟨HO, Hat, _, Hp⟩
  ihave Hp := (Entails.of_eq (pay_aR1_edge m c (qtr j i) 0 1 h)) $$ Hp
  iapply (load_comm c (qtr j i).val 1 (S m c)) $$ Hp
  iintro Hp
  iapply (load_out c (row0 (pos c) + 32 * (qtr j i).val) 32 ho) $$ HP
  iintro %w HP
  iapply (store_out c (row0 (pos c) + 32 * (qtr j i).val) 32 (row0 (pos c)) ho (S m c) (fun y => (hpay (S m c) y).trans (by rw [Nat.add_assoc, Nat.add_sub_cancel_left]))) $$ HP
  iintro HP
  iapply Hk
  isplitl [HO]; · iexact HO
  iapply Hn
  isplitr [HP]
  · isplitl [Hat]
    · iapply (shut_at c (.aR (qtr j i) 1) 1 (fun r hr => by simp [dutC, show r ≠ 0 by omega])); iexact Hat
    · iapply (commP_any c _ 1 (S m c)); iexact Hp
  · iexact HP

theorem edge_wait {α : Type} {Q : α → sProp 𝕄} {k : PUnit → Prog (TpuEff nD τ sig (Elt F) Λ₀ .tc) α} (s : Fin 8) (l : List Row) {sm : SemLoc sig} (hs : sm = (Cell.aS s 0).toSem)
    {w : TpuEff nD τ sig (Elt F) Λ₀ .tc PUnit} {k' : ℕ} (hw : ∀ K : PUnit → sProp 𝕄, wpE (defs₀ (F := F)) 𝒱₀ (c : Thread nD τ) none Set.univ w K = waitSpec (c : Thread nD τ) Set.univ sm k' K)
    (hk : k' = amtC (.aS s 0)) (hlev : l.all (fun r => decide (0 < r.idx ∧ r.idx < 64)) = true) :
    iprop(recs m κ ι ∗ owesL c l ∗ fam (edgeB c) (edgeC c) s.val)
      ⊢ iprop(((owesL c l ∗ fam (edgeB c) (edgeC (F := F) c) (s.val + 1)) -∗ wpc c (k ⟨⟩) Q) -∗ wpc c (.op w k) Q) := by
  iintro ⟨#HR, HO, HF⟩ Hk
  ihave HF := (fam_take (edgeB c) (edgeC (F := F) c) s) $$ HF
  icases HF with ⟨Ha, Hn⟩
  unfold edgeB edgeC
  icases Ha with ⟨Hc, Hat⟩
  iapply (step_wait m κ ι c (.aS s 0) 0 0 0 l hs hw hk (by simp [dutC, h]) hlev (by decide)) $$ [HO Hc Hat]
  · isplitr; · iexact HR
    isplitl [HO]; · iexact HO
    isplitl [Hc]; · iexact Hc
    iexact Hat
  iintro ⟨HO, Hat, _, Hp⟩
  iapply Hk
  isplitl [HO]; · iexact HO
  iapply Hn
  isplitl [Hp]
  · iapply (accP_any c s.val (X m c)); iapply (Entails.of_eq (pay_aS0 m c s 0 0)); iexact Hp
  · iapply (shut_at c (.aS s 0) 1 (fun r hr => by simp [dutC, show r ≠ 0 by omega])); iexact Hat

end Edge

end Cert.Proto

end
-- ==== Proof.EdgeRun.lean ====
module

public import proofs.«01_k».proof.Proof.Edge

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-- Reading a piece of a landing place as rows. -/
theorem cast_piece (s : ℕ) (V : ℕ → ℕ → El F) (h) (y : S32x2048.Idx) :
    shapeCast S32x2048 (fun x : S1x1x32x2048.Idx => V (32 * s + (x 2).val) (x 3).val) h y = V (32 * s + (y 0).val) (y 1).val := by
  obtain ⟨a, b, rfl⟩ : ∃ (a : Fin 32) (b : Fin 2048), y = ix2 a b := ⟨y 0, y 1, eq_ix2 y⟩
  exact congrArg (fun x : S1x1x32x2048.Idx => V (32 * s + (x 2).val) (x 3).val) (reshapeEquiv_ix2_11ab _ a b)

variable {h0 : xM.IsWhole} {h1 : rM.IsWhole} {h2 : gM.IsWhole} {h3 : oM.IsWhole} {h4 : aM.IsWhole} {h5 : kM.IsWhole}
  {h6 : (Memref.whole cc0_scratch2 : Memref sig .tc .vmem S2x256x2048 .f32).IsWhole} {h7 : (Memref.whole cc0_scratch3 : Memref sig .tc .vmem S2x256x2048 .f32).IsWhole} {h8 : sM.IsWhole}

/-- What a device on an end plane brings to its sends. -/
def edgeStart : sProp 𝕄 :=
  iprop((bigSep Finset.univ fun s : Fin 8 => edgeA m c s) ∗ (bigSep Finset.univ fun s : Fin 8 => edgeG (F := F) c s)
    ∗ ringStart (F := F) c 0 0 ∗ ringStart (F := F) c 1 0 ∗ ringStart (F := F) c 0 1 ∗ ringStart (F := F) c 1 1
    ∗ commAll (F := F) c 0 ∗ (bigSep Finset.univ fun s : Fin 8 => shut (F := F) c (.aS s 1)) ∗ bigSep Finset.univ fun s : Fin 8 => shut (F := F) c (.aR s 0))

omit [FloatOps F] in
theorem by_slot (Φ : Fin 8 → Fin 2 → sProp 𝕄) :
    iprop((bigSep Finset.univ fun s : Fin 8 => Φ s 0) ∗ bigSep Finset.univ fun s : Fin 8 => Φ s 1) = bigSep Finset.univ fun x : Fin 8 × Fin 2 => Φ x.1 x.2 := by
  rw [BI.bigSep_univ_prod, ← BI.bigSep_sep']
  exact BI.bigSep_congr fun s _ => (BI.bigSep_univ_two _).symm

/-- Four quarters received: the half, with the landing places and the cells. -/
theorem edge_half (j : Fin 2) :
    fam (fun i => edgeG c (qtr j i)) (fun i => edgeH m c (qtr j i)) ((3 : Fin 4).val + 1)
      ⊢ iprop(((bigSep Finset.univ fun i : Fin 4 => shut (F := F) c (.aR (qtr j i) 1)) ∗ bigSep Finset.univ fun i : Fin 4 => commAny (F := F) c (qtr j i).val 1)
        ∗ outP c qF (row0 (pos c) + 128 * j.val) 128 (f2 (row0 (pos c)) (S m c))
        ∗ outP c (qR 0) (row0 (pos c) + 128 * j.val) 128 (f2 (row0 (pos c)) (S m c)) ∗ outP c (qR 1) (row0 (pos c) + 128 * j.val) 128 (f2 (row0 (pos c)) (S m c))) := by
  rw [show (3 : Fin 4).val + 1 = 4 from rfl, fam_all]
  unfold edgeH
  rw [BI.bigSep_sep', BI.bigSep_sep', quarters]
  iintro ⟨H, Ho⟩
  ihave Ho := (outP_share c fullShare (row0 (pos c) + 128 * j.val) 128 (f2 (row0 (pos c)) (S m c))).1 $$ Ho
  icases Ho with ⟨Hl, Hr⟩
  ihave Hr := (half_ring c j (f2 (row0 (pos c)) (S m c))) $$ Hr
  icases Hr with ⟨H0, H1⟩
  iframe

/-- The end planes' part of the column sum. -/
theorem edge_run (h : isMid c = false) (v2 v5 v8 v11 v24 v27 v40 v43 v44 : BitVec 32) (v47 : BitVec 1) (v48 v49 v123 : BitVec 32) :
    iprop(recs m κ ι ∗ owesL c rowsEdge ∗ edgeStart m c)
      ⊢ wpc c (k0_part42 xM h0 rM h1 gM h2 oM h3 aM h4 kM h5 (Memref.whole cc0_scratch2) h6 (Memref.whole cc0_scratch3) h7 sM h8
      cc0_scratch5 cc0_scratch6 cc0_scratch7 cc0_scratch8 cc0_scratch9 cc0_scratch10 cc0_scratch11 cc0_scratch12 cc0_scratch13 cc0_scratch14 c v2 v5 v8 v11 v24 v27 v40 v43 v44 v47 v48 v49 v123) (fun _ => iprop(owesL c rowsRing ∗ ownDone m c)) := by
  obtain ⟨e5, e6, e7, e8, e9, e10, e11, e12, e13, e14, e15, e16⟩ := devs_edge c h
  rw [k0_part42_eq_skeleton, k0_part42_skel, dif_pos (cond3_edge c h), dif_neg (cond4_edge c h)]
  simp only [k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton, k0_part12_skel,
    Prog.lift, Prog.bind_op, Prog.bind_ret, Prog.pure_eq_ret]
  unfold edgeStart ringStart
  rw [eight_halves (fun s => edgeG c s), ← fam_zero (edgeA m c) (edgeB c), ← fam_zero (fun i => edgeG c (qtr 0 i)) (fun i => edgeH m c (qtr 0 i)),
    ← fam_zero (fun i => edgeG c (qtr 1 i)) (fun i => edgeH m c (qtr 1 i))]
  iintro ⟨#HR, HO, HE, ⟨HG, HG'⟩, ⟨R00, T00, T00'⟩, ⟨R10, T10, T10'⟩, ⟨R01, T01, T01'⟩, ⟨R11, T11, T11'⟩, HC, HS, HT⟩
  iapply (edge_send m κ ι c h 0 _ e5 (sem_aS 0 0 _) (sem_aR 0 0 _)) $$ [HO HE]
  · isplitr; · iexact HR
    isplitl [HO]; · iexact HO
    iexact HE
  iintro ⟨HO, HE⟩
  iapply (edge_send m κ ι c h 1 _ e6 (sem_aS 1 0 _) (sem_aR 1 0 _)) $$ [HO HE]
  · isplitr; · iexact HR
    isplitl [HO]; · iexact HO
    iexact HE
  iintro ⟨HO, HE⟩
  iapply (edge_send m κ ι c h 2 _ e7 (sem_aS 2 0 _) (sem_aR 2 0 _)) $$ [HO HE]
  · isplitr; · iexact HR
    isplitl [HO]; · iexact HO
    iexact HE
  iintro ⟨HO, HE⟩
  iapply (edge_send m κ ι c h 3 _ e8 (sem_aS 3 0 _) (sem_aR 3 0 _)) $$ [HO HE]
  · isplitr; · iexact HR
    isplitl [HO]; · iexact HO
    iexact HE
  iintro ⟨HO, HE⟩
  iapply (edge_send m κ ι c h 4 _ e9 (sem_aS 4 0 _) (sem_aR 4 0 _)) $$ [HO HE]
  · isplitr; · iexact HR
    isplitl [HO]; · iexact HO
    iexact HE
  iintro ⟨HO, HE⟩
  iapply (edge_send m κ ι c h 5 _ e10 (sem_aS 5 0 _) (sem_aR 5 0 _)) $$ [HO HE]
  · isplitr; · iexact HR
    isplitl [HO]; · iexact HO
    iexact HE
  iintro ⟨HO, HE⟩
  iapply (edge_send m κ ι c h 6 _ e11 (sem_aS 6 0 _) (sem_aR 6 0 _)) $$ [HO HE]
  · isplitr; · iexact HR
    isplitl [HO]; · iexact HO
    iexact HE
  iintro ⟨HO, HE⟩
  iapply (edge_send m κ ι c h 7 _ e12 (sem_aS 7 0 _) (sem_aR 7 0 _)) $$ [HO HE]
  · isplitr; · iexact HR
    isplitl [HO]; · iexact HO
    iexact HE
  iintro ⟨HO, HE⟩
  iapply (edge_recv m κ ι c h 0 0 rowsBoth (sem_aR 0 1 _) (wpE_waitDma2_eq 𝒱₀ (c : Thread nD τ) none Set.univ) (NQ_comm 0 1 _) (by decide) (offs_own c h 0) (cast_piece 0 · _)) $$ [HO HG]
  · isplitr; · iexact HR
    isplitl [HO]; · iexact HO
    iexact HG
  iintro ⟨HO, HG⟩
  iapply (edge_recv m κ ι c h 0 1 rowsBoth (sem_aR 1 1 _) (wpE_waitDma2_eq 𝒱₀ (c : Thread nD τ) none Set.univ) (NQ_comm 1 1 _) (by decide) (offs_own c h 1) (cast_piece 1 · _)) $$ [HO HG]
  · isplitr; · iexact HR
    isplitl [HO]; · iexact HO
    iexact HG
  iintro ⟨HO, HG⟩
  iapply (edge_recv m κ ι c h 0 2 rowsBoth (sem_aR 2 1 _) (wpE_waitDma2_eq 𝒱₀ (c : Thread nD τ) none Set.univ) (NQ_comm 2 1 _) (by decide) (offs_own c h 2) (cast_piece 2 · _)) $$ [HO HG]
  · isplitr; · iexact HR
    isplitl [HO]; · iexact HO
    iexact HG
  iintro ⟨HO, HG⟩
  iapply (edge_recv m κ ι c h 0 3 rowsBoth (sem_aR 3 1 _) (wpE_waitDma2_eq 𝒱₀ (c : Thread nD τ) none Set.univ) (NQ_comm 3 1 _) (by decide) (offs_own c h 3) (cast_piece 3 · _)) $$ [HO HG]
  · isplitr; · iexact HR
    isplitl [HO]; · iexact HO
    iexact HG
  iintro ⟨HO, HG⟩
  ihave HG := (edge_half m c 0) $$ HG
  icases HG with ⟨HX, HL, P0, P1⟩
  iapply (send_half m κ ι c 0 0 _ (Fin.ext (by exact e13)) (offs_half6 c h 0) (sem_rS 0 0 0 _) (sem_rR 0 0 0 _)) $$ [HO P0 R00 T00 T00']
  · isplitr; · iexact HR
    iframe
  iintro ⟨HO, C00⟩
  iapply (send_half m κ ι c 1 0 _ (Fin.ext (by exact e14)) (offs_half6 c h 0) (sem_rS 1 0 0 _) (sem_rR 1 0 0 _)) $$ [HO P1 R10 T10 T10']
  · isplitr; · iexact HR
    iframe
  iintro ⟨HO, C10⟩
  iapply (edge_recv m κ ι c h 1 0 rowsHalf (sem_aR 4 1 _) (wpE_waitDma2_eq 𝒱₀ (c : Thread nD τ) none Set.univ) (NQ_comm 4 1 _) (by decide) (offs_own c h 4) (cast_piece 4 · _)) $$ [HO HG']
  · isplitr; · iexact HR
    isplitl [HO]; · iexact HO
    iexact HG'
  iintro ⟨HO, HG'⟩
  iapply (edge_recv m κ ι c h 1 1 rowsHalf (sem_aR 5 1 _) (wpE_waitDma2_eq 𝒱₀ (c : Thread nD τ) none Set.univ) (NQ_comm 5 1 _) (by decide) (offs_own c h 5) (cast_piece 5 · _)) $$ [HO HG']
  · isplitr; · iexact HR
    isplitl [HO]; · iexact HO
    iexact HG'
  iintro ⟨HO, HG'⟩
  iapply (edge_recv m κ ι c h 1 2 rowsHalf (sem_aR 6 1 _) (wpE_waitDma2_eq 𝒱₀ (c : Thread nD τ) none Set.univ) (NQ_comm 6 1 _) (by decide) (offs_own c h 6) (cast_piece 6 · _)) $$ [HO HG']
  · isplitr; · iexact HR
    isplitl [HO]; · iexact HO
    iexact HG'
  iintro ⟨HO, HG'⟩
  iapply (edge_recv m κ ι c h 1 3 rowsHalf (sem_aR 7 1 _) (wpE_waitDma2_eq 𝒱₀ (c : Thread nD τ) none Set.univ) (NQ_comm 7 1 _) (by decide) (offs_own c h 7) (cast_piece 7 · _)) $$ [HO HG']
  · isplitr; · iexact HR
    isplitl [HO]; · iexact HO
    iexact HG'
  iintro ⟨HO, HG'⟩
  ihave HG' := (edge_half m c 1) $$ HG'
  icases HG' with ⟨HX', HL', P0, P1⟩
  iapply (send_half m κ ι c 0 1 _ (Fin.ext (by exact e15)) (offs_half6 c h 1) (sem_rS 0 0 1 _) (sem_rR 0 0 1 _)) $$ [HO P0 R01 T01 T01']
  · isplitr; · iexact HR
    iframe
  iintro ⟨HO, C01⟩
  iapply (send_half m κ ι c 1 1 _ (Fin.ext (by exact e16)) (offs_half6 c h 1) (sem_rS 1 0 1 _) (sem_rR 1 0 1 _)) $$ [HO P1 R11 T11 T11']
  · isplitr; · iexact HR
    iframe
  iintro ⟨HO, C11⟩
  ihave HE := (Entails.of_eq (show fam (edgeA m c) (edgeB c) ((7 : Fin 8).val + 1) = fam (edgeB c) (edgeC (F := F) c) (0 : Fin 8).val from
    (fam_all (edgeA m c) (edgeB c)).trans (fam_zero (edgeB c) (edgeC (F := F) c)).symm)) $$ HE
  iapply (edge_wait m κ ι c h 0 rowsRing (sem_aS 0 0 _) (wpE_waitDma2_eq 𝒱₀ (c : Thread nD τ) none Set.univ) (NQ_acc (32 * 0) _) (by decide)) $$ [HO HE]
  · isplitr; · iexact HR
    isplitl [HO]; · iexact HO
    iexact HE
  iintro ⟨HO, HE⟩
  iapply (edge_wait m κ ι c h 1 rowsRing (sem_aS 1 0 _) (wpE_waitDma2_eq 𝒱₀ (c : Thread nD τ) none Set.univ) (NQ_acc (32 * 1) _) (by decide)) $$ [HO HE]
  · isplitr; · iexact HR
    isplitl [HO]; · iexact HO
    iexact HE
  iintro ⟨HO, HE⟩
  iapply (edge_wait m κ ι c h 2 rowsRing (sem_aS 2 0 _) (wpE_waitDma2_eq 𝒱₀ (c : Thread nD τ) none Set.univ) (NQ_acc (32 * 2) _) (by decide)) $$ [HO HE]
  · isplitr; · iexact HR
    isplitl [HO]; · iexact HO
    iexact HE
  iintro ⟨HO, HE⟩
  iapply (edge_wait m κ ι c h 3 rowsRing (sem_aS 3 0 _) (wpE_waitDma2_eq 𝒱₀ (c : Thread nD τ) none Set.univ) (NQ_acc (32 * 3) _) (by decide)) $$ [HO HE]
  · isplitr; · iexact HR
    isplitl [HO]; · iexact HO
    iexact HE
  iintro ⟨HO, HE⟩
  iapply (edge_wait m κ ι c h 4 rowsRing (sem_aS 4 0 _) (wpE_waitDma2_eq 𝒱₀ (c : Thread nD τ) none Set.univ) (NQ_acc (32 * 4) _) (by decide)) $$ [HO HE]
  · isplitr; · iexact HR
    isplitl [HO]; · iexact HO
    iexact HE
  iintro ⟨HO, HE⟩
  iapply (edge_wait m κ ι c h 5 rowsRing (sem_aS 5 0 _) (wpE_waitDma2_eq 𝒱₀ (c : Thread nD τ) none Set.univ) (NQ_acc (32 * 5) _) (by decide)) $$ [HO HE]
  · isplitr; · iexact HR
    isplitl [HO]; · iexact HO
    iexact HE
  iintro ⟨HO, HE⟩
  iapply (edge_wait m κ ι c h 6 rowsRing (sem_aS 6 0 _) (wpE_waitDma2_eq 𝒱₀ (c : Thread nD τ) none Set.univ) (NQ_acc (32 * 6) _) (by decide)) $$ [HO HE]
  · isplitr; · iexact HR
    isplitl [HO]; · iexact HO
    iexact HE
  iintro ⟨HO, HE⟩
  iapply (edge_wait m κ ι c h 7 rowsRing (sem_aS 7 0 _) (wpE_waitDma2_eq 𝒱₀ (c : Thread nD τ) none Set.univ) (NQ_acc (32 * 7) _) (by decide)) $$ [HO HE]
  · isplitr; · iexact HR
    isplitl [HO]; · iexact HO
    iexact HE
  iintro ⟨HO, HE⟩
  ihave HE := (Entails.of_eq (show fam (edgeB c) (edgeC (F := F) c) ((7 : Fin 8).val + 1) = _ from fam_all (edgeB c) (edgeC (F := F) c))) $$ HE
  unfold edgeC
  ihave HE := (Entails.of_eq (BI.bigSep_sep' (s := Finset.univ) (Φ := fun s : Fin 8 => accAny (F := F) c s.val) (Ψ := fun s : Fin 8 => shut (F := F) c (.aS s 0)))) $$ HE
  icases HE with ⟨HE, HE'⟩
  iapply (Entails.of_eq (wp_ret _ _ _ _ _).symm)
  imodintro
  isplitl [HO]; · iexact HO
  unfold ownDone
  rw [halves, ← by_slot (fun s k => shut (F := F) c (.aS s k)), ← by_slot (fun s k => shut (F := F) c (.aR s k)), eight_halves (fun s => shut (F := F) c (.aR s 1)),
    show commAll (F := F) c 1 = _ from eight_halves (fun s : Fin 8 => commAny (F := F) c s.val 1)]
  unfold ringSent
  icases HX with ⟨HX, HY⟩
  icases HX' with ⟨HX', HY'⟩
  isplitl [HE]; · iexact HE
  isplitl [HC]; · iexact HC
  isplitl [HY HY']
  · isplitl [HY]; · iexact HY
    iexact HY'
  isplitl [HE' HS]
  · isplitl [HE']; · iexact HE'
    iexact HS
  isplitl [HT HX HX']
  · isplitl [HT]; · iexact HT
    isplitl [HX]; · iexact HX
    iexact HX'
  isplitl [HL HL']
  · isplitl [HL]; · iexact HL
    iexact HL'
  isplitl [C00]; · iexact C00
  isplitl [C10]; · iexact C10
  isplitl [C01]; · iexact C01
  iexact C11

end Cert.Proto

end
-- ==== Proof.MidRun.lean ====
module

public import proofs.«01_k».proof.Proof.EdgeRun

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## The middle planes -/

/-- A piece added to a piece read from a landing place. -/
theorem add_piece (s : ℕ) (V W : ℕ → ℕ → El F) (h) (y : S32x2048.Idx) :
    addf (F := F) (φ := .f32) (s := S32x2048) (fun x => V (32 * s + (x 0).val) (x 1).val) (shapeCast S32x2048 (fun x : S1x1x32x2048.Idx => W (32 * s + (x 2).val) (x 3).val) h) y
      = FloatOps.addf (F := F) (φ := .f32) (V (32 * s + (y 0).val) (y 1).val) (W (32 * s + (y 0).val) (y 1).val) := by
  unfold addf
  rw [cast_piece]

theorem add_piece' (s : ℕ) (V W : ℕ → ℕ → El F) (h h') (y : S32x2048.Idx) :
    shapeCast S32x2048 (addf (F := F) (φ := .f32) (s := S32x2048) (fun x => V (32 * s + (x 0).val) (x 1).val) (shapeCast S32x2048 (fun x : S1x1x32x2048.Idx => W (32 * s + (x 2).val) (x 3).val) h)) h' y
      = FloatOps.addf (F := F) (φ := .f32) (V (32 * s + (y 0).val) (y 1).val) (W (32 * s + (y 0).val) (y 1).val) := by
  rw [shapeCast_self, add_piece]

theorem NQ_rows (lo : ℕ) {off : Fin 2 → ℕ} (ho : off = ![lo, 0]) (h : ∀ a, off a + S32x2048.size a ≤ S2048x2048.size a) :
    (oM.slice (Rect.unit (s := S2048x2048) off S32x2048.size h) (fun _ => rfl)).view.dmaCredit = NQ := by
  subst ho; exact NQ_out lo h

/-- Piece s of the first sum: the partner's rows in, the sum out to the other middle plane. -/
def midA (s : Fin 8) : sProp 𝕄 :=
  iprop(cred (tallyAt (cellAt c (.aR s 0)) 2 (amtC (.aR s 0))) ∗ atPos ER (cellAt c (.aR s 0)) 0 ∅ 0 ∗ accP c fullShare (32 * s.val) 32 (X m c)
    ∗ commAny (F := F) (opp c) s.val 1 ∗ dutyTok ER (cellAt c (.aS s 1)) 0 0 ∗ dutyTok ER (cellAt (opp c) (.aR s 1)) 0 0)
def midB (s : Fin 8) : sProp 𝕄 :=
  iprop((shut (F := F) c (.aR s 0) ∗ commAny (F := F) c s.val 0) ∗ cred (tallyAt (cellAt c (.aS s 1)) 0 (amtC (.aS s 1))))

/-- What the second sum of piece s needs beyond that: its rows in, the result into its place and out to the partner. -/
def midR (s : Fin 8) : sProp 𝕄 :=
  iprop(atPos ER (cellAt c (.aS s 1)) 0 ∅ 0 ∗ cred (tallyAt (cellAt c (.aR s 1)) 3 (amtC (.aR s 1))) ∗ atPos ER (cellAt c (.aR s 1)) 0 ∅ 0
    ∗ outAny (F := F) c (row0 (pos c) + 32 * s.val) 32 ∗ commAny (F := F) (par c) s.val 1 ∗ dutyTok ER (cellAt c (.aS s 1)) 1 0 ∗ dutyTok ER (cellAt (par c) (.aR s 1)) 0 1)
def midC (s : Fin 8) : sProp 𝕄 := iprop(cred (tallyAt (cellAt c (.aS s 1)) 0 (amtC (.aS s 1))) ∗ midR (F := F) c s)

/-- The send of the result still to be waited for. -/
def midE (s : Fin 8) : sProp 𝕄 :=
  iprop(cred (tallyAt (cellAt c (.aS s 1)) 0 (amtC (.aS s 1))) ∗ atPos ER (cellAt c (.aS s 1)) 1 ∅ 0)
def midF (s : Fin 8) : sProp 𝕄 := iprop(shut (F := F) c (.aS s 1) ∗ outP c qF (row0 (pos c) + 32 * s.val) 32 (f2 (row0 (pos c)) (S m c)))
def midD (s : Fin 8) : sProp 𝕄 :=
  iprop((((accAny (F := F) c s.val ∗ commAny (F := F) c s.val 1) ∗ shut (F := F) c (.aR s 1)) ∗ midE (F := F) c s)
    ∗ outP c fullShare.right (row0 (pos c) + 32 * s.val) 32 (f2 (row0 (pos c)) (S m c)))

section Mid

variable (h : isMid c = true)
include h

theorem mid_first {α : Type} {Q : α → sProp 𝕄} {k : PUnit → Prog (TpuEff nD τ sig (Elt F) Λ₀ .tc) α} (s : Fin 8) (l : List Row) {v : ℕ} (hv : v = (opp c).val) {hlt : v < nD}
    {sm : SemLoc sig} (hs : sm = (Cell.aR s 0).toSem)
    {w : TpuEff nD τ sig (Elt F) Λ₀ .tc PUnit} {k' : ℕ} (hw : ∀ K : PUnit → sProp 𝕄, wpE (defs₀ (F := F)) 𝒱₀ (c : Thread nD τ) none Set.univ w K = waitSpec (c : Thread nD τ) Set.univ sm k' K)
    (hk : k' = amtC (.aR s 0)) (hlev : (rowEx s :: l).all (fun r => decide (2 < r.idx ∧ r.idx < 64)) = true)
    {g1 g2 g3 g4 g5 h' l1 l2 l3 hx hm} {pay : (S32x2048.Idx → El F) → (S1x1x32x2048.Idx → El F) → S32x2048.Idx → El F}
    (hpay : ∀ (V W : ℕ → ℕ → El F) (y), pay (fun x => V (32 * s.val + (x 0).val) (x 1).val) (fun x => W (32 * s.val + (x 2).val) (x 3).val) y
      = FloatOps.addf (F := F) (φ := .f32) (V (32 * s.val + (y 0).val) (y 1).val) (W (32 * s.val + (y 0).val) (y 1).val)) {sS sem : SemLoc sig}
    {hsc : (commV s.val 1 h' : Memref sig (Dev.tc (⟨v, hlt⟩ : Dev nD) : Thread nD τ).2.kind _ _ _).view.ref.isScScratch = false} {hsrc : (accV (32 * s.val) g5).view.WordExact} {hdst : (commV s.val 1 h').view.WordExact}
    {hsem : DmaTarget.Typed .vmem sem (.remote (Dev.tc (⟨v, hlt⟩ : Dev nD) : Thread nD τ) (commV s.val 1 h') sS hsc)}
    (hS : sS = (Cell.aS s 1).toSem) (hR : sem = (Cell.aR s 1).toSem) :
    iprop(recs m κ ι ∗ owesL c (rowEx s :: l) ∗ fam (midA m c) (midB c) s.val)
      ⊢ iprop(((owesL c l ∗ fam (midA m c) (midB c) (s.val + 1)) -∗ wpc c (k ⟨⟩) Q)
          -∗ wpc c (.op w fun _ => .op (.load aM (Rect.unit (s := S256x2048) ![32 * s.val, 0] S32x2048.size g1).toLoadRect l1) fun x =>
            .op (.load kM (Rect.unit (s := S8x2x32x2048) ![s.val, 0, 0, 0] S1x1x32x2048.size g2).toLoadRect l2) fun y =>
            .op (.load aM (Rect.unit (s := S256x2048) ![32 * s.val, 0] S32x2048.size g3).toLoadRect l3) fun _ =>
            .op (.store aM (Rect.unit (s := S256x2048) ![32 * s.val, 0] S32x2048.size g4) (pay x y) Finset.univ hx hm) fun _ =>
            .op (.enqueueDma (accV (32 * s.val) g5) (.remote (Dev.tc (⟨v, hlt⟩ : Dev nD) : Thread nD τ) (commV s.val 1 h') sS hsc) sem hsrc hdst hsem) k) Q) := by
  iintro ⟨#HR, HO, HF⟩ Hk
  ihave HF := (fam_take (midA m c) (midB c) s) $$ HF
  icases HF with ⟨Ha, Hn⟩
  unfold midA midB
  icases Ha with ⟨Hc, Hat, HP, HD, Ht1, Ht2⟩
  iapply (step_wait m κ ι c (.aR s 0) 0 0 2 (rowEx s :: l) hs hw hk (by simp [dutC, h]) hlev (by decide)) $$ [HO Hc Hat]
  · isplitr; · iexact HR
    isplitl [HO]; · iexact HO
    isplitl [Hc]; · iexact Hc
    iexact Hat
  iintro ⟨HO, Hat, _, Hp⟩
  ihave Hp := (Entails.of_eq (pay_aR0 m c s 0 0)) $$ Hp
  iapply (load_acc c (32 * s.val) fullShare (X m c)) $$ HP
  iintro HP
  iapply (load_comm c s.val 0 (X m (par c))) $$ Hp
  iintro Hp
  iapply (load_acc c (32 * s.val) fullShare (X m c)) $$ HP
  iintro HP
  iapply (store_acc c (32 * s.val) (X m c) (A m c) (fun y => hpay (X m c) (X m (par c)) y)) $$ HP
  iintro HP
  iapply (send_acc m κ ι c (k := k) (Q := Q) (rowEx s) l s 1 0 (A m c) (Fin.ext hv) hS hR rfl (by simp [dutC, h])
    (by show (0 : Fin 4) ∈ dutC (opp c) (.aR s 1) 0; simp [dutC, isMid_opp, h]) (Entails.of_eq (pay_aS1 m c s 0).symm)
    (by show _ ⊢ payC m (opp c) (.aR s 1) 0 0; rw [pay_aR1_mid m (opp c) s 0 0 ((isMid_opp c).trans h), opp_opp]; exact BI.Entails.refl _)) $$ [HO HP HD Ht1 Ht2]
  · isplitr; · iexact HR
    isplitl [HO]; · iexact HO
    isplitl [HP]; · iexact HP
    isplitl [HD]; · iexact HD
    isplitl [Ht1]; · iexact Ht1
    iexact Ht2
  iintro ⟨HO, Hc⟩
  iapply Hk
  isplitl [HO]; · iexact HO
  iapply Hn
  isplitr [Hc]
  · isplitl [Hat]
    · iapply (shut_at c (.aR s 0) 1 (fun r hr => by simp [dutC, show r ≠ 0 by omega])); iexact Hat
    · iapply (commP_any c _ 0 (X m (par c))); iexact Hp
  · iexact Hc

theorem mid_second {α : Type} {Q : α → sProp 𝕄} {k : PUnit → Prog (TpuEff nD τ sig (Elt F) Λ₀ .tc) α} (j : Fin 2) (i : Fin 4) (l : List Row) {v : ℕ} (hv : v = (par c).val) {hlt : v < nD}
    {sm sm' : SemLoc sig} (hs : sm = (Cell.aS (qtr j i) 1).toSem) (hs' : sm' = (Cell.aR (qtr j i) 1).toSem)
    {w w' : TpuEff nD τ sig (Elt F) Λ₀ .tc PUnit} {k₁ k₂ : ℕ} (hw : ∀ K : PUnit → sProp 𝕄, wpE (defs₀ (F := F)) 𝒱₀ (c : Thread nD τ) none Set.univ w K = waitSpec (c : Thread nD τ) Set.univ sm k₁ K)
    (hw' : ∀ K : PUnit → sProp 𝕄, wpE (defs₀ (F := F)) 𝒱₀ (c : Thread nD τ) none Set.univ w' K = waitSpec (c : Thread nD τ) Set.univ sm' k₂ K)
    (hk : k₁ = amtC (.aS (qtr j i) 1)) (hk' : k₂ = amtC (.aR (qtr j i) 1)) (hlev : (rowFin (qtr j i) :: l).all (fun r => decide (3 < r.idx ∧ r.idx < 64)) = true)
    (hlev0 : (rowFin (qtr j i) :: l).all (fun r => decide (0 < r.idx ∧ r.idx < 64)) = true)
    {off off' : Fin 2 → ℕ} (ho : off = ![row0 (pos c) + 32 * (qtr j i).val, 0]) (ho' : off' = ![row0 (pos c) + 32 * (qtr j i).val, 0])
    {g1 g2 g3 g4 g5 h' l1 l2 l3 hx hm} {pay : (S32x2048.Idx → El F) → (S1x1x32x2048.Idx → El F) → S32x2048.Idx → El F}
    (hpay : ∀ (V W : ℕ → ℕ → El F) (y), pay (fun x => V (32 * (qtr j i).val + (x 0).val) (x 1).val) (fun x => W (32 * (qtr j i).val + (x 2).val) (x 3).val) y
      = FloatOps.addf (F := F) (φ := .f32) (V (32 * (qtr j i).val + (y 0).val) (y 1).val) (W (32 * (qtr j i).val + (y 0).val) (y 1).val)) {sS sem : SemLoc sig}
    {hsc : (commV (qtr j i).val 1 h' : Memref sig (Dev.tc (⟨v, hlt⟩ : Dev nD) : Thread nD τ).2.kind _ _ _).view.ref.isScScratch = false}
    {hsrc : (oM.slice (Rect.unit (s := S2048x2048) off' S32x2048.size g5) (fun _ => rfl)).view.WordExact} {hdst : (commV (qtr j i).val 1 h').view.WordExact}
    {hsem : DmaTarget.Typed .vmem sem (.remote (Dev.tc (⟨v, hlt⟩ : Dev nD) : Thread nD τ) (commV (qtr j i).val 1 h') sS hsc)}
    (hS : sS = (Cell.aS (qtr j i) 1).toSem) (hR : sem = (Cell.aR (qtr j i) 1).toSem) :
    iprop(recs m κ ι ∗ owesL c (rowFin (qtr j i) :: l) ∗ fam (fun i => midC c (qtr j i)) (fun i => midD m c (qtr j i)) i.val)
      ⊢ iprop(((owesL c l ∗ fam (fun i => midC c (qtr j i)) (fun i => midD m c (qtr j i)) (i.val + 1)) -∗ wpc c (k ⟨⟩) Q)
          -∗ wpc c (.op w fun _ => .op w' fun _ => .op (.load aM (Rect.unit (s := S256x2048) ![32 * (qtr j i).val, 0] S32x2048.size g1).toLoadRect l1) fun x =>
            .op (.load kM (Rect.unit (s := S8x2x32x2048) ![(qtr j i).val, 1, 0, 0] S1x1x32x2048.size g2).toLoadRect l2) fun y =>
            .op (.load oM (Rect.unit (s := S2048x2048) off S32x2048.size g3).toLoadRect l3) fun _ =>
            .op (.store oM (Rect.unit (s := S2048x2048) off S32x2048.size g4) (pay x y) Finset.univ hx hm) fun _ =>
            .op (.enqueueDma (oM.slice (Rect.unit (s := S2048x2048) off' S32x2048.size g5) (fun _ => rfl)) (.remote (Dev.tc (⟨v, hlt⟩ : Dev nD) : Thread nD τ) (commV (qtr j i).val 1 h') sS hsc) sem hsrc hdst hsem) k) Q) := by
  iintro ⟨#HR, HO, HF⟩ Hk
  ihave HF := (fam_take (fun i => midC c (qtr j i)) (fun i => midD m c (qtr j i)) i) $$ HF
  icases HF with ⟨Ha, Hn⟩
  unfold midC midD midE midR
  icases Ha with ⟨Hc, Hat, Hc', Hat', HP, HD, Ht1, Ht2⟩
  iapply (step_wait m κ ι c (.aS (qtr j i) 1) 0 0 0 (rowFin (qtr j i) :: l) hs hw hk (by simp [dutC, h]) hlev0 (by decide)) $$ [HO Hc Hat]
  · isplitr; · iexact HR
    isplitl [HO]; · iexact HO
    isplitl [Hc]; · iexact Hc
    iexact Hat
  iintro ⟨HO, Hat, #Hr1, Hacc⟩
  ihave Hacc := (Entails.of_eq (pay_aS1 m c (qtr j i) 0)) $$ Hacc
  iapply (step_wait m κ ι c (.aR (qtr j i) 1) 0 0 3 (rowFin (qtr j i) :: l) hs' hw' hk' (by simp [dutC, h]) hlev (by decide)) $$ [HO Hc' Hat']
  · isplitr; · iexact HR
    isplitl [HO]; · iexact HO
    isplitl [Hc']; · iexact Hc'
    iexact Hat'
  iintro ⟨HO, Hat', _, Hp⟩
  ihave Hp := (Entails.of_eq (pay_aR1_mid m c (qtr j i) 0 0 h)) $$ Hp
  iapply (load_acc c (32 * (qtr j i).val) fullShare (A m c)) $$ Hacc
  iintro Hacc
  iapply (load_comm c (qtr j i).val 1 (A m (opp c))) $$ Hp
  iintro Hp
  iapply (load_out c (row0 (pos c) + 32 * (qtr j i).val) 32 ho) $$ HP
  iintro %w HP
  iapply (store_out c (row0 (pos c) + 32 * (qtr j i).val) 32 (row0 (pos c)) ho (S m c) (fun y => (hpay (A m c) (A m (opp c)) y).trans
    (by rw [Nat.add_assoc, Nat.add_sub_cancel_left, S_mid m h]; rfl))) $$ HP
  iintro HP
  ihave HP := (outP_share c fullShare (row0 (pos c) + 32 * (qtr j i).val) 32 (f2 (row0 (pos c)) (S m c))).1 $$ HP
  icases HP with ⟨HP, HQ⟩
  iapply (send_own m κ ι c (k := k) (Q := Q) (rowFin (qtr j i)) l (qtr j i) 1 (row0 (pos c)) qF (S m c) (Fin.ext hv) ho' hS hR rfl (by simp [dutC, h])
    (by show (1 : Fin 4) ∈ dutC (par c) (.aR (qtr j i) 1) 0; simp [dutC, isMid_par, h]) (Entails.of_eq (pay_aS1' m c (qtr j i) 0).symm)
    (by show _ ⊢ payC m (par c) (.aR (qtr j i) 1) 0 1
        rw [pay_aR1_edge m (par c) (qtr j i) 0 1 (by rw [isMid_par, h]; rfl), S_edge m (c := par c) (by rw [isMid_par, h]; rfl), par_par]; exact BI.Entails.refl _)) $$ [HO HP HD Ht1 Ht2]
  · isplitr; · iexact HR
    isplitl [HO]; · iexact HO
    isplitl [HP]; · iexact HP
    isplitl [HD]; · iexact HD
    isplitl [Ht1]; · iexact Ht1
    isplitr; · iexact Hr1
    iexact Ht2
  iintro ⟨HO, Hc⟩
  iapply Hk
  isplitl [HO]; · iexact HO
  iapply Hn
  isplitr [HQ]
  · isplitr [Hc Hat]
    · isplitr [Hat']
      · isplitl [Hacc]
        · iapply (accP_any c _ (A m c)); iexact Hacc
        · iapply (commP_any c _ 1 (A m (opp c))); iexact Hp
      · iapply (shut_at c (.aR (qtr j i) 1) 1 (fun r hr => by simp [dutC, show r ≠ 0 by omega])); iexact Hat'
    · isplitl [Hc]; · iexact Hc
      iexact Hat
  · iexact HQ

theorem mid_wait {α : Type} {Q : α → sProp 𝕄} {k : PUnit → Prog (TpuEff nD τ sig (Elt F) Λ₀ .tc) α} (s : Fin 8) (l : List Row) {sm : SemLoc sig} (hs : sm = (Cell.aS s 1).toSem)
    {w : TpuEff nD τ sig (Elt F) Λ₀ .tc PUnit} {k' : ℕ} (hw : ∀ K : PUnit → sProp 𝕄, wpE (defs₀ (F := F)) 𝒱₀ (c : Thread nD τ) none Set.univ w K = waitSpec (c : Thread nD τ) Set.univ sm k' K)
    (hk : k' = amtC (.aS s 1)) (hlev : l.all (fun r => decide (0 < r.idx ∧ r.idx < 64)) = true) :
    iprop(recs m κ ι ∗ owesL c l ∗ fam (midE c) (midF m c) s.val)
      ⊢ iprop(((owesL c l ∗ fam (midE c) (midF m c) (s.val + 1)) -∗ wpc c (k ⟨⟩) Q) -∗ wpc c (.op w k) Q) := by
  iintro ⟨#HR, HO, HF⟩ Hk
  ihave HF := (fam_take (midE c) (midF m c) s) $$ HF
  icases HF with ⟨Ha, Hn⟩
  unfold midE midF
  icases Ha with ⟨Hc, Hat⟩
  iapply (step_wait m κ ι c (.aS s 1) 1 0 0 l hs hw hk (by simp [dutC, h]) hlev (by decide)) $$ [HO Hc Hat]
  · isplitr; · iexact HR
    isplitl [HO]; · iexact HO
    isplitl [Hc]; · iexact Hc
    iexact Hat
  iintro ⟨HO, Hat, _, Hp⟩
  iapply Hk
  isplitl [HO]; · iexact HO
  iapply Hn
  isplitl [Hat]
  · iapply (shut_at c (.aS s 1) 2 (fun r hr => by simp [dutC, show ¬ r < 2 by omega])); iexact Hat
  · iapply (Entails.of_eq (pay_aS1' m c s 0)); iexact Hp

end Mid

variable {h0 : xM.IsWhole} {h1 : rM.IsWhole} {h2 : gM.IsWhole} {h3 : oM.IsWhole} {h4 : aM.IsWhole} {h5 : kM.IsWhole}
  {h6 : (Memref.whole cc0_scratch2 : Memref sig .tc .vmem S2x256x2048 .f32).IsWhole} {h7 : (Memref.whole cc0_scratch3 : Memref sig .tc .vmem S2x256x2048 .f32).IsWhole} {h8 : sM.IsWhole}

/-- What a device on a middle plane brings to its sends. -/
def midStart : sProp 𝕄 :=
  iprop((bigSep Finset.univ fun s : Fin 8 => midA m c s) ∗ (bigSep Finset.univ fun s : Fin 8 => midR (F := F) c s)
    ∗ ringStart (F := F) c 0 0 ∗ ringStart (F := F) c 1 0 ∗ ringStart (F := F) c 0 1 ∗ ringStart (F := F) c 1 1
    ∗ bigSep Finset.univ fun s : Fin 8 => shut (F := F) c (.aS s 0))

/-- After the first sums. -/
theorem mid_firsts :
    iprop(fam (midA m c) (midB c) ((7 : Fin 8).val + 1) ∗ bigSep Finset.univ fun s : Fin 8 => midR (F := F) c s)
      ⊢ iprop(((bigSep Finset.univ fun s : Fin 8 => shut (F := F) c (.aR s 0)) ∗ commAll (F := F) c 0)
        ∗ fam (fun i => midC c (qtr 0 i)) (fun i => midD m c (qtr 0 i)) (0 : Fin 4).val ∗ fam (fun i => midC c (qtr 1 i)) (fun i => midD m c (qtr 1 i)) (0 : Fin 4).val) := by
  rw [show (7 : Fin 8).val + 1 = 8 from rfl, fam_all, show (0 : Fin 4).val = 0 from rfl, fam_zero, fam_zero, ← eight_halves (fun s => midC c s)]
  unfold midB midC commAll
  rw [BI.bigSep_sep', BI.bigSep_sep', BI.bigSep_sep']
  iintro ⟨⟨H1, H2⟩, H3⟩
  iframe

/-- Four quarters of the second sums. -/
theorem mid_half (j : Fin 2) :
    fam (fun i => midC c (qtr j i)) (fun i => midD m c (qtr j i)) ((3 : Fin 4).val + 1)
      ⊢ iprop(((((bigSep Finset.univ fun i : Fin 4 => accAny (F := F) c (qtr j i).val) ∗ bigSep Finset.univ fun i : Fin 4 => commAny (F := F) c (qtr j i).val 1)
          ∗ bigSep Finset.univ fun i : Fin 4 => shut (F := F) c (.aR (qtr j i) 1)) ∗ bigSep Finset.univ fun i : Fin 4 => midE (F := F) c (qtr j i))
        ∗ outP c (qR 0) (row0 (pos c) + 128 * j.val) 128 (f2 (row0 (pos c)) (S m c)) ∗ outP c (qR 1) (row0 (pos c) + 128 * j.val) 128 (f2 (row0 (pos c)) (S m c))) := by
  rw [show (3 : Fin 4).val + 1 = 4 from rfl, fam_all]
  unfold midD
  rw [BI.bigSep_sep', BI.bigSep_sep', BI.bigSep_sep', BI.bigSep_sep', quarters]
  iintro ⟨H, Ho⟩
  ihave Ho := (half_ring c j (f2 (row0 (pos c)) (S m c))) $$ Ho
  iframe

/-- The middle planes' part of the column sum. -/
theorem mid_run (h : isMid c = true) (v2 v5 v8 v11 v24 v27 v40 v43 v44 : BitVec 32) (v47 : BitVec 1) (v48 v49 v123 : BitVec 32) :
    iprop(recs m κ ι ∗ owesL c rowsMid ∗ midStart m c)
      ⊢ wpc c (k0_part42 xM h0 rM h1 gM h2 oM h3 aM h4 kM h5 (Memref.whole cc0_scratch2) h6 (Memref.whole cc0_scratch3) h7 sM h8
      cc0_scratch5 cc0_scratch6 cc0_scratch7 cc0_scratch8 cc0_scratch9 cc0_scratch10 cc0_scratch11 cc0_scratch12 cc0_scratch13 cc0_scratch14 c v2 v5 v8 v11 v24 v27 v40 v43 v44 v47 v48 v49 v123) (fun _ => iprop(owesL c rowsRing ∗ ownDone m c)) := by
  obtain ⟨e17, e18, e19, e20, e21, e22, e23, e24⟩ := devs_ex c h
  obtain ⟨e25, e26, e27, e28, e31, e32, e33, e34, e29, e30, e35, e36⟩ := devs_fin c h
  rw [k0_part42_eq_skeleton, k0_part42_skel, dif_neg (cond3_mid c h), dif_pos (cond4_mid c h)]
  simp only [k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel,
    Prog.lift, Prog.bind_op, Prog.bind_ret, Prog.pure_eq_ret]
  unfold midStart ringStart
  rw [← fam_zero (midA m c) (midB c)]
  iintro ⟨#HR, HO, HE, HM, ⟨R00, T00, T00'⟩, ⟨R10, T10, T10'⟩, ⟨R01, T01, T01'⟩, ⟨R11, T11, T11'⟩, HS⟩
  iapply (mid_first m κ ι c h 0 (rowEx 1 :: rowEx 2 :: rowEx 3 :: rowEx 4 :: rowEx 5 :: rowEx 6 :: rowEx 7 :: rowsFin0) e17 (sem_aR 0 0 _) (wpE_waitDma2_eq 𝒱₀ (c : Thread nD τ) none Set.univ) (NQ_comm 0 0 _) (by decide) (fun V W y => add_piece' 0 V W _ _ y) (sem_aS 0 1 _) (sem_aR 0 1 _)) $$ [HO HE]
  · isplitr; · iexact HR
    isplitl [HO]; · iexact HO
    iexact HE
  iintro ⟨HO, HE⟩
  iapply (mid_first m κ ι c h 1 (rowEx 2 :: rowEx 3 :: rowEx 4 :: rowEx 5 :: rowEx 6 :: rowEx 7 :: rowsFin0) e18 (sem_aR 1 0 _) (wpE_waitDma2_eq 𝒱₀ (c : Thread nD τ) none Set.univ) (NQ_comm 1 0 _) (by decide) (fun V W y => add_piece' 1 V W _ _ y) (sem_aS 1 1 _) (sem_aR 1 1 _)) $$ [HO HE]
  · isplitr; · iexact HR
    isplitl [HO]; · iexact HO
    iexact HE
  iintro ⟨HO, HE⟩
  iapply (mid_first m κ ι c h 2 (rowEx 3 :: rowEx 4 :: rowEx 5 :: rowEx 6 :: rowEx 7 :: rowsFin0) e19 (sem_aR 2 0 _) (wpE_waitDma2_eq 𝒱₀ (c : Thread nD τ) none Set.univ) (NQ_comm 2 0 _) (by decide) (fun V W y => add_piece' 2 V W _ _ y) (sem_aS 2 1 _) (sem_aR 2 1 _)) $$ [HO HE]
  · isplitr; · iexact HR
    isplitl [HO]; · iexact HO
    iexact HE
  iintro ⟨HO, HE⟩
  iapply (mid_first m κ ι c h 3 (rowEx 4 :: rowEx 5 :: rowEx 6 :: rowEx 7 :: rowsFin0) e20 (sem_aR 3 0 _) (wpE_waitDma2_eq 𝒱₀ (c : Thread nD τ) none Set.univ) (NQ_comm 3 0 _) (by decide) (fun V W y => add_piece' 3 V W _ _ y) (sem_aS 3 1 _) (sem_aR 3 1 _)) $$ [HO HE]
  · isplitr; · iexact HR
    isplitl [HO]; · iexact HO
    iexact HE
  iintro ⟨HO, HE⟩
  iapply (mid_first m κ ι c h 4 (rowEx 5 :: rowEx 6 :: rowEx 7 :: rowsFin0) e21 (sem_aR 4 0 _) (wpE_waitDma2_eq 𝒱₀ (c : Thread nD τ) none Set.univ) (NQ_comm 4 0 _) (by decide) (fun V W y => add_piece' 4 V W _ _ y) (sem_aS 4 1 _) (sem_aR 4 1 _)) $$ [HO HE]
  · isplitr; · iexact HR
    isplitl [HO]; · iexact HO
    iexact HE
  iintro ⟨HO, HE⟩
  iapply (mid_first m κ ι c h 5 (rowEx 6 :: rowEx 7 :: rowsFin0) e22 (sem_aR 5 0 _) (wpE_waitDma2_eq 𝒱₀ (c : Thread nD τ) none Set.univ) (NQ_comm 5 0 _) (by decide) (fun V W y => add_piece' 5 V W _ _ y) (sem_aS 5 1 _) (sem_aR 5 1 _)) $$ [HO HE]
  · isplitr; · iexact HR
    isplitl [HO]; · iexact HO
    iexact HE
  iintro ⟨HO, HE⟩
  iapply (mid_first m κ ι c h 6 (rowEx 7 :: rowsFin0) e23 (sem_aR 6 0 _) (wpE_waitDma2_eq 𝒱₀ (c : Thread nD τ) none Set.univ) (NQ_comm 6 0 _) (by decide) (fun V W y => add_piece' 6 V W _ _ y) (sem_aS 6 1 _) (sem_aR 6 1 _)) $$ [HO HE]
  · isplitr; · iexact HR
    isplitl [HO]; · iexact HO
    iexact HE
  iintro ⟨HO, HE⟩
  iapply (mid_first m κ ι c h 7 (rowsFin0) e24 (sem_aR 7 0 _) (wpE_waitDma2_eq 𝒱₀ (c : Thread nD τ) none Set.univ) (NQ_comm 7 0 _) (by decide) (fun V W y => add_piece' 7 V W _ _ y) (sem_aS 7 1 _) (sem_aR 7 1 _)) $$ [HO HE]
  · isplitr; · iexact HR
    isplitl [HO]; · iexact HO
    iexact HE
  iintro ⟨HO, HE⟩
  ihave HE := (mid_firsts m c) $$ [HE HM]
  · isplitl [HE]; · iexact HE
    iexact HM
  icases HE with ⟨⟨HT, HC⟩, HG, HG'⟩
  iapply (mid_second m κ ι c h 0 0 (rowFin 1 :: rowFin 2 :: rowFin 3 :: rowR 0 0 0 0 :: rowR 1 0 0 0 :: rowsFin1) e25 (sem_aS 0 1 _) (sem_aR 0 1 _) (wpE_waitDma2_eq 𝒱₀ (c : Thread nD τ) none Set.univ) (wpE_waitDma2_eq 𝒱₀ (c : Thread nD τ) none Set.univ) (NQ_acc (32 * 0) _) (NQ_comm 0 1 _) (by decide) (by decide) (offs_own7 c h 0).1 (offs_own7 c h 0).2 (fun V W y => add_piece 0 V W _ y) (sem_aS 0 1 _) (sem_aR 0 1 _)) $$ [HO HG]
  · isplitr; · iexact HR
    isplitl [HO]; · iexact HO
    iexact HG
  iintro ⟨HO, HG⟩
  iapply (mid_second m κ ι c h 0 1 (rowFin 2 :: rowFin 3 :: rowR 0 0 0 0 :: rowR 1 0 0 0 :: rowsFin1) e26 (sem_aS 1 1 _) (sem_aR 1 1 _) (wpE_waitDma2_eq 𝒱₀ (c : Thread nD τ) none Set.univ) (wpE_waitDma2_eq 𝒱₀ (c : Thread nD τ) none Set.univ) (NQ_acc (32 * 1) _) (NQ_comm 1 1 _) (by decide) (by decide) (offs_own7 c h 1).1 (offs_own7 c h 1).2 (fun V W y => add_piece 1 V W _ y) (sem_aS 1 1 _) (sem_aR 1 1 _)) $$ [HO HG]
  · isplitr; · iexact HR
    isplitl [HO]; · iexact HO
    iexact HG
  iintro ⟨HO, HG⟩
  iapply (mid_second m κ ι c h 0 2 (rowFin 3 :: rowR 0 0 0 0 :: rowR 1 0 0 0 :: rowsFin1) e27 (sem_aS 2 1 _) (sem_aR 2 1 _) (wpE_waitDma2_eq 𝒱₀ (c : Thread nD τ) none Set.univ) (wpE_waitDma2_eq 𝒱₀ (c : Thread nD τ) none Set.univ) (NQ_acc (32 * 2) _) (NQ_comm 2 1 _) (by decide) (by decide) (offs_own7 c h 2).1 (offs_own7 c h 2).2 (fun V W y => add_piece 2 V W _ y) (sem_aS 2 1 _) (sem_aR 2 1 _)) $$ [HO HG]
  · isplitr; · iexact HR
    isplitl [HO]; · iexact HO
    iexact HG
  iintro ⟨HO, HG⟩
  iapply (mid_second m κ ι c h 0 3 (rowR 0 0 0 0 :: rowR 1 0 0 0 :: rowsFin1) e28 (sem_aS 3 1 _) (sem_aR 3 1 _) (wpE_waitDma2_eq 𝒱₀ (c : Thread nD τ) none Set.univ) (wpE_waitDma2_eq 𝒱₀ (c : Thread nD τ) none Set.univ) (NQ_acc (32 * 3) _) (NQ_comm 3 1 _) (by decide) (by decide) (offs_own7 c h 3).1 (offs_own7 c h 3).2 (fun V W y => add_piece 3 V W _ y) (sem_aS 3 1 _) (sem_aR 3 1 _)) $$ [HO HG]
  · isplitr; · iexact HR
    isplitl [HO]; · iexact HO
    iexact HG
  iintro ⟨HO, HG⟩
  ihave HG := (mid_half m c 0) $$ HG
  icases HG with ⟨⟨⟨⟨HA0, HK0⟩, HX0⟩, HE0⟩, P0, P1⟩
  iapply (send_half m κ ι c 0 0 _ (Fin.ext (by exact e29)) (offs_half9 c h 0) (sem_rS 0 0 0 _) (sem_rR 0 0 0 _)) $$ [HO P0 R00 T00 T00']
  · isplitr; · iexact HR
    iframe
  iintro ⟨HO, C00⟩
  iapply (send_half m κ ι c 1 0 _ (Fin.ext (by exact e30)) (offs_half9 c h 0) (sem_rS 1 0 0 _) (sem_rR 1 0 0 _)) $$ [HO P1 R10 T10 T10']
  · isplitr; · iexact HR
    iframe
  iintro ⟨HO, C10⟩
  iapply (mid_second m κ ι c h 1 0 (rowFin 5 :: rowFin 6 :: rowFin 7 :: rowsHalf) e31 (sem_aS 4 1 _) (sem_aR 4 1 _) (wpE_waitDma2_eq 𝒱₀ (c : Thread nD τ) none Set.univ) (wpE_waitDma2_eq 𝒱₀ (c : Thread nD τ) none Set.univ) (NQ_acc (32 * 4) _) (NQ_comm 4 1 _) (by decide) (by decide) (offs_own7 c h 4).1 (offs_own7 c h 4).2 (fun V W y => add_piece 4 V W _ y) (sem_aS 4 1 _) (sem_aR 4 1 _)) $$ [HO HG']
  · isplitr; · iexact HR
    isplitl [HO]; · iexact HO
    iexact HG'
  iintro ⟨HO, HG'⟩
  iapply (mid_second m κ ι c h 1 1 (rowFin 6 :: rowFin 7 :: rowsHalf) e32 (sem_aS 5 1 _) (sem_aR 5 1 _) (wpE_waitDma2_eq 𝒱₀ (c : Thread nD τ) none Set.univ) (wpE_waitDma2_eq 𝒱₀ (c : Thread nD τ) none Set.univ) (NQ_acc (32 * 5) _) (NQ_comm 5 1 _) (by decide) (by decide) (offs_own7 c h 5).1 (offs_own7 c h 5).2 (fun V W y => add_piece 5 V W _ y) (sem_aS 5 1 _) (sem_aR 5 1 _)) $$ [HO HG']
  · isplitr; · iexact HR
    isplitl [HO]; · iexact HO
    iexact HG'
  iintro ⟨HO, HG'⟩
  iapply (mid_second m κ ι c h 1 2 (rowFin 7 :: rowsHalf) e33 (sem_aS 6 1 _) (sem_aR 6 1 _) (wpE_waitDma2_eq 𝒱₀ (c : Thread nD τ) none Set.univ) (wpE_waitDma2_eq 𝒱₀ (c : Thread nD τ) none Set.univ) (NQ_acc (32 * 6) _) (NQ_comm 6 1 _) (by decide) (by decide) (offs_own7 c h 6).1 (offs_own7 c h 6).2 (fun V W y => add_piece 6 V W _ y) (sem_aS 6 1 _) (sem_aR 6 1 _)) $$ [HO HG']
  · isplitr; · iexact HR
    isplitl [HO]; · iexact HO
    iexact HG'
  iintro ⟨HO, HG'⟩
  iapply (mid_second m κ ι c h 1 3 (rowsHalf) e34 (sem_aS 7 1 _) (sem_aR 7 1 _) (wpE_waitDma2_eq 𝒱₀ (c : Thread nD τ) none Set.univ) (wpE_waitDma2_eq 𝒱₀ (c : Thread nD τ) none Set.univ) (NQ_acc (32 * 7) _) (NQ_comm 7 1 _) (by decide) (by decide) (offs_own7 c h 7).1 (offs_own7 c h 7).2 (fun V W y => add_piece 7 V W _ y) (sem_aS 7 1 _) (sem_aR 7 1 _)) $$ [HO HG']
  · isplitr; · iexact HR
    isplitl [HO]; · iexact HO
    iexact HG'
  iintro ⟨HO, HG'⟩
  ihave HG' := (mid_half m c 1) $$ HG'
  icases HG' with ⟨⟨⟨⟨HA1, HK1⟩, HX1⟩, HE1⟩, P0, P1⟩
  iapply (send_half m κ ι c 0 1 _ (Fin.ext (by exact e35)) (offs_half9 c h 1) (sem_rS 0 0 1 _) (sem_rR 0 0 1 _)) $$ [HO P0 R01 T01 T01']
  · isplitr; · iexact HR
    iframe
  iintro ⟨HO, C01⟩
  iapply (send_half m κ ι c 1 1 _ (Fin.ext (by exact e36)) (offs_half9 c h 1) (sem_rS 1 0 1 _) (sem_rR 1 0 1 _)) $$ [HO P1 R11 T11 T11']
  · isplitr; · iexact HR
    iframe
  iintro ⟨HO, C11⟩
  ihave HE := (Entails.of_eq (show iprop((bigSep Finset.univ fun i : Fin 4 => midE (F := F) c (qtr 0 i)) ∗ bigSep Finset.univ fun i : Fin 4 => midE (F := F) c (qtr 1 i))
      = fam (midE c) (midF m c) (0 : Fin 8).val from (eight_halves (fun s => midE (F := F) c s)).symm.trans (fam_zero (midE c) (midF m c)).symm)) $$ [HE0 HE1]
  · isplitl [HE0]; · iexact HE0
    iexact HE1
  iapply (mid_wait m κ ι c h 0 rowsRing (sem_aS 0 1 _) (wpE_waitDma2_eq 𝒱₀ (c : Thread nD τ) none Set.univ) (NQ_rows _ (offs_own7 c h 0).2 _) (by decide)) $$ [HO HE]
  · isplitr; · iexact HR
    isplitl [HO]; · iexact HO
    iexact HE
  iintro ⟨HO, HE⟩
  iapply (mid_wait m κ ι c h 1 rowsRing (sem_aS 1 1 _) (wpE_waitDma2_eq 𝒱₀ (c : Thread nD τ) none Set.univ) (NQ_rows _ (offs_own7 c h 1).2 _) (by decide)) $$ [HO HE]
  · isplitr; · iexact HR
    isplitl [HO]; · iexact HO
    iexact HE
  iintro ⟨HO, HE⟩
  iapply (mid_wait m κ ι c h 2 rowsRing (sem_aS 2 1 _) (wpE_waitDma2_eq 𝒱₀ (c : Thread nD τ) none Set.univ) (NQ_rows _ (offs_own7 c h 2).2 _) (by decide)) $$ [HO HE]
  · isplitr; · iexact HR
    isplitl [HO]; · iexact HO
    iexact HE
  iintro ⟨HO, HE⟩
  iapply (mid_wait m κ ι c h 3 rowsRing (sem_aS 3 1 _) (wpE_waitDma2_eq 𝒱₀ (c : Thread nD τ) none Set.univ) (NQ_rows _ (offs_own7 c h 3).2 _) (by decide)) $$ [HO HE]
  · isplitr; · iexact HR
    isplitl [HO]; · iexact HO
    iexact HE
  iintro ⟨HO, HE⟩
  iapply (mid_wait m κ ι c h 4 rowsRing (sem_aS 4 1 _) (wpE_waitDma2_eq 𝒱₀ (c : Thread nD τ) none Set.univ) (NQ_rows _ (offs_own7 c h 4).2 _) (by decide)) $$ [HO HE]
  · isplitr; · iexact HR
    isplitl [HO]; · iexact HO
    iexact HE
  iintro ⟨HO, HE⟩
  iapply (mid_wait m κ ι c h 5 rowsRing (sem_aS 5 1 _) (wpE_waitDma2_eq 𝒱₀ (c : Thread nD τ) none Set.univ) (NQ_rows _ (offs_own7 c h 5).2 _) (by decide)) $$ [HO HE]
  · isplitr; · iexact HR
    isplitl [HO]; · iexact HO
    iexact HE
  iintro ⟨HO, HE⟩
  iapply (mid_wait m κ ι c h 6 rowsRing (sem_aS 6 1 _) (wpE_waitDma2_eq 𝒱₀ (c : Thread nD τ) none Set.univ) (NQ_rows _ (offs_own7 c h 6).2 _) (by decide)) $$ [HO HE]
  · isplitr; · iexact HR
    isplitl [HO]; · iexact HO
    iexact HE
  iintro ⟨HO, HE⟩
  iapply (mid_wait m κ ι c h 7 rowsRing (sem_aS 7 1 _) (wpE_waitDma2_eq 𝒱₀ (c : Thread nD τ) none Set.univ) (NQ_rows _ (offs_own7 c h 7).2 _) (by decide)) $$ [HO HE]
  · isplitr; · iexact HR
    isplitl [HO]; · iexact HO
    iexact HE
  iintro ⟨HO, HE⟩
  ihave HE := (Entails.of_eq (show fam (midE c) (midF m c) ((7 : Fin 8).val + 1) = _ from fam_all (midE c) (midF m c))) $$ HE
  unfold midF
  ihave HE := (Entails.of_eq (BI.bigSep_sep' (s := Finset.univ) (Φ := fun s : Fin 8 => shut (F := F) c (.aS s 1)) (Ψ := fun s : Fin 8 => outP c qF (row0 (pos c) + 32 * s.val) 32 (f2 (row0 (pos c)) (S m c))))) $$ HE
  icases HE with ⟨HE, HL⟩
  iapply (Entails.of_eq (wp_ret _ _ _ _ _).symm)
  imodintro
  isplitl [HO]; · iexact HO
  unfold ownDone
  rw [halves, ← quarters, ← quarters, ← eight_halves (fun s => outP c qF (row0 (pos c) + 32 * s.val) 32 (f2 (row0 (pos c)) (S m c))),
    ← by_slot (fun s k => shut (F := F) c (.aS s k)), ← by_slot (fun s k => shut (F := F) c (.aR s k)), eight_halves (fun s => shut (F := F) c (.aR s 1)),
    show commAll (F := F) c 1 = _ from eight_halves (fun s : Fin 8 => commAny (F := F) c s.val 1), eight_halves (fun s : Fin 8 => accAny (F := F) c s.val)]
  unfold ringSent
  isplitl [HA0 HA1]
  · isplitl [HA0]; · iexact HA0
    iexact HA1
  isplitl [HC]; · iexact HC
  isplitl [HK0 HK1]
  · isplitl [HK0]; · iexact HK0
    iexact HK1
  isplitl [HS HE]
  · isplitl [HS]; · iexact HS
    iexact HE
  isplitl [HT HX0 HX1]
  · isplitl [HT]; · iexact HT
    isplitl [HX0]; · iexact HX0
    iexact HX1
  isplitl [HL]; · iexact HL
  isplitl [C00]; · iexact C00
  isplitl [C10]; · iexact C10
  isplitl [C01]; · iexact C01
  iexact C11

end Cert.Proto

end
-- ==== Proof.Ring.lean ====
module

public import proofs.«01_k».proof.Proof.MidRun

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## Receiving a half, and learning that the own half was sent -/

/-- A cell whose round r has been waited for. -/
def past (cl : Cell) (r : ℕ) : sProp 𝕄 := iprop(atPos ER (cellAt c cl) (r + 1) ∅ 0 ∗ reached ER (cellAt c cl) (r + 1))

/-- What the two waits for hop h = 2 r + k of half j spend. -/
def hopW (d k j : Fin 2) (r : ℕ) : sProp 𝕄 :=
  iprop(cred (tallyAt (cellAt c (.rR d k j)) (Tring (2 * r + k.val) j.val d.val) NH) ∗ atPos ER (cellAt c (.rR d k j)) r ∅ 0
    ∗ cred (tallyAt (cellAt c (.rS d k j)) 0 NH) ∗ atPos ER (cellAt c (.rS d k j)) r ∅ 0)

theorem ring_wait {α : Type} {Q : α → sProp 𝕄} (d k j : Fin 2) (r : ℕ) (l : List Row) (hdR : dutC c (.rR d k j) r = {0}) (hdS : dutC c (.rS d k j) r = {0})
    {kk : PUnit → Prog (TpuEff nD τ sig (Elt F) Λ₀ .tc) α} {s1 s2 : SemLoc sig} (hs1 : s1 = (Cell.rR d k j).toSem) (hs2 : s2 = (Cell.rS d k j).toSem)
    {w1 w2 : TpuEff nD τ sig (Elt F) Λ₀ .tc PUnit} {k1 k2 : ℕ}
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hk1 : k1 = NH) (hk2 : k2 = NH)
    (hlev : l.all (fun x => decide (Tring (2 * r + k.val) j.val d.val < x.idx ∧ x.idx < 64)) = true) (hi : Tring (2 * r + k.val) j.val d.val < 64) :
    iprop(recs m κ ι ∗ owesL c l ∗ hopW c d k j r)
      ⊢ iprop(((owesL c l ∗ past c (.rR d k j) r ∗ payC m c (.rR d k j) r 0 ∗ past c (.rS d k j) r ∗ payC m c (.rS d k j) r 0) -∗ wpc c (kk ⟨⟩) Q)
          -∗ wpc c (.op w1 fun _ => .op w2 kk) Q) := by
  have hlev0 : l.all (fun x => decide (0 < x.idx ∧ x.idx < 64)) = true := by
    rw [List.all_eq_true] at hlev ⊢
    intro x hx
    have := of_decide_eq_true (hlev x hx)
    exact decide_eq_true ⟨by omega, this.2⟩
  unfold hopW past
  iintro ⟨#HR, HO, C1, A1, C2, A2⟩ Hk
  iapply (step_wait m κ ι c (.rR d k j) r 0 (Tring (2 * r + k.val) j.val d.val) l hs1 hw1 hk1 hdR hlev hi) $$ [HO C1 A1]
  · isplitr; · iexact HR
    isplitl [HO]; · iexact HO
    isplitl [C1]; · iexact C1
    iexact A1
  iintro ⟨HO, A1, R1, P1⟩
  iapply (step_wait m κ ι c (.rS d k j) r 0 0 l hs2 hw2 hk2 hdS hlev0 (by decide)) $$ [HO C2 A2]
  · isplitr; · iexact HR
    isplitl [HO]; · iexact HO
    isplitl [C2]; · iexact C2
    iexact A2
  iintro ⟨HO, A2, R2, P2⟩
  iapply Hk
  isplitl [HO]; · iexact HO
  isplitl [A1 R1]; · isplitl [A1] <;> iassumption
  isplitl [P1]; · iexact P1
  isplitl [A2 R2]; · isplitl [A2] <;> iassumption
  iexact P2

/-- The half that hop h = 2 r + k brings. -/
theorem pay_rR (d k j : Fin 2) (r h : ℕ) (hh : 2 * r + k.val = h) : payC m c (.rR d k j) r 0 = ringP d c fullShare k.val j.val (S m (back d c (h + 1))) := by
  subst hh; rfl
/-- What a send of the ring gives back: at hop 0 the share of the device's own half, later the share of the half sent on. -/
theorem pay_rS0 (d j : Fin 2) : payC m c (.rS d 0 j) 0 0 = outP c (qR d) (row0 (pos c) + 128 * j.val) 128 (f2 (row0 (pos c)) (S m c)) := rfl
theorem pay_rS (d k j : Fin 2) (r h : ℕ) (hh : 2 * r + k.val = h + 1) : payC m c (.rS d k j) r 0 = ringP d c fullShare.left (h % 2) j.val (S m (back d c (h + 1))) := by
  unfold payC; dsimp only; rw [hh, if_neg (Nat.succ_ne_zero h), show (h + 1 + 1) % 2 = h % 2 by omega]

/-! ## The credits of one direction -/

/-- The credits of direction d after n waits: some n of the neighbour's credits have come in. -/
def credGot (d : Fin 2) (n : ℕ) : sProp 𝕄 :=
  iprop(∃ T : Finset (Fin 4), ⌜T ⊆ {0, 1, 2} ∧ n + (({0, 1, 2} : Finset (Fin 4)) \ T).card ≤ 3⌝ ∗ atPos ER (cellAt c (.cr d)) 0 T n ∗ bigSep T fun t => freedTo d c t.val)

theorem credGot_zero (d : Fin 2) : (atPos ER (cellAt c (.cr d)) 0 ∅ 0 : sProp 𝕄) ⊢ credGot (F := F) c d 0 := by
  unfold credGot
  iintro H
  iexists ∅
  isplitr; · ipureintro; decide
  isplitl [H]; · iexact H
  rw [BI.bigSep_empty]
  iempintro

/-- Among n + 1 of the three credits one is late enough to speak for landing place n. -/
theorem credit_late : ∀ (n : Fin 3) (T : Finset (Fin 4)), T ⊆ {0, 1, 2} → n.val + 1 + (({0, 1, 2} : Finset (Fin 4)) \ T).card ≤ 3 → ∃ t ∈ T, n.val ≤ t.val := by decide

theorem freedTo_elim (d : Fin 2) (t : ℕ) (i : Fin 3) (h : i.val ≤ t) : freedTo (F := F) d c t ⊢ freed d c i := by
  unfold freedTo
  exact BI.bigSep_elim (s := Finset.univ.filter fun i : Fin 3 => i.val ≤ t) (Φ := fun i => freed (F := F) d c i) (i := i) (Finset.mem_filter.mpr ⟨Finset.mem_univ i, h⟩)

theorem credit_freed (d : Fin 2) (n : Fin 3) (T : Finset (Fin 4)) (h : ∃ t ∈ T, n.val ≤ t.val) : (bigSep T fun t => freedTo (F := F) d c t.val) ⊢ freed d c n := by
  obtain ⟨t, ht, hn⟩ := h
  exact (BI.bigSep_elim (Φ := fun t : Fin 4 => freedTo (F := F) d c t.val) ht).trans (freedTo_elim c d t.val n hn)

/-- What a device has freed of its own places so far, as its neighbour will learn it. -/
def given (d : Fin 2) (n : ℕ) : sProp 𝕄 := bigSep (Finset.univ.filter fun i : Fin 3 => i.val < n) (freed (F := F) d (prv d c))

instance (d n) : BI.Persistent (given (F := F) c d n) := by unfold given; infer_instance

theorem given_zero (d : Fin 2) : (emp : sProp 𝕄) ⊢ given (F := F) c d 0 := by
  unfold given
  rw [show (Finset.univ.filter fun i : Fin 3 => i.val < 0) = ∅ by decide, BI.bigSep_empty]
  exact BI.Entails.refl _

theorem given_succ (d : Fin 2) (n : Fin 3) : iprop(given (F := F) c d n.val ∗ freed d (prv d c) n) ⊢ freedTo d (prv d c) n.val := by
  unfold given freedTo
  have e : ∀ n : Fin 3, (Finset.univ.filter fun i : Fin 3 => i.val ≤ n.val) = insert n (Finset.univ.filter fun i : Fin 3 => i.val < n.val) := by decide
  rw [e n]
  refine BIBase.Entails.trans (Q := iprop(freed (F := F) d (prv d c) n ∗ bigSep (Finset.univ.filter fun i : Fin 3 => i.val < n.val) (freed (F := F) d (prv d c)))) ?_ (Entails.of_eq (BI.bigSep_insert (by simp)).symm)
  iintro ⟨H1, H2⟩; isplitl [H2] <;> iassumption

theorem given_to (d : Fin 2) (n : ℕ) : freedTo (F := F) d (prv d c) n ⊢ given c d (n + 1) := by
  unfold given freedTo
  rw [show (Finset.univ.filter fun i : Fin 3 => i.val ≤ n) = (Finset.univ.filter fun i : Fin 3 => i.val < n + 1) from Finset.filter_congr fun i _ => Nat.lt_succ_iff.symm]

/-- The credits of direction d after n waits; after all three nothing more comes in. -/
def credSt (d : Fin 2) (n : ℕ) : sProp 𝕄 := if n = 3 then shut (F := F) c (.cr d) else credGot c d n

theorem credit_wait {α : Type} {Q : α → sProp 𝕄} {k : PUnit → Prog (TpuEff nD τ sig (Elt F) Λ₀ .tc) α} (d : Fin 2) (n : Fin 3) (i : ℕ) (l : List Row)
    {w : TpuEff nD τ sig (Elt F) Λ₀ .tc PUnit} {s : SemLoc sig} (hs : s = (Cell.cr d).toSem)
    (hw : ∀ K : PUnit → sProp 𝕄, wpE (defs₀ (F := F)) 𝒱₀ (c : Thread nD τ) none Set.univ w K = waitSpec (c : Thread nD τ) Set.univ s 1 K)
    (hlev : l.all (fun x => decide (i < x.idx ∧ x.idx < 64)) = true) (hi : i < 64) :
    iprop(recs m κ ι ∗ owesL c l ∗ credSt (F := F) c d n.val ∗ cred (tallyAt (cellAt c (.cr d)) i 1))
      ⊢ iprop(((owesL c l ∗ credSt (F := F) c d (n.val + 1) ∗ freed (F := F) d c n) -∗ wpc c (k ⟨⟩) Q) -∗ wpc c (.op w k) Q) := by
  subst hs
  have hn : ¬ n.val = 3 := by omega
  have hd : dutC c (.cr d) 0 = {0, 1, 2} := rfl
  unfold credSt
  rw [if_neg hn]
  by_cases hl : n.val + 1 = 3
  · rw [if_pos hl]
    have hst := fun W (T : Finset (Fin 4)) => Rounds.wp_wait_rest_token 𝒱₀ ER (Rd m) (defs := defs₀ (F := F)) (Γ := .empty) (c : Thread nD τ) none (Q := Q) (κ := κ (c, .cr d)) hw (Set.mem_univ _) (k := k) i (O := owesT c l) (W := W)
      (R := 0) (m := n.val) (T := T) (by rw [show ((c : Thread nD τ), (Cell.cr d).toSem) = cellAt c (.cr d) from rfl, expect_at, hd, hl]; rfl)
    simp only [show ((c : Thread nD τ), (Cell.cr d).toSem) = cellAt c (.cr d) from rfl, duties_at, payload_at, hd] at hst
    unfold owesL credGot
    iintro ⟨#HR, ⟨%W, HO⟩, ⟨%T, %hT, HA, #HT⟩, HC⟩ Hk
    iapply (hst W T) $$ [HO HC HA]
    · isplitr; · iapply (recs_inv m κ ι); iexact HR
      isplitl [HC]; · iexact HC
      isplitl [HO]; · iexact HO
      isplitr; · iapply (mayWait c (Cell.cr d).toSem i l hlev hi); iapply (recs_lev m κ ι); iexact HR
      iexact HA
    iintro ⟨HO, HA, -, HP⟩
    iapply Hk
    isplitl [HO]; · iexists _; iexact HO
    isplitl [HA]
    · iapply (shut_at c (.cr d) 1 (by intro r' hr; unfold dutC; dsimp only; rw [if_neg (by omega)])); iexact HA
    by_cases h2 : (2 : Fin 4) ∈ T
    · iapply (credit_freed c d n T ⟨2, h2, by show n.val ≤ 2; omega⟩); iexact HT
    · iapply (credit_freed c d n ({0, 1, 2} \ T) ⟨2, by simp [h2], by show n.val ≤ 2; omega⟩); iexact HP
  · rw [if_neg hl]
    have hst := fun W (T : Finset (Fin 4)) => Rounds.wp_wait 𝒱₀ ER (Rd m) (defs := defs₀ (F := F)) (Γ := .empty) (c : Thread nD τ) none (Q := Q) (κ := κ (c, .cr d)) hw (Set.mem_univ _) (k := k) (cr := Finsupp.single i 1) (O := owesT c l) (W := W)
      {((Cell.cr d).toSem, i)} (R := 0) (m := n.val) (T := T) (by rw [Util.total_single]) (image_single_subset _ i 1)
    simp only [show ((c : Thread nD τ), (Cell.cr d).toSem) = cellAt c (.cr d) from rfl, duties_at, payload_at, expect_at, hd] at hst
    unfold owesL credGot
    iintro ⟨#HR, ⟨%W, HO⟩, ⟨%T, %hT, HA, #HT⟩, HC⟩ Hk
    iapply (hst W T) $$ [HO HC HA]
    · isplitr; · iapply (recs_inv m κ ι); iexact HR
      isplitl [HC]; · iexact HC
      isplitl [HO]; · iexact HO
      isplitr; · iapply (mayWait c (Cell.cr d).toSem i l hlev hi); iapply (recs_lev m κ ι); iexact HR
      iexact HA
    iintro %T' ⟨%hT', HO, HA, HP⟩
    ihave HP := (Entails.of_eq (show (bigSep (T' \ T) fun t => payC m c (.cr d) 0 t) = bigSep (T' \ T) (fun t => freedTo (F := F) d c t.val) from rfl)) $$ HP
    icases HP with #HP
    iapply Hk
    isplitl [HO]; · iexists _; iexact HO
    have hc : T' ⊆ {0, 1, 2} ∧ n.val + 1 + (({0, 1, 2} : Finset (Fin 4)) \ T').card ≤ 3 := ⟨hT'.2.1, hT'.2.2⟩
    ihave HB : bigSep T' (fun t => freedTo (F := F) d c t.val) $$ []
    · have hu : iprop(bigSep T (fun t => freedTo (F := F) d c t.val) ∗ bigSep (T' \ T) (fun t => freedTo (F := F) d c t.val)) ⊢ bigSep T' (fun t => freedTo (F := F) d c t.val) :=
        Entails.of_eq ((BI.bigSep_union (Φ := fun t : Fin 4 => freedTo (F := F) d c t.val) Finset.disjoint_sdiff).symm.trans
          (by rw [Finset.union_sdiff_of_subset hT'.1]))
      iapply hu
      isplitr; · iexact HT
      iexact HP
    icases HB with #HB
    isplitl [HA]
    · iexists T'
      isplitr; · ipureintro; exact hc
      isplitl [HA]; · iexact HA
      iexact HB
    iapply (credit_freed c d n T' (credit_late n T' hc.1 hc.2)); iexact HB

/-- What credit n of direction d takes: the count of the own landing place, the right to pay the neighbour, the credit to come, the right to fill the neighbour's place once more. -/
def credW (d : Fin 2) (n : Fin 3) (i : ℕ) : sProp 𝕄 :=
  iprop(Release.readerAt ES (c, d, n) 0 ∗ dutyTok ER (cellAt (prv d c) (.cr d)) 0 n.castSucc ∗ cred (tallyAt (cellAt c (.cr d)) i 1)
    ∗ Release.writeTok ES (nxt d c, d, n) 1)

theorem ringAny_alone : ∀ (d k j : Fin 2) (c : Dev nD), iprop(ringAny (F := F) d c k.val j.val ∗ ringAny (F := F) d c k.val j.val) ⊢ (False : sProp 𝕄)
  | 0, k, j, c => by
    unfold ringAny
    exact Release.slot_slot_false ⟨(ValueIdx.ix3 (n0 := 2) (n1 := 256) (n2 := 2048) k (⟨128 * j.val, by omega⟩ : Fin 256) (0 : Fin 2048) : S2x256x2048.Idx), by simp [half, ValueIdx.ix3]⟩
  | 1, k, j, c => by
    unfold ringAny
    exact Release.slot_slot_false ⟨(ValueIdx.ix3 (n0 := 2) (n1 := 256) (n2 := 2048) k (⟨128 * j.val, by omega⟩ : Fin 256) (0 : Fin 2048) : S2x256x2048.Idx), by simp [half, ValueIdx.ix3]⟩

/-- A landing place is freed and its sender told; then the next device's place is awaited and taken. -/
theorem credit_step {α : Type} {Q : α → sProp 𝕄} {k : PUnit → Prog (TpuEff nD τ sig (Elt F) Λ₀ .tc) α} (d j : Fin 2) (n : Fin 3) (h : ℕ) (l : List Row) {n' : Dev nD} (hn' : n' = prv d c)
    {w : TpuEff nD τ sig (Elt F) Λ₀ .tc PUnit} {s : SemLoc sig} {sem : Sem sig} (hs : s = (Cell.cr d).toSem) (hsem : SemLoc.reg sem = (Cell.cr d).toSem)
    (hw : ∀ K : PUnit → sProp 𝕄, wpE (defs₀ (F := F)) 𝒱₀ (c : Thread nD τ) none Set.univ w K = waitSpec (c : Thread nD τ) Set.univ s 1 K)
    (hlev : l.all (fun x => decide (Tring h j.val d.val + 1 < x.idx ∧ x.idx < 64)) = true) (hi : Tring h j.val d.val + 1 < 64) :
    iprop(recs m κ ι ∗ owesL c (rowCr d j h :: l) ∗ given (F := F) c d n.val ∗ credSt (F := F) c d n.val ∗ credW (F := F) c d n (Tring h j.val d.val + 1)
        ∗ ringAny (F := F) d c (keyK n).val (keyJ d n).val ∗ reached ER (cellAt c (.rR d (keyK n) (keyJ d n))) 1)
      ⊢ iprop(((owesL c l ∗ given (F := F) c d (n.val + 1) ∗ credSt (F := F) c d (n.val + 1)
          ∗ ringAny (F := F) d (nxt d c) (keyK n).val (keyJ d n).val ∗ reached ER (cellAt (nxt d c) (.rR d (keyK n) (keyJ d n))) 1) -∗ wpc c (k ⟨⟩) Q)
        -∗ wpc c (.op (.semSignal (n'.tc : Thread nD τ) sem 1) fun _ => .op w k) Q) := by
  unfold credW
  iintro ⟨#HR, HO, #HG, HS, ⟨Hrd, Ht, HC, Hw⟩, HP, #Hre⟩ Hk
  imod (Release.slot_release ES (ι := ι (c, d, n)) (Set.mem_univ _) (S := ringAny (F := F) d c (keyK n).val (keyJ d n).val) (ringAny_alone d (keyK n) (keyJ d n) c) 0) $$ [Hrd HP] with ⟨-, #Hrel⟩
  · isplitr; · iapply (recs_slot m κ ι (c, d, n)); iexact HR
    isplitl [Hrd] <;> iassumption
  ihave HF : freedTo (F := F) d (prv d c) n.val $$ []
  · iapply (given_succ c d n)
    isplitl; · iexact HG
    unfold freed
    rw [nxt_prv]
    isplitl; · iexact Hrel
    iexact Hre
  icases HF with #HF
  iapply (step_signal m κ ι c (rowCr d j h) l n.castSucc hn' hsem rfl (by show n.castSucc ∈ ({0, 1, 2} : Finset (Fin 4)); revert n; decide)) $$ [HO Ht]
  · isplitr; · iexact HR
    isplitl [HO]; · iexact HO
    isplitl [Ht]; · iexact Ht
    iapply (Entails.of_eq (show freedTo (F := F) d (prv d c) n.val = payC m ((rowCr d j h).dir.tgt c) (rowCr d j h).cell 0 n.castSucc from rfl))
    iexact HF
  iintro HO
  iapply (credit_wait m κ ι c d n (Tring h j.val d.val + 1) l hs hw hlev hi) $$ [HO HS HC]
  · isplitr; · iexact HR
    isplitl [HO]; · iexact HO
    isplitl [HS]; · iexact HS
    iexact HC
  iintro ⟨HO, HS, HN⟩
  unfold freed
  icases HN with ⟨HN, HN'⟩
  imod (Release.slot_take ES (ι := ι (nxt d c, d, n)) (Set.mem_univ _) (S := ringAny (F := F) d (nxt d c) (keyK n).val (keyJ d n).val) 1) $$ [HN Hw] with HT
  · isplitr; · iapply (recs_slot m κ ι (nxt d c, d, n)); iexact HR
    isplitl [HN] <;> iassumption
  iapply Hk
  isplitl [HO]; · iexact HO
  isplitr; · iapply (given_to c d n.val); iexact HF
  isplitl [HS]; · iexact HS
  isplitl [HT]; · iexact HT
  iexact HN'

end Cert.Proto

end
-- ==== Proof.Hops.lean ====
module

public import proofs.«01_k».proof.Proof.Ring

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## One hop of one half -/

/-- The rights to pay the two cells of a send into place k in round r. -/
def fwd (d k j : Fin 2) (r : ℕ) : sProp 𝕄 := iprop(dutyTok ER (cellAt c (.rS d k j)) r 0 ∗ dutyTok ER (cellAt (nxt d c) (.rR d k j)) r 0)

/-- The first hop: a neighbour's half arrives, the own half is known to be sent, and the neighbour's half goes on. -/
theorem hop_first {α : Type} {Q : α → sProp 𝕄} (d j : Fin 2) (l : List Row) {n : Dev nD} (hn : n = nxt d c)
    {kk : PUnit → Prog (TpuEff nD τ sig (Elt F) Λ₀ .tc) α} {s1 s2 : SemLoc sig} (hs1 : s1 = (Cell.rR d 0 j).toSem) (hs2 : s2 = (Cell.rS d 0 j).toSem)
    {w1 w2 : TpuEff nD τ sig (Elt F) Λ₀ .tc PUnit} {k1 k2 : ℕ}
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hk1 : k1 = NH) (hk2 : k2 = NH)
    {sS sem : SemLoc sig} {hb h'}
    {hsc : (ringV d (1 : Fin 2).val j.val h' : Memref sig (Dev.tc n : Thread nD τ).2.kind _ _ _).view.ref.isScScratch = false}
    {hsrc : (ringV d 0 j.val hb).view.WordExact} {hdst : (ringV d (1 : Fin 2).val j.val h').view.WordExact}
    {hsem : DmaTarget.Typed .vmem sem (.remote (Dev.tc n : Thread nD τ) (ringV d (1 : Fin 2).val j.val h') sS hsc)}
    (hS : sS = (Cell.rS d 1 j).toSem) (hR : sem = (Cell.rR d 1 j).toSem)
    (hlev : (rowR d 1 j 1 :: l).all (fun x => decide (Tring 0 j.val d.val < x.idx ∧ x.idx < 64)) = true) :
    iprop(recs m κ ι ∗ owesL c (rowR d 1 j 1 :: l) ∗ hopW c d 0 j 0 ∗ ringAny (F := F) d (nxt d c) (1 : Fin 2).val j.val ∗ fwd c d 1 j 0)
      ⊢ iprop(((owesL c l ∗ ringP d c fullShare.right 0 j.val (S m (back d c 1)) ∗ outP c (qR d) (row0 (pos c) + 128 * j.val) 128 (f2 (row0 (pos c)) (S m c))
            ∗ cred (tallyAt (cellAt c (.rS d 1 j)) 0 NH) ∗ past c (.rR d 0 j) 0 ∗ past c (.rS d 0 j) 0) -∗ wpc c (kk ⟨⟩) Q)
          -∗ wpc c (.op w1 fun _ => .op w2 fun _ => .op (.enqueueDma (ringV d 0 j.val hb) (.remote (Dev.tc n : Thread nD τ) (ringV d (1 : Fin 2).val j.val h') sS hsc) sem hsrc hdst hsem) kk) Q) := by
  have hi : Tring 0 j.val d.val < 64 := by have := j.isLt; have := d.isLt; unfold Tring; omega
  unfold fwd
  iintro ⟨#HR, HO, HW, HD, HT, HT'⟩ Hk
  iapply (ring_wait m κ ι c d 0 j 0 (rowR d 1 j 1 :: l) rfl rfl hs1 hs2 hw1 hw2 hk1 hk2 hlev hi) $$ [HO HW]
  · isplitr; · iexact HR
    isplitl [HO] <;> iassumption
  iintro ⟨HO, HA, HP, HB, HQ⟩
  ihave HP := (Entails.of_eq (pay_rR m c d 0 j 0 0 rfl)) $$ HP
  ihave HP := (ringP_share d c _ _ _).1 $$ HP
  icases HP with ⟨HL, HP⟩
  ihave HQ := (Entails.of_eq (pay_rS0 m c d j)) $$ HQ
  iapply (send_ring m κ ι c d 1 j 0 0 0 rfl rfl l hn hS hR (by show (0 : Fin 4) ∈ dutC c (.rS d 1 j) 0; exact Finset.mem_singleton_self 0)) $$ [HO HL HD HT HT']
  · isplitr; · iexact HR
    isplitl [HO]; · iexact HO
    isplitl [HL]; · iexact HL
    isplitl [HD]; · iexact HD
    isplitl [HT]; · iexact HT
    isplitr; · iapply (recs_reached m κ ι c (.rS d 1 j)); iexact HR
    isplitl [HT']; · iexact HT'
    iapply (recs_reached m κ ι (nxt d c) (.rR d 1 j)); iexact HR
  iintro ⟨HO, HC⟩
  iapply Hk
  isplitl [HO]; · iexact HO
  isplitl [HP]; · iexact HP
  isplitl [HQ]; · iexact HQ
  isplitl [HC]; · iexact HC
  isplitl [HA] <;> iassumption

/-- A later hop h that goes on to a place filled once before: the own place is freed, the neighbour's awaited. -/
theorem hop_next {α : Type} {Q : α → sProp 𝕄} (d k k' j : Fin 2) (r h : ℕ) (n : Fin 3) (hh : 2 * r + k.val = h + 1) (hp : k.val = (h + 1) % 2) (hh' : 2 * 1 + k'.val = h + 1 + 1) (hp' : k'.val = h % 2) (hK : keyK n = k') (hJ : keyJ d n = j)
    (l : List Row) {n1 n2 : Dev nD} (hn1 : n1 = prv d c) (hn : n2 = nxt d c)
    {kk : PUnit → Prog (TpuEff nD τ sig (Elt F) Λ₀ .tc) α} {s1 s2 s3 : SemLoc sig} (hs1 : s1 = (Cell.rR d k j).toSem) (hs2 : s2 = (Cell.rS d k j).toSem) (hs3 : s3 = (Cell.cr d).toSem) {sm : Sem sig} (hsm : SemLoc.reg sm = (Cell.cr d).toSem)
    {w1 w2 w3 : TpuEff nD τ sig (Elt F) Λ₀ .tc PUnit} {k1 k2 : ℕ}
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hw3 : ∀ K : PUnit → sProp 𝕄, wpE (defs₀ (F := F)) 𝒱₀ (c : Thread nD τ) none Set.univ w3 K = waitSpec (c : Thread nD τ) Set.univ s3 1 K)
    (hk1 : k1 = NH) (hk2 : k2 = NH)
    {sS sem : SemLoc sig} {hb h'}
    {hsc : (ringV d k'.val j.val h' : Memref sig (Dev.tc n2 : Thread nD τ).2.kind _ _ _).view.ref.isScScratch = false}
    {hsrc : (ringV d k.val j.val hb).view.WordExact} {hdst : (ringV d k'.val j.val h').view.WordExact}
    {hsem : DmaTarget.Typed .vmem sem (.remote (Dev.tc n2 : Thread nD τ) (ringV d k'.val j.val h') sS hsc)}
    (hS : sS = (Cell.rS d k' j).toSem) (hR : sem = (Cell.rR d k' j).toSem)
    (hdR : dutC c (.rR d k j) r = {0}) (hdS : dutC c (.rS d k j) r = {0}) (hdS' : dutC c (.rS d k' j) 1 = {0})
    (hlev : (rowCr d j (h + 1) :: rowR d k' j (h + 1 + 1) :: l).all (fun x => decide (Tring (2 * r + k.val) j.val d.val < x.idx ∧ x.idx < 64)) = true)
    (hlev' : (rowR d k' j (h + 1 + 1) :: l).all (fun x => decide (Tring (h + 1) j.val d.val + 1 < x.idx ∧ x.idx < 64)) = true)
    (hi : Tring (h + 1) j.val d.val + 1 < 64) :
    iprop(recs m κ ι ∗ owesL c (rowCr d j (h + 1) :: rowR d k' j (h + 1 + 1) :: l) ∗ hopW c d k j r ∗ ringP d c fullShare.right k'.val j.val (S m (back d c (h + 1)))
        ∗ past c (.rR d k' j) 0 ∗ past c (.rS d k' j) 0 ∗ credW (F := F) c d n (Tring (h + 1) j.val d.val + 1) ∗ given (F := F) c d n.val ∗ credSt (F := F) c d n.val ∗ fwd c d k' j 1)
      ⊢ iprop(((owesL c l ∗ ringP d c fullShare.right k.val j.val (S m (back d c (h + 1 + 1)))
            ∗ cred (tallyAt (cellAt c (.rS d k' j)) 0 NH) ∗ past c (.rR d k j) r ∗ past c (.rS d k j) r ∗ past c (.rR d k' j) 0 ∗ past c (.rS d k' j) 0
            ∗ given (F := F) c d (n.val + 1) ∗ credSt (F := F) c d (n.val + 1)) -∗ wpc c (kk ⟨⟩) Q)
          -∗ wpc c (.op w1 fun _ => .op w2 fun _ => .op (.semSignal (n1.tc : Thread nD τ) sm 1) fun _ => .op w3 fun _ =>
              .op (.enqueueDma (ringV d k.val j.val hb) (.remote (Dev.tc n2 : Thread nD τ) (ringV d k'.val j.val h') sS hsc) sem hsrc hdst hsem) kk) Q) := by
  subst hK hJ
  unfold fwd
  iintro ⟨#HR, HO, HW, HP', HX, HY, HCW, #HG, HS, HT, HT'⟩ Hk
  iapply (ring_wait m κ ι c d k (keyJ d n) r _ hdR hdS hs1 hs2 hw1 hw2 hk1 hk2 hlev (by rw [hh]; omega)) $$ [HO HW]
  · isplitr; · iexact HR
    isplitl [HO] <;> iassumption
  iintro ⟨HO, HA, HP, HB, HQ⟩
  ihave HP := (Entails.of_eq (pay_rR m c d k (keyJ d n) r (h + 1) hh)) $$ HP
  ihave HP := (ringP_share d c _ _ _).1 $$ HP
  icases HP with ⟨HL, HP⟩
  ihave HQ := (Entails.of_eq ((pay_rS m c d k (keyJ d n) r h hh).trans (by rw [← hp']))) $$ HQ
  ihave HF := (ringP_share d c (keyK n).val (keyJ d n).val (S m (back d c (h + 1)))).2 $$ [HQ HP']
  · isplitl [HQ] <;> iassumption
  ihave HF := (ringP_any d c _ _ _) $$ HF
  unfold past
  icases HX with ⟨HX, #HX'⟩
  icases HY with ⟨HY, #HY'⟩
  iapply (credit_step m κ ι c d (keyJ d n) n (h + 1) _ hn1 hs3 hsm hw3 hlev' hi) $$ [HO HCW HS HF]
  · isplitr; · iexact HR
    isplitl [HO]; · iexact HO
    isplitr; · iexact HG
    isplitl [HS]; · iexact HS
    isplitl [HCW]; · iexact HCW
    isplitl [HF]; · iexact HF
    iexact HX'
  iintro ⟨HO, HG', HS, HD, HZ⟩
  iapply (send_ring m κ ι c d (keyK n) (keyJ d n) 1 k.val (h + 1) hh' hp l hn hS hR (by rw [hdS']; exact Finset.mem_singleton_self 0)) $$ [HO HL HD HT HT' HZ]
  · isplitr; · iexact HR
    isplitl [HO]; · iexact HO
    isplitl [HL]; · iexact HL
    isplitl [HD]; · iexact HD
    isplitl [HT]; · iexact HT
    isplitr; · iexact HY'
    isplitl [HT']; · iexact HT'
    iexact HZ
  iintro ⟨HO, HC⟩
  iapply Hk
  isplitl [HO]; · iexact HO
  isplitl [HP]; · iexact HP
  isplitl [HC]; · iexact HC
  isplitl [HA]; · iexact HA
  isplitl [HB]; · iexact HB
  isplitl [HX]
  · isplitl [HX]; · iexact HX
    iexact HX'
  isplitl [HY]
  · isplitl [HY]; · iexact HY
    iexact HY'
  isplitl [HG'] <;> iassumption

end Cert.Proto

end
-- ==== Proof.Norm.lean ====
module

public import proofs.«01_k».proof.Proof.Hops

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## The result's values -/

/-- A row r and a place l of a piece with n rows, from numbers. -/
abbrev cellIx (n r l : ℕ) [NeZero n] : (⟨2, ![n, 2048]⟩ : Shape).Idx := ix2 (Fin.ofNat n r) (Fin.ofNat 2048 l)

/-- The normalised rows of the result: sum V plus residual W, times gain g. -/
def norm256 (V W : ℕ → ℕ → El F) (g : S2048.Idx → El F) : S256x2048.Idx → El F :=
  k0_pay28 (fun y => V (y 0).val (y 1).val) (fun y : S1x256x2048.Idx => W (y 1).val (y 2).val) g
def norm128 (lo : ℕ) (V W : ℕ → ℕ → El F) (g : S2048.Idx → El F) : S128x2048.Idx → El F :=
  k0_pay40 (fun y : S1x128x2048.Idx => V (lo + (y 1).val) (y 2).val) (fun y : S1x128x2048.Idx => W (lo + (y 1).val) (y 2).val) g

/-- The whole result on device c: the piece opposite to it is computed in halves, every other as a whole. -/
def O (g : S2048.Idx → El F) : ℕ → ℕ → El F := fun r l =>
  if r / 256 = (pos c + 4) % 8 then norm128 (128 * (r / 128 % 2)) (S m (at_ (r / 256) (zOf c))) (R m c (r / 256)) g (cellIx 128 r l)
  else norm256 (S m (at_ (r / 256) (zOf c))) (R m c (r / 256)) g (cellIx 256 r l)

theorem R_mod (p : ℕ) : R m c (p % 8) = R m c p := by unfold R row0; rw [Nat.mod_mod]

theorem O_piece (g : S2048.Idx → El F) (q : ℕ) (hq : q % 8 ≠ (pos c + 4) % 8) (y : S256x2048.Idx) :
    norm256 (S m (at_ (q % 8) (zOf c))) (R m c q) g y = O m c g (row0 q + (y 0).val - 0) (y 1).val := by
  have h0 : (y 0).val < 256 := (y 0).isLt
  have h1 : (y 1).val < 2048 := (y 1).isLt
  have hd : (row0 q + (y 0).val - 0) / 256 = q % 8 := by unfold row0; omega
  unfold O
  rw [hd, if_neg hq, R_mod]
  refine congrArg _ ?_
  refine (eq_ix2 y).trans (congrArg₂ ix2 (Fin.ext ?_) (Fin.ext ?_))
  · show (y 0).val = (row0 q + (y 0).val - 0) % 256
    unfold row0; omega
  · exact (Nat.mod_eq_of_lt h1).symm

theorem O_half (g : S2048.Idx → El F) (j : Fin 2) (lo : ℕ) (hlo : lo = row0 (pos c + 4) + 128 * j.val) (y : S128x2048.Idx) :
    norm128 (128 * j.val) (S m (at_ ((pos c + 4) % 8) (zOf c))) (R m c (pos c + 4)) g y = O m c g (lo + (y 0).val - 0) (y 1).val := by
  have h0 : (y 0).val < 128 := (y 0).isLt
  have h1 : (y 1).val < 2048 := (y 1).isLt
  have hj : j.val < 2 := j.isLt
  have hd : (lo + (y 0).val - 0) / 256 = (pos c + 4) % 8 := by subst hlo; unfold row0; omega
  have he : (lo + (y 0).val - 0) / 128 % 2 = j.val := by subst hlo; unfold row0; omega
  unfold O
  rw [hd, if_pos rfl, he, R_mod]
  refine congrArg _ ?_
  refine (eq_ix2 y).trans (congrArg₂ ix2 (Fin.ext ?_) (Fin.ext ?_))
  · show (y 0).val = (lo + (y 0).val - 0) % 128
    subst hlo; unfold row0; omega
  · exact (Nat.mod_eq_of_lt h1).symm

/-- A landing place's rows without their leading axis. -/
theorem pay27_eq (V : ℕ → ℕ → El F) : k0_pay27 (fun y : S1x256x2048.Idx => V (y 1).val (y 2).val) = fun y : S256x2048.Idx => V (y 0).val (y 1).val := by
  funext y
  unfold k0_pay27 shapeCast
  rw [eq_ix2 y]
  exact congrArg (fun x : S1x256x2048.Idx => V (x 1).val (x 2).val) (reshapeEquiv_ix2_1ab _ (y 0) (y 1))

theorem pay30_eq (w : S256x2048.Idx → El F) : k0_pay30 w = w := shapeCast_self _ _

/-- Where the halves of a hop come from: the piece h + 1 places back. -/
theorem back_cw : ∀ c : Dev nD, ∀ h : Fin 4, back 0 c (h.val + 1) = at_ ((pos c + 7 - h.val) % 8) (zOf c) := by decide +kernel
theorem back_ccw : ∀ c : Dev nD, ∀ h : Fin 4, back 1 c (h.val + 1) = at_ ((pos c + h.val + 1) % 8) (zOf c) := by decide +kernel

/-! ## The gain, the staged residual -/

def gain (g : S2048.Idx → El F) : sProp 𝕄 := bufL c cc0_stg0_0 ↦[Finset.univ]{fullShare} g

theorem load_gain {α : Type} {Q : α → sProp 𝕄} {k : (S2048.Idx → El F) → Prog (TpuEff nD τ sig (Elt F) Λ₀ .tc) α} {h : ∀ a, ![0] a + S2048.size a ≤ S2048.size a}
    {hl : gM.view.LoadsAt (Rect.unit (s := S2048) ![0] S2048.size h).toLoadRect} (g : S2048.Idx → El F) :
    gain c g ⊢ iprop((gain c g -∗ wpc c (k g) Q) -∗ wpc c (.op (.load gM (Rect.unit (s := S2048) ![0] S2048.size h).toLoadRect hl) k) Q) := by
  have hst := wp_load_rect (defs := defs₀ (F := F)) (Γ := .empty) 𝒱₀ (c : Thread nD τ) none Set.univ (Q := Q) (k := k) (m := gM) (r := Rect.unit (s := S2048) ![0] S2048.size h) (hl := hl)
    (S := Finset.univ) (q := fullShare) (f := g) (Finset.subset_univ _)
  have hr : (gM.access (Rect.unit (s := S2048) ![0] S2048.size h)).read (Elt F) g = g := by
    funext j
    show ((View.whole cc0_stg0_0).slice (Rect.unit (s := S2048) ![0] S2048.size h)).read (Elt F) g j = _
    rw [View.read_apply, cast_eq]
    refine congrArg g ?_
    funext a
    refine Fin.ext ((ValueKit.view_emb_slice_whole_unit_val cc0_stg0_0 ![0] S2048.size h _ a).trans ?_)
    match a with
    | ⟨0, _⟩ => exact Nat.zero_add _
  rw [hr] at hst
  exact hst

/-- What the wait for copy r into staging place i spends. -/
def stW (i : Fin 4) (r : ℕ) : sProp 𝕄 := iprop(cred (tallyAt (cellAt c (.st i)) 0 NP) ∗ atPos ER (cellAt c (.st i)) r ∅ 0)

/-- A piece of the residual is copied into staging place i, for round r. -/
theorem copy_res {α : Type} {Q : α → sProp 𝕄} {k : PUnit → Prog (TpuEff nD τ sig (Elt F) Λ₀ .tc) α} (i : Fin 4) (r p : ℕ) {off : Fin 2 → ℕ} (ho : off = ![row0 p, 0])
    {h : ∀ a, off a + S256x2048.size a ≤ S2048x2048.size a} {hi} {sem : SemLoc sig} (hS : sem = (Cell.st i).toSem)
    {hsrc : (rM.slice (Rect.unit (s := S2048x2048) off S256x2048.size h) (fun _ => rfl)).view.WordExact} {hdst : (stV i.val hi).view.WordExact}
    {hsem : DmaTarget.Typed (nD := nD) (τ := τ) (p := .tc) .hbm sem (.here (stV i.val hi))} (hd : (0 : Fin 4) ∈ dutC c (.st i) r) (hp : R m c (pos c + stPiece i r) = R m c p) :
    iprop(recs m κ ι ∗ hbm m c main_arg1 ∗ stAny (F := F) c i.val ∗ dutyTok ER (cellAt c (.st i)) r 0 ∗ reached ER (cellAt c (.st i)) r)
      ⊢ iprop(((hbm m c main_arg1 ∗ cred (tallyAt (cellAt c (.st i)) 0 NP)) -∗ wpc c (k ⟨⟩) Q)
          -∗ wpc c (.op (.enqueueDma (rM.slice (Rect.unit (s := S2048x2048) off S256x2048.size h) (fun _ => rfl)) (.here (stV i.val hi)) sem hsrc hdst hsem) k) Q) := by
  subst ho
  have hrow : row0 p + 256 ≤ 2048 := by unfold row0; omega
  refine step_copy m κ ι c (.st i) r 0 main_arg1 ⟨_, rfl⟩ (src := resV (row0 p) h) (dst := stV i.val hi) hS (m (bufL c main_arg1)) ?_ (stAny (F := F) c i.val) ?_ (NP_st i.val hi) hd ?_
  · unfold hbm
    iintro ⟨%q, H⟩
    iexists q
    ihave H := (pointsTo_split_subset (Finset.subset_univ (resV (row0 p) h).view.set)).1 $$ H
    icases H with ⟨H, -⟩
    iexact H
  · unfold stAny anyOn
    rw [stV_set]
  · intro fd
    refine Entails.of_eq ((st_landed c i.val hi fd _ (R m c (pos c + stPiece i r)) fun y => ?_))
    rw [hp]
    exact resV_read (row0 p) h _ y hrow

/-- One piece of the result: the sum from a landing place, the staged residual, the gain, the store. -/
theorem norm_piece {α : Type} {Q : α → sProp 𝕄} (d : Fin 2) (p : ℕ) (i : Fin 4) (r q : ℕ) (l : List Row) (g : S2048.Idx → El F) (V : ℕ → ℕ → El F)
    {k : PUnit → Prog (TpuEff nD τ sig (Elt F) Λ₀ .tc) α}
    {h1 : ∀ a, ![p, 0, 0] a + (⟨3, ![1, 256, 2048]⟩ : Shape).size a ≤ S2x256x2048.size a}
    {hl1 : (ringM d).view.LoadsAt (Rect.unit (s := S2x256x2048) ![p, 0, 0] (⟨3, ![1, 256, 2048]⟩ : Shape).size h1).toLoadRect}
    {w1 : TpuEff nD τ sig (Elt F) Λ₀ .tc PUnit} {s1 : SemLoc sig} (hs1 : s1 = (Cell.st i).toSem) {k1 : ℕ}
    (hw1 : ∀ K : PUnit → sProp 𝕄, wpE (defs₀ (F := F)) 𝒱₀ (c : Thread nD τ) none Set.univ w1 K = waitSpec (c : Thread nD τ) Set.univ s1 k1 K) (hk1 : k1 = NP)
    {h2 : ∀ a, ![i.val, 0, 0] a + (⟨3, ![1, 256, 2048]⟩ : Shape).size a ≤ S4x256x2048.size a}
    {hl2 : sM.view.LoadsAt (Rect.unit (s := S4x256x2048) ![i.val, 0, 0] (⟨3, ![1, 256, 2048]⟩ : Shape).size h2).toLoadRect}
    {h3 : ∀ a, ![0] a + S2048.size a ≤ S2048.size a} {hl3 : gM.view.LoadsAt (Rect.unit (s := S2048) ![0] S2048.size h3).toLoadRect}
    {off : Fin 2 → ℕ} (ho : off = ![row0 q, 0]) {h4 : ∀ a, off a + S256x2048.size a ≤ S2048x2048.size a}
    {hl4 : oM.view.LoadsAt (Rect.unit (s := S2048x2048) off S256x2048.size h4).toLoadRect}
    {hx : (oM.access (Rect.unit (s := S2048x2048) off S256x2048.size h4)).Stores Finset.univ} {hm}
    {pay : (S1x256x2048.Idx → El F) → (S1x256x2048.Idx → El F) → (S2048.Idx → El F) → (S256x2048.Idx → El F)}
    (hpay : pay = fun v w g => k0_pay28 (k0_pay27 v) w g)
    (hd : dutC c (.st i) r = {0}) (hlev : l.all (fun x => decide (0 < x.idx ∧ x.idx < 64)) = true)
    (hp : R m c (pos c + stPiece i r) = R m c q) (hV : V = S m (at_ (q % 8) (zOf c))) (hq : q % 8 ≠ (pos c + 4) % 8) :
    iprop(recs m κ ι ∗ owesL c l ∗ ringP d c fullShare.right p 0 V ∗ ringP d c fullShare.right p 1 V ∗ stW (F := F) c i r ∗ gain c g ∗ outAny (F := F) c (row0 q) 256)
      ⊢ iprop(((owesL c l ∗ ringP d c fullShare.right p 0 V ∗ ringP d c fullShare.right p 1 V ∗ stAny (F := F) c i.val ∗ past c (.st i) r ∗ gain c g
            ∗ outP c fullShare (row0 q) 256 (f2 0 (O m c g))) -∗ wpc c (k ⟨⟩) Q)
          -∗ wpc c (.op (.load (ringM d) (Rect.unit (s := S2x256x2048) ![p, 0, 0] (⟨3, ![1, 256, 2048]⟩ : Shape).size h1).toLoadRect hl1) fun v => .op w1 fun _ =>
              .op (.load sM (Rect.unit (s := S4x256x2048) ![i.val, 0, 0] (⟨3, ![1, 256, 2048]⟩ : Shape).size h2).toLoadRect hl2) fun w =>
              .op (.load gM (Rect.unit (s := S2048) ![0] S2048.size h3).toLoadRect hl3) fun g' =>
              .op (.load oM (Rect.unit (s := S2048x2048) off S256x2048.size h4).toLoadRect hl4) fun _ =>
              .op (.store oM (Rect.unit (s := S2048x2048) off S256x2048.size h4) (pay v w g') Finset.univ hx hm) k) Q) := by
  subst hpay hV
  unfold stW past
  iintro ⟨#HR, HO, HP0, HP1, ⟨HC, HA⟩, HG, HT⟩ Hk
  ihave HP := (Entails.of_eq (slotP_eq d c fullShare.right p (S m (at_ (q % 8) (zOf c)))).symm) $$ [HP0 HP1]
  · isplitl [HP0] <;> iassumption
  iapply (load_slot c d p fullShare.right (S m (at_ (q % 8) (zOf c)))) $$ [HP]
  · iexact HP
  iintro HP
  iapply (step_wait m κ ι c (.st i) r 0 0 l hs1 hw1 hk1 hd hlev (by decide)) $$ [HO HC HA]
  · isplitr; · iexact HR
    isplitl [HO]; · iexact HO
    isplitl [HC]; · iexact HC
    iexact HA
  iintro ⟨HO, HA, HB, HS⟩
  ihave HS := (Entails.of_eq (show payC m c (.st i) r 0 = stP c i.val (R m c q) from (show payC m c (.st i) r 0 = stP c i.val (R m c (pos c + stPiece i r)) from rfl).trans (by rw [hp]))) $$ HS
  iapply (load_st c i.val 0 256 (R m c q)) $$ [HS]
  · iexact HS
  iintro HS
  iapply (load_gain c g) $$ [HG]
  · iexact HG
  iintro HG
  iapply (load_out c (row0 q) 256 ho) $$ [HT]
  · iexact HT
  iintro %w HT
  iapply (store_out c (row0 q) 256 0 ho (O m c g) (fun y => by
    rw [← O_piece m c g q hq y]
    unfold norm256
    show k0_pay28 (k0_pay27 (fun j : S1x256x2048.Idx => S m (at_ (q % 8) (zOf c)) (j 1).val (j 2).val)) _ g y = _
    rw [pay27_eq]
    simp only [Nat.zero_add])) $$ [HT]
  · iexact HT
  iintro HT
  iapply Hk
  ihave HP := (Entails.of_eq (slotP_eq d c fullShare.right p (S m (at_ (q % 8) (zOf c))))) $$ HP
  icases HP with ⟨HP0, HP1⟩
  ihave HS := (stP_any c i.val _) $$ HS
  isplitl [HO]; · iexact HO
  isplitl [HP0]; · iexact HP0
  isplitl [HP1]; · iexact HP1
  isplitl [HS]; · iexact HS
  isplitl [HA HB]
  · isplitl [HA] <;> iassumption
  isplitl [HG]; · iexact HG
  iexact HT

/-- The device's own piece: its rows are already in the result, and are read from there. -/
theorem norm_own {α : Type} {Q : α → sProp 𝕄} (i : Fin 4) (r : ℕ) (l : List Row) (g : S2048.Idx → El F)
    {k : PUnit → Prog (TpuEff nD τ sig (Elt F) Λ₀ .tc) α}
    {w1 : TpuEff nD τ sig (Elt F) Λ₀ .tc PUnit} {s1 : SemLoc sig} (hs1 : s1 = (Cell.st i).toSem) {k1 : ℕ}
    (hw1 : ∀ K : PUnit → sProp 𝕄, wpE (defs₀ (F := F)) 𝒱₀ (c : Thread nD τ) none Set.univ w1 K = waitSpec (c : Thread nD τ) Set.univ s1 k1 K) (hk1 : k1 = NP)
    {h2 : ∀ a, ![i.val, 0, 0] a + (⟨3, ![1, 256, 2048]⟩ : Shape).size a ≤ S4x256x2048.size a}
    {hl2 : sM.view.LoadsAt (Rect.unit (s := S4x256x2048) ![i.val, 0, 0] (⟨3, ![1, 256, 2048]⟩ : Shape).size h2).toLoadRect}
    {h3 : ∀ a, ![0] a + S2048.size a ≤ S2048.size a} {hl3 : gM.view.LoadsAt (Rect.unit (s := S2048) ![0] S2048.size h3).toLoadRect}
    {off : Fin 2 → ℕ} (ho : off = ![row0 (pos c), 0]) {h4 : ∀ a, off a + S256x2048.size a ≤ S2048x2048.size a}
    {hl4 : oM.view.LoadsAt (Rect.unit (s := S2048x2048) off S256x2048.size h4).toLoadRect}
    {hx : (oM.access (Rect.unit (s := S2048x2048) off S256x2048.size h4)).Stores Finset.univ} {hm}
    {pay : (S256x2048.Idx → El F) → (S1x256x2048.Idx → El F) → (S2048.Idx → El F) → (S256x2048.Idx → El F)}
    (hpay : pay = fun v w g => k0_pay28 v w g)
    (hd : dutC c (.st i) r = {0}) (hlev : l.all (fun x => decide (0 < x.idx ∧ x.idx < 64)) = true)
    (hp : R m c (pos c + stPiece i r) = R m c (pos c)) :
    iprop(recs m κ ι ∗ owesL c l ∗ outP c fullShare (row0 (pos c)) 256 (f2 (row0 (pos c)) (S m c)) ∗ stW (F := F) c i r ∗ gain c g)
      ⊢ iprop(((owesL c l ∗ stAny (F := F) c i.val ∗ past c (.st i) r ∗ gain c g
            ∗ outP c fullShare (row0 (pos c)) 256 (f2 0 (O m c g))) -∗ wpc c (k ⟨⟩) Q)
          -∗ wpc c (.op (.load oM (Rect.unit (s := S2048x2048) off S256x2048.size h4).toLoadRect hl4) fun v => .op w1 fun _ =>
              .op (.load sM (Rect.unit (s := S4x256x2048) ![i.val, 0, 0] (⟨3, ![1, 256, 2048]⟩ : Shape).size h2).toLoadRect hl2) fun w =>
              .op (.load gM (Rect.unit (s := S2048) ![0] S2048.size h3).toLoadRect hl3) fun g' =>
              .op (.load oM (Rect.unit (s := S2048x2048) off S256x2048.size h4).toLoadRect hl4) fun _ =>
              .op (.store oM (Rect.unit (s := S2048x2048) off S256x2048.size h4) (pay v w g') Finset.univ hx hm) k) Q) := by
  subst hpay
  have hc : S m c = S m (at_ (pos c % 8) (zOf c)) := congrArg (S m) ((by decide +kernel : ∀ c : Dev nD, c = at_ (pos c % 8) (zOf c)) c)
  have hq : pos c % 8 ≠ (pos c + 4) % 8 := by omega
  unfold stW past
  iintro ⟨#HR, HO, HT, ⟨HC, HA⟩, HG⟩ Hk
  iapply (load_outP c (row0 (pos c)) (row0 (pos c)) ho (S m c)) $$ [HT]
  · iexact HT
  iintro HT
  ihave HT := (outP_any c _ _ _) $$ HT
  iapply (step_wait m κ ι c (.st i) r 0 0 l hs1 hw1 hk1 hd hlev (by decide)) $$ [HO HC HA]
  · isplitr; · iexact HR
    isplitl [HO]; · iexact HO
    isplitl [HC]; · iexact HC
    iexact HA
  iintro ⟨HO, HA, HB, HS⟩
  ihave HS := (Entails.of_eq (show payC m c (.st i) r 0 = stP c i.val (R m c (pos c)) from (show payC m c (.st i) r 0 = stP c i.val (R m c (pos c + stPiece i r)) from rfl).trans (by rw [hp]))) $$ HS
  iapply (load_st c i.val 0 256 (R m c (pos c))) $$ [HS]
  · iexact HS
  iintro HS
  iapply (load_gain c g) $$ [HG]
  · iexact HG
  iintro HG
  iapply (load_out c (row0 (pos c)) 256 ho) $$ [HT]
  · iexact HT
  iintro %w HT
  iapply (store_out c (row0 (pos c)) 256 0 ho (O m c g) (fun y => by
    rw [← O_piece m c g (pos c) hq y]
    unfold norm256
    rw [← hc]
    simp only [Nat.zero_add, Nat.add_sub_cancel_left])) $$ [HT]
  · iexact HT
  iintro HT
  iapply Hk
  ihave HS := (stP_any c i.val _) $$ HS
  isplitl [HO]; · iexact HO
  isplitl [HS]; · iexact HS
  isplitl [HA HB]
  · isplitl [HA] <;> iassumption
  isplitl [HG]; · iexact HG
  iexact HT

/-- Half of the opposite piece: the staged residual, the gain, the store. -/
theorem norm_half {α : Type} {Q : α → sProp 𝕄} (j : Fin 2) (i lo : ℕ) (g : S2048.Idx → El F)
    {k : PUnit → Prog (TpuEff nD τ sig (Elt F) Λ₀ .tc) α}
    {h2 : ∀ a, ![i, lo, 0] a + (⟨3, ![1, 128, 2048]⟩ : Shape).size a ≤ S4x256x2048.size a} (hlo : lo = 128 * j.val)
    {hl2 : sM.view.LoadsAt (Rect.unit (s := S4x256x2048) ![i, lo, 0] (⟨3, ![1, 128, 2048]⟩ : Shape).size h2).toLoadRect}
    {h3 : ∀ a, ![0] a + S2048.size a ≤ S2048.size a} {hl3 : gM.view.LoadsAt (Rect.unit (s := S2048) ![0] S2048.size h3).toLoadRect}
    {off : Fin 2 → ℕ} (ho : off = ![row0 (pos c + 4) + 128 * j.val, 0]) {h4 : ∀ a, off a + S128x2048.size a ≤ S2048x2048.size a}
    {hl4 : oM.view.LoadsAt (Rect.unit (s := S2048x2048) off S128x2048.size h4).toLoadRect}
    {hx : (oM.access (Rect.unit (s := S2048x2048) off S128x2048.size h4)).Stores Finset.univ} {hm}
    {pay : (S1x128x2048.Idx → El F) → (S2048.Idx → El F) → (S128x2048.Idx → El F)}
    (hpay : pay = fun w g => k0_pay40 (fun y : S1x128x2048.Idx => S m (at_ ((pos c + 4) % 8) (zOf c)) (128 * j.val + (y 1).val) (y 2).val) w g) :
    iprop(stP c i (R m c (pos c + 4)) ∗ gain c g ∗ outAny (F := F) c (row0 (pos c + 4) + 128 * j.val) 128)
      ⊢ iprop(((stP c i (R m c (pos c + 4)) ∗ gain c g ∗ outP c fullShare (row0 (pos c + 4) + 128 * j.val) 128 (f2 0 (O m c g))) -∗ wpc c (k ⟨⟩) Q)
          -∗ wpc c (.op (.load sM (Rect.unit (s := S4x256x2048) ![i, lo, 0] (⟨3, ![1, 128, 2048]⟩ : Shape).size h2).toLoadRect hl2) fun w =>
              .op (.load gM (Rect.unit (s := S2048) ![0] S2048.size h3).toLoadRect hl3) fun g' =>
              .op (.load oM (Rect.unit (s := S2048x2048) off S128x2048.size h4).toLoadRect hl4) fun _ =>
              .op (.store oM (Rect.unit (s := S2048x2048) off S128x2048.size h4) (pay w g') Finset.univ hx hm) k) Q) := by
  subst hpay
  iintro ⟨HS, HG, HT⟩ Hk
  iapply (load_st c i lo 128 (R m c (pos c + 4))) $$ [HS]
  · iexact HS
  iintro HS
  iapply (load_gain c g) $$ [HG]
  · iexact HG
  iintro HG
  iapply (load_out c _ 128 ho) $$ [HT]
  · iexact HT
  iintro %w HT
  iapply (store_out c _ 128 0 ho (O m c g) (fun y => by
    rw [← O_half m c g j _ rfl y, hlo]
    unfold norm128
    rfl)) $$ [HT]
  · iexact HT
  iintro HT
  iapply Hk
  isplitl [HS]; · iexact HS
  isplitl [HG]; · iexact HG
  iexact HT

end Cert.Proto

end
-- ==== Proof.Start.lean ====
module

public import proofs.«01_k».proof.Proof.Norm

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)

variable (c : Dev nD)

/-! ## The entry: every device tells its neighbours that its landing places may be filled -/

abbrev rBarPar : Row := ⟨.par, .bar, 1, true, true⟩
abbrev rBarPrev : Row := ⟨.nx 1, .bar, 1, true, true⟩
abbrev rBarNext : Row := ⟨.nx 0, .bar, 1, true, true⟩
abbrev rBarOpp : Row := ⟨.opp, .bar, 1, true, false⟩

/-- What a device owes once it has told its partner and one neighbour; once it has told everyone. -/
def rows42 : List Row := if isMid c = true then rowsMid else rowsEdge
def rows40 : List Row := if isMid c = true then rBarNext :: rBarOpp :: rowsMid else rBarNext :: rowsEdge

theorem rows_start : rowsOf (isMid c) = rBarPar :: rBarPrev :: rows40 c := by
  unfold rows40
  cases h : isMid c <;> simp only [if_true, if_false, Bool.false_eq_true] <;> rfl

/-- What a device hands over to its partner, and to its neighbours. -/
theorem pay_bar0 : payC m (par c) .bar 0 0 = commAll c (if isMid c = true then 0 else 1) := by
  show commAll (par (par c)) (if isMid (par c) = true then 1 else 0) = _
  rw [par_par, isMid_par]; cases isMid c <;> rfl
theorem pay_bar1 : payC m (nxt 1 c) .bar 0 1 = ringAll 0 c := by
  show ringAll 0 (nxt 0 (nxt 1 c)) = _
  rw [(by decide : ∀ c, nxt 0 (nxt 1 c) = c)]
theorem pay_bar2 : payC m (nxt 0 c) .bar 0 2 = ringAll 1 c := by
  show ringAll 1 (nxt 1 (nxt 0 c)) = _
  rw [(by decide : ∀ c, nxt 1 (nxt 0 c) = c)]
theorem pay_bar3 : payC m (opp c) .bar 0 3 = commAll c 1 := by
  show commAll (opp (opp c)) 1 = _
  rw [opp_opp]

/-- A middle device's part in telling the other middle device. -/
def oppTell : sProp 𝕄 := if isMid c = true then iprop(dutyTok ER (cellAt (opp c) .bar) 0 3 ∗ commAll (F := F) c 1 ∗ cred (tallyAt (cellAt c .bar) 1 1)) else iprop(emp)

/-- What a device has been handed: its partner's places, its neighbours' places, the other middle device's. -/
def gifts : sProp 𝕄 :=
  iprop(commAll (F := F) (par c) (if isMid c = true then 1 else 0) ∗ ringAll (F := F) 0 (nxt 0 c) ∗ ringAll (F := F) 1 (nxt 1 c)
    ∗ (if isMid c = true then commAll (F := F) (opp c) 1 else iprop(emp)) ∗ shut (F := F) c .bar)

theorem shut_bar : (atPos ER (cellAt c .bar) 1 ∅ 0 : sProp 𝕄) ⊢ shut (F := F) c .bar :=
  shut_at c .bar 1 (by intro r' hr; unfold dutC; dsimp only; rw [if_neg (by omega)])

theorem bar_edge {α : Type} {Q : α → sProp 𝕄} {k : PUnit → Prog (TpuEff nD τ sig (Elt F) Λ₀ .tc) α} (h : isMid c = false) (l : List Row)
    {w : TpuEff nD τ sig (Elt F) Λ₀ .tc PUnit} {s : SemLoc sig} (hs : s = Cell.bar.toSem)
    (hw : ∀ K : PUnit → sProp 𝕄, wpE (defs₀ (F := F)) 𝒱₀ (c : Thread nD τ) none Set.univ w K = waitSpec (c : Thread nD τ) Set.univ s 3 K)
    (hlev : l.all (fun x => decide (1 < x.idx ∧ x.idx < 64)) = true) :
    iprop(recs m κ ι ∗ owesL c l ∗ atPos ER (cellAt c .bar) 0 ∅ 0 ∗ cred (tallyAt (cellAt c .bar) 1 3))
      ⊢ iprop(((owesL c l ∗ gifts (F := F) c) -∗ wpc c (k ⟨⟩) Q) -∗ wpc c (.op w k) Q) := by
  subst hs
  have hd : dutC c .bar 0 = {0, 1, 2} := by unfold dutC; dsimp only; rw [h]; rfl
  have hst := fun W => Rounds.wp_wait_rest_token 𝒱₀ ER (Rd m) (defs := defs₀ (F := F)) (Γ := .empty) (c : Thread nD τ) none (Q := Q) (κ := κ (c, .bar)) hw (Set.mem_univ _) (k := k) 1 (O := owesT c l) (W := W)
    (R := 0) (m := 0) (T := ∅) (by rw [show ((c : Thread nD τ), Cell.bar.toSem) = cellAt c .bar from rfl, expect_at, hd]; rfl)
  simp only [show ((c : Thread nD τ), Cell.bar.toSem) = cellAt c .bar from rfl, duties_at, payload_at, hd, Finset.sdiff_empty] at hst
  unfold owesL gifts
  iintro ⟨#HR, ⟨%W, HO⟩, HA, HC⟩ Hk
  iapply (hst W) $$ [HO HC HA]
  · isplitr; · iapply (recs_inv m κ ι); iexact HR
    isplitl [HC]; · iexact HC
    isplitl [HO]; · iexact HO
    isplitr; · iapply (mayWait c Cell.bar.toSem 1 l hlev (by decide)); iapply (recs_lev m κ ι); iexact HR
    iexact HA
  iintro ⟨HO, HA, -, HP⟩
  iapply Hk
  isplitl [HO]; · iexists _; iexact HO
  have hu : (bigSep ({0, 1, 2} : Finset (Fin 4)) fun t => payC m c .bar 0 t) = iprop(commAll (F := F) (par c) (if isMid c = true then 1 else 0) ∗ ringAll (F := F) 0 (nxt 0 c) ∗ ringAll (F := F) 1 (nxt 1 c)) := by
    rw [BI.bigSep_insert (by decide), BI.bigSep_insert (by decide), BI.bigSep_singleton]; rfl
  ihave HP := (Entails.of_eq hu) $$ HP
  icases HP with ⟨HP0, HP1, HP2⟩
  ihave HA := (shut_bar c) $$ HA
  rw [if_neg (by rw [h]; decide : ¬ isMid c = true), if_neg (by rw [h]; decide : ¬ isMid c = true)]
  isplitl [HP0]; · iexact HP0
  isplitl [HP1]; · iexact HP1
  isplitl [HP2]; · iexact HP2
  isplitr; · iempintro
  iexact HA

/-- The two waits of a middle device: first for three of four, then for the last. -/
theorem bar_mid {α : Type} {Q : α → sProp 𝕄} {k : PUnit → Prog (TpuEff nD τ sig (Elt F) Λ₀ .tc) α} (h : isMid c = true) (l : List Row)
    {w w' : TpuEff nD τ sig (Elt F) Λ₀ .tc PUnit} {s s' : SemLoc sig} (hs : s = Cell.bar.toSem) (hs' : s' = Cell.bar.toSem)
    (hw : ∀ K : PUnit → sProp 𝕄, wpE (defs₀ (F := F)) 𝒱₀ (c : Thread nD τ) none Set.univ w K = waitSpec (c : Thread nD τ) Set.univ s 3 K)
    (hw' : ∀ K : PUnit → sProp 𝕄, wpE (defs₀ (F := F)) 𝒱₀ (c : Thread nD τ) none Set.univ w' K = waitSpec (c : Thread nD τ) Set.univ s' 1 K)
    (hlev : l.all (fun x => decide (1 < x.idx ∧ x.idx < 64)) = true) :
    iprop(recs m κ ι ∗ owesL c l ∗ atPos ER (cellAt c .bar) 0 ∅ 0 ∗ cred (tallyAt (cellAt c .bar) 1 3) ∗ cred (tallyAt (cellAt c .bar) 1 1))
      ⊢ iprop(((owesL c l ∗ gifts (F := F) c) -∗ wpc c (k ⟨⟩) Q) -∗ wpc c (.op w fun _ => .op w' k) Q) := by
  subst hs hs'
  have hd : dutC c .bar 0 = {0, 1, 2, 3} := by unfold dutC; dsimp only; rw [h]; rfl
  have hst := fun W => Rounds.wp_wait 𝒱₀ ER (Rd m) (defs := defs₀ (F := F)) (Γ := .empty) (c : Thread nD τ) none (Q := Q) (κ := κ (c, .bar)) hw (Set.mem_univ _) (k := fun _ => .op w' k) (cr := Finsupp.single 1 3) (O := owesT c l) (W := W)
    {(Cell.bar.toSem, 1)} (R := 0) (m := 0) (T := ∅) (by rw [Util.total_single]) (image_single_subset _ 1 3)
  have hst' := fun W (T : Finset (Fin 4)) => Rounds.wp_wait_rest_token 𝒱₀ ER (Rd m) (defs := defs₀ (F := F)) (Γ := .empty) (c : Thread nD τ) none (Q := Q) (κ := κ (c, .bar)) hw' (Set.mem_univ _) (k := k) 1 (O := owesT c l) (W := W)
    (R := 0) (m := 0 + 3) (T := T) (by rw [show ((c : Thread nD τ), Cell.bar.toSem) = cellAt c .bar from rfl, expect_at, hd]; rfl)
  simp only [show ((c : Thread nD τ), Cell.bar.toSem) = cellAt c .bar from rfl, duties_at, payload_at, hd, Finset.sdiff_empty] at hst hst'
  unfold owesL gifts
  iintro ⟨#HR, ⟨%W, HO⟩, HA, HC, HC'⟩ Hk
  iapply (hst W) $$ [HO HC HA]
  · isplitr; · iapply (recs_inv m κ ι); iexact HR
    isplitl [HC]; · iexact HC
    isplitl [HO]; · iexact HO
    isplitr; · iapply (mayWait c Cell.bar.toSem 1 l hlev (by decide)); iapply (recs_lev m κ ι); iexact HR
    iexact HA
  iintro %T ⟨%hT, HO, HA, HP⟩
  iapply (hst' _ T) $$ [HO HC' HA]
  · isplitr; · iapply (recs_inv m κ ι); iexact HR
    isplitl [HC']; · iexact HC'
    isplitl [HO]; · iexact HO
    isplitr; · iapply (mayWait c Cell.bar.toSem 1 l hlev (by decide)); iapply (recs_lev m κ ι); iexact HR
    iexact HA
  iintro ⟨HO, HA, -, HP'⟩
  iapply Hk
  isplitl [HO]; · iexists _; iexact HO
  have hj : iprop((bigSep T fun t => payC m c .bar 0 t) ∗ bigSep (({0, 1, 2, 3} : Finset (Fin 4)) \ T) fun t => payC m c .bar 0 t)
      ⊢ iprop(commAll (F := F) (par c) (if isMid c = true then 1 else 0) ∗ ringAll (F := F) 0 (nxt 0 c) ∗ ringAll (F := F) 1 (nxt 1 c) ∗ commAll (F := F) (opp c) 1) :=
    Entails.of_eq (((BI.bigSep_union (Φ := fun t : Fin 4 => payC m c .bar 0 t) Finset.disjoint_sdiff).symm.trans (by rw [Finset.union_sdiff_of_subset hT.2.1])).trans
      (by rw [BI.bigSep_insert (by decide), BI.bigSep_insert (by decide), BI.bigSep_insert (by decide), BI.bigSep_singleton]; rfl))
  ihave HP := hj $$ [HP HP']
  · isplitl [HP] <;> iassumption
  icases HP with ⟨HP0, HP1, HP2, HP3⟩
  ihave HA := (shut_bar c) $$ HA
  rw [if_pos (show isMid c = true from h), if_pos (show isMid c = true from h)]
  isplitl [HP0]; · iexact HP0
  isplitl [HP1]; · iexact HP1
  isplitl [HP2]; · iexact HP2
  isplitl [HP3]; · iexact HP3
  iexact HA

/-- The device's own rows of its input are copied in. -/
theorem copy_x {α : Type} {Q : α → sProp 𝕄} {k : PUnit → Prog (TpuEff nD τ sig (Elt F) Λ₀ .tc) α} {off : Fin 3 → ℕ} (ho : off = ![0, row0 (pos c), 0])
    {h : ∀ a, off a + S1x256x2048.size a ≤ S1x2048x2048.size a} {sem : SemLoc sig} (hS : sem = Cell.loc.toSem)
    {hsrc : ((xM.slice (Rect.unit (s := S1x2048x2048) off S1x256x2048.size h) (fun _ => rfl)).squeeze S256x2048 squeezes_S1x256x2048_S256x2048).view.WordExact} {hdst : aM.view.WordExact}
    {hsem : DmaTarget.Typed (nD := nD) (τ := τ) (p := .tc) .hbm sem (.here aM)} :
    iprop(recs m κ ι ∗ hbm m c main_arg0 ∗ anyOn (F := F) (bufL c cc0_scratch0) Finset.univ ∗ dutyTok ER (cellAt c .loc) 0 0)
      ⊢ iprop(((hbm m c main_arg0 ∗ cred (tallyAt (cellAt c .loc) 0 NP)) -∗ wpc c (k ⟨⟩) Q)
          -∗ wpc c (.op (.enqueueDma ((xM.slice (Rect.unit (s := S1x2048x2048) off S1x256x2048.size h) (fun _ => rfl)).squeeze S256x2048 squeezes_S1x256x2048_S256x2048) (.here aM) sem hsrc hdst hsem) k) Q) := by
  subst ho
  have hrow : row0 (pos c) + 256 ≤ 2048 := by unfold row0; omega
  have hst := step_copy m κ ι c .loc 0 0 main_arg0 ⟨_, rfl⟩ (Q := Q) (k := k) (src := xV (row0 (pos c)) h) (dst := aM) (hsrc := hsrc) (hdst := hdst) (hsem := hsem) hS (m (bufL c main_arg0)) (by
      unfold hbm
      iintro ⟨%q, H⟩
      iexists q
      ihave H := (pointsTo_split_subset (Finset.subset_univ (xV (row0 (pos c)) h).view.set)).1 $$ H
      icases H with ⟨H, -⟩
      iexact H) (anyOn (F := F) (bufL c cc0_scratch0) Finset.univ) (by
      unfold anyOn
      rw [show (aM.view.set : Finset S256x2048.Idx) = Finset.univ from View.set_whole _]) rfl (Finset.mem_singleton_self 0) (by
      intro fd
      refine Entails.of_eq (acc_landed c fd _ (X m c) fun y => ?_)
      exact xV_read (row0 (pos c)) h _ y hrow)
  iintro ⟨#HR, Hb, HD, Ht⟩
  iapply hst
  isplitr; · iexact HR
  isplitl [Hb]; · iexact Hb
  isplitl [HD]; · iexact HD
  isplitl [Ht]; · iexact Ht
  iapply (recs_reached m κ ι c .loc); iexact HR

variable {h0 : xM.IsWhole} {h1 : rM.IsWhole} {h2 : gM.IsWhole} {h3 : oM.IsWhole} {h4 : aM.IsWhole} {h5 : kM.IsWhole}
  {h6 : (Memref.whole cc0_scratch2 : Memref sig .tc .vmem S2x256x2048 .f32).IsWhole} {h7 : (Memref.whole cc0_scratch3 : Memref sig .tc .vmem S2x256x2048 .f32).IsWhole} {h8 : sM.IsWhole}

/-- What the copies need, and leave. -/
def copyIn : sProp 𝕄 :=
  iprop(hbm m c main_arg0 ∗ anyOn (F := F) (bufL c cc0_scratch0) Finset.univ ∗ dutyTok ER (cellAt c .loc) 0 0 ∗ hbm m c main_arg1 ∗ stAny (F := F) c 0 ∗ dutyTok ER (cellAt c (.st 0)) 0 0)
def copyOut : sProp 𝕄 :=
  iprop(hbm m c main_arg0 ∗ cred (tallyAt (cellAt c .loc) 0 NP) ∗ hbm m c main_arg1 ∗ cred (tallyAt (cellAt c (.st 0)) 0 NP))

/-- Three parts of the entry's duty hold at every place. -/
theorem bar_mem (t : Fin 4) (h : t < 3) (e : Dev nD := nxt 0 c) : t ∈ dutC e .bar 0 := by
  unfold dutC; dsimp only; cases isMid e <;> revert t <;> decide

/-- The rest of the entry and the first copies. -/
theorem entry_run (v2 v5 v11 v49 : BitVec 32) (v47 : BitVec 1) (hv : (Scalar.cmpi .ne (Scalar.extui (Scalar.xori v47 1#1) : BitVec 32) 0#32 = 1#1) = (isMid c = true)) (v50 : Sems sig S_) (hv50 : SemLoc.reg v50.sem = Cell.bar.toSem) :
    iprop(recs m κ ι ∗ owesL c (rows40 c) ∗ dutyTok ER (cellAt (nxt 0 c) .bar) 0 2 ∗ ringAll (F := F) 1 c ∗ oppTell (F := F) c
        ∗ atPos ER (cellAt c .bar) 0 ∅ 0 ∗ cred (tallyAt (cellAt c .bar) 1 3) ∗ copyIn m c)
      ⊢ wpc c (k0_part40 xM h0 rM h1 gM h2 oM h3 aM h4 kM h5 (Memref.whole cc0_scratch2) h6 (Memref.whole cc0_scratch3) h7 sM h8
      cc0_scratch5 cc0_scratch6 cc0_scratch7 cc0_scratch8 cc0_scratch9 cc0_scratch10 cc0_scratch11 cc0_scratch12 cc0_scratch13 cc0_scratch14 c v2 v5 v11 v47 v49 v50) (fun _ => iprop(owesL c (rows42 c) ∗ gifts (F := F) c ∗ copyOut m c)) := by
  obtain ⟨-, -, e3⟩ := devs_bar c
  obtain ⟨o1, o2, -, -⟩ := offs_load c
  rw [k0_part40_eq_skeleton, k0_part40_skel]
  unfold copyIn copyOut
  cases h : isMid c
  · have hv' : ¬ Scalar.cmpi .ne (Scalar.extui (Scalar.xori v47 1#1) : BitVec 32) 0#32 = 1#1 := by rw [hv, h]; decide
    have hr : ¬ isMid c = true := by rw [h]; decide
    unfold rows40 rows42 oppTell
    rw [if_neg hr, if_neg hr, if_neg hr]
    simp only [dif_neg (cond1_edge c h), dif_neg hv', semSignalWord, semWaitWord, Prog.lift, Prog.bind_op, Prog.bind_ret, Prog.pure_eq_ret]
    iintro ⟨#HR, HO, Ht, HP, -, HA, HC, HX, HX1, HX2, HB, HB1, HB2⟩
    iapply (step_signal m κ ι c rBarNext _ 2 (Fin.ext (by exact e3)) hv50 rfl (bar_mem c _ (by decide))) $$ [HO Ht HP]
    · isplitr; · iexact HR
      isplitl [HO]; · iexact HO
      isplitl [Ht]; · iexact Ht
      iapply (Entails.of_eq (pay_bar2 m c).symm); iexact HP
    iintro HO
    iapply (bar_edge m κ ι c h rowsEdge hv50 (wpE_semWait_eq 𝒱₀ (c : Thread nD τ) none Set.univ) (by decide)) $$ [HO HA HC]
    · isplitr; · iexact HR
      isplitl [HO]; · iexact HO
      isplitl [HA]; · iexact HA
      iexact HC
    iintro ⟨HO, HG⟩
    iapply (copy_x m κ ι c o1 sem_loc) $$ [HX HX1 HX2]
    · isplitr; · iexact HR
      isplitl [HX]; · iexact HX
      isplitl [HX1]; · iexact HX1
      iexact HX2
    iintro ⟨HX, HX1⟩
    iapply (copy_res m κ ι c 0 0 _ o2 (sem_st 0 _) (Finset.mem_singleton_self 0) rfl) $$ [HB HB1 HB2]
    · isplitr; · iexact HR
      isplitl [HB]; · iexact HB
      isplitl [HB1]; · iexact HB1
      isplitl [HB2]; · iexact HB2
      iapply (recs_reached m κ ι c (.st 0)); iexact HR
    iintro ⟨HB, HB1⟩
    iapply (Entails.of_eq (wp_ret _ _ _ _ _).symm)
    imodintro
    isplitl [HO]; · iexact HO
    isplitl [HG]; · iexact HG
    isplitl [HX]; · iexact HX
    isplitl [HX1]; · iexact HX1
    isplitl [HB]; · iexact HB
    iexact HB1
  · have hv' : Scalar.cmpi .ne (Scalar.extui (Scalar.xori v47 1#1) : BitVec 32) 0#32 = 1#1 := by rw [hv, h]
    unfold rows40 rows42 oppTell
    rw [if_pos h, if_pos h, if_pos h]
    simp only [dif_pos (cond1_mid c h), dif_pos hv', semSignalWord, semWaitWord, Prog.lift, Prog.bind_op, Prog.bind_ret, Prog.pure_eq_ret]
    iintro ⟨#HR, HO, Ht, HP, ⟨Ht', HP', HC'⟩, HA, HC, HX, HX1, HX2, HB, HB1, HB2⟩
    iapply (step_signal m κ ι c rBarNext _ 2 (Fin.ext (by exact e3)) hv50 rfl (bar_mem c _ (by decide))) $$ [HO Ht HP]
    · isplitr; · iexact HR
      isplitl [HO]; · iexact HO
      isplitl [Ht]; · iexact Ht
      iapply (Entails.of_eq (pay_bar2 m c).symm); iexact HP
    iintro HO
    iapply (step_signal m κ ι c rBarOpp _ 3 (Fin.ext (by exact dev_bar_opp c h)) hv50 rfl (by show (3 : Fin 4) ∈ dutC (opp c) .bar 0; unfold dutC; dsimp only; rw [isMid_opp, h]; decide)) $$ [HO Ht' HP']
    · isplitr; · iexact HR
      isplitl [HO]; · iexact HO
      isplitl [Ht']; · iexact Ht'
      iapply (Entails.of_eq (pay_bar3 m c).symm); iexact HP'
    iintro HO
    iapply (bar_mid m κ ι c h rowsMid hv50 hv50 (wpE_semWait_eq 𝒱₀ (c : Thread nD τ) none Set.univ) (wpE_semWait_eq 𝒱₀ (c : Thread nD τ) none Set.univ) (by decide)) $$ [HO HA HC HC']
    · isplitr; · iexact HR
      isplitl [HO]; · iexact HO
      isplitl [HA]; · iexact HA
      isplitl [HC]; · iexact HC
      iexact HC'
    iintro ⟨HO, HG⟩
    iapply (copy_x m κ ι c o1 sem_loc) $$ [HX HX1 HX2]
    · isplitr; · iexact HR
      isplitl [HX]; · iexact HX
      isplitl [HX1]; · iexact HX1
      iexact HX2
    iintro ⟨HX, HX1⟩
    iapply (copy_res m κ ι c 0 0 _ o2 (sem_st 0 _) (Finset.mem_singleton_self 0) rfl) $$ [HB HB1 HB2]
    · isplitr; · iexact HR
      isplitl [HB]; · iexact HB
      isplitl [HB1]; · iexact HB1
      isplitl [HB2]; · iexact HB2
      iapply (recs_reached m κ ι c (.st 0)); iexact HR
    iintro ⟨HB, HB1⟩
    iapply (Entails.of_eq (wp_ret _ _ _ _ _).symm)
    imodintro
    isplitl [HO]; · iexact HO
    isplitl [HG]; · iexact HG
    isplitl [HX]; · iexact HX
    isplitl [HX1]; · iexact HX1
    isplitl [HB]; · iexact HB
    iexact HB1

end Cert.Proto

end
-- ==== Proof.Column.lean ====
module

public import proofs.«01_k».proof.Proof.Start

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)
variable (c : Dev nD)

/-! ## From the entry to the column -/

/-- Four like things, one for each ring and half. -/
def ring4 (Φ : Fin 2 → Fin 2 → sProp 𝕄) : sProp 𝕄 := iprop(Φ 0 0 ∗ Φ 1 0 ∗ Φ 0 1 ∗ Φ 1 1)

/-- What a column cell pays in to a device: from both sides on a middle plane, from one on an end plane. -/
def colCred (s : Fin 8) : sProp 𝕄 :=
  if isMid c = true then iprop(cred (tallyAt (cellAt c (.aR s 0)) 2 (amtC (.aR s 0))) ∗ cred (tallyAt (cellAt c (.aR s 1)) 3 (amtC (.aR s 1))))
  else cred (tallyAt (cellAt c (.aR s 1)) 4 (amtC (.aR s 1)))

/-- The column's tickets and places of one quarter. -/
def colL (s : Fin 8) : sProp 𝕄 :=
  iprop(dutyTok ER (cellAt c (.aS s 0)) 0 0 ∗ dutyTok ER (cellAt c (.aS s 1)) 0 0 ∗ dutyTok ER (cellAt c (.aS s 1)) 1 0
    ∗ dutyTok ER (cellAt (par c) (.aR s 0)) 0 0 ∗ dutyTok ER (cellAt (opp c) (.aR s 1)) 0 0 ∗ dutyTok ER (cellAt (par c) (.aR s 1)) 0 1
    ∗ atPos ER (cellAt c (.aS s 0)) 0 ∅ 0 ∗ atPos ER (cellAt c (.aS s 1)) 0 ∅ 0 ∗ atPos ER (cellAt c (.aR s 0)) 0 ∅ 0 ∗ atPos ER (cellAt c (.aR s 1)) 0 ∅ 0
    ∗ colCred (F := F) c s)

/-- The arrival places an end device keeps. -/
def commKeep : sProp 𝕄 := if isMid c = true then iprop(emp) else commAll (F := F) c 0

/-- The tickets of the first send. -/
def tok0 (d j : Fin 2) : sProp 𝕄 := iprop(dutyTok ER (cellAt c (.rS d 0 j)) 0 0 ∗ dutyTok ER (cellAt (nxt d c) (.rR d 0 j)) 0 0)

theorem ringAll_eq (d : Fin 2) (e : Dev nD) : ringAll (F := F) d e = iprop((ringAny d e 0 0 ∗ ringAny d e 0 1) ∗ ringAny d e 1 0 ∗ ringAny d e 1 1) := by
  unfold ringAll; rw [BI.bigSep_univ_two, BI.bigSep_univ_two, BI.bigSep_univ_two]; rfl

theorem ring_begin : iprop(ring4 (tok0 (F := F) c) ∗ ringAll (F := F) 0 (nxt 0 c) ∗ ringAll (F := F) 1 (nxt 1 c))
    ⊢ iprop((ringStart (F := F) c 0 0 ∗ ringStart (F := F) c 1 0 ∗ ringStart (F := F) c 0 1 ∗ ringStart (F := F) c 1 1) ∗ ring4 fun d j => ringAny (F := F) d (nxt d c) 1 j.val) := by
  rw [ringAll_eq, ringAll_eq]
  unfold ring4 tok0 ringStart
  iintro ⟨⟨H00, H10, H01, H11⟩, ⟨⟨A0, A1⟩, A2, A3⟩, ⟨B0, B1⟩, B2, B3⟩
  isplitl [H00 H10 H01 H11 A0 A1 B0 B1]
  · isplitl [H00 A0]
    · isplitl [A0]; · iexact A0
      iexact H00
    isplitl [H10 B0]
    · isplitl [B0]; · iexact B0
      iexact H10
    isplitl [H01 A1]
    · isplitl [A1]; · iexact A1
      iexact H01
    isplitl [B1]; · iexact B1
    iexact H11
  isplitl [A2]; · iexact A2
  isplitl [B2]; · iexact B2
  isplitl [A3]; · iexact A3
  iexact B3

/-- Everything the column needs of one quarter. -/
def colAll (s : Fin 8) (G : sProp 𝕄) : sProp 𝕄 :=
  iprop(colL (F := F) c s ∗ accP c fullShare (32 * s.val) 32 (X m c) ∗ outAny (F := F) c (row0 (pos c) + 32 * s.val) 32 ∗ G)

theorem col_edge (h : isMid c = false) (s : Fin 8) :
    colAll m c s (commAny (F := F) (par c) s.val 0) ⊢ iprop(edgeA m c s ∗ edgeG (F := F) c s ∗ shut (F := F) c (.aS s 1) ∗ shut (F := F) c (.aR s 0)) := by
  have hr : ¬ isMid c = true := by rw [h]; decide
  unfold colAll colL colCred edgeA edgeG
  rw [if_neg hr]
  iintro ⟨⟨T1, -, -, T2, -, -, P1, P2, P3, P4, HC⟩, HX, HO, HG⟩
  isplitl [T1 T2 P1 HX HG]
  · isplitl [HX]; · iexact HX
    isplitl [HG]; · iexact HG
    isplitl [T1]; · iexact T1
    isplitl [T2]; · iexact T2
    iexact P1
  isplitl [P4 HC HO]
  · isplitl [HC]; · iexact HC
    isplitl [P4]; · iexact P4
    iexact HO
  isplitl [P2]
  · iapply (shut_at c (.aS s 1) 0 (by intro r' _; unfold dutC; dsimp only; rw [if_neg (by decide), if_neg (fun hh => hr hh.1)])); iexact P2
  iapply (shut_at c (.aR s 0) 0 (by intro r' _; unfold dutC; dsimp only; rw [if_pos rfl, if_neg (fun hh => hr hh.1)])); iexact P3

theorem col_mid (h : isMid c = true) (s : Fin 8) :
    colAll m c s iprop(commAny (F := F) (par c) s.val 1 ∗ commAny (F := F) (opp c) s.val 1) ⊢ iprop(midA m c s ∗ midR (F := F) c s ∗ shut (F := F) c (.aS s 0)) := by
  unfold colAll colL colCred midA midR
  rw [if_pos h]
  iintro ⟨⟨-, T1, T2, -, T3, T4, P1, P2, P3, P4, HC, HC'⟩, HX, HO, HG, HG'⟩
  isplitl [HC P3 HX HG' T1 T3]
  · isplitl [HC]; · iexact HC
    isplitl [P3]; · iexact P3
    isplitl [HX]; · iexact HX
    isplitl [HG']; · iexact HG'
    isplitl [T1]; · iexact T1
    iexact T3
  isplitl [P2 HC' P4 HO HG T2 T4]
  · isplitl [P2]; · iexact P2
    isplitl [HC']; · iexact HC'
    isplitl [P4]; · iexact P4
    isplitl [HO]; · iexact HO
    isplitl [HG]; · iexact HG
    isplitl [T2]; · iexact T2
    iexact T4
  iapply (shut_at c (.aS s 0) 0 (by intro r' _; unfold dutC; dsimp only; rw [if_pos rfl, if_neg (fun hh => by rw [h] at hh; exact absurd hh.1 (by decide))])); iexact P1

theorem col_gather (G : Fin 8 → sProp 𝕄) :
    iprop((bigSep Finset.univ fun s : Fin 8 => colL (F := F) c s) ∗ accP c fullShare 0 256 (X m c) ∗ outAny (F := F) c (row0 (pos c)) 256 ∗ bigSep Finset.univ G)
      ⊢ bigSep Finset.univ fun s : Fin 8 => colAll m c s (G s) := by
  unfold colAll
  rw [acc_parts, BI.bigSep_sep', BI.bigSep_sep', BI.bigSep_sep']
  iintro ⟨H1, H2, H3, H4⟩
  isplitl [H1]; · iexact H1
  isplitl [H2]; · iexact H2
  isplitl [H3]; · iapply (outAny_parts (F := F) c (row0 (pos c)) 32 8); iexact H3
  iexact H4

theorem col_edges (h : isMid c = false) :
    (bigSep Finset.univ fun s : Fin 8 => colAll m c s (commAny (F := F) (par c) s.val 0))
      ⊢ iprop((bigSep Finset.univ fun s : Fin 8 => edgeA m c s) ∗ (bigSep Finset.univ fun s : Fin 8 => edgeG (F := F) c s)
        ∗ (bigSep Finset.univ fun s : Fin 8 => shut (F := F) c (.aS s 1)) ∗ bigSep Finset.univ fun s : Fin 8 => shut (F := F) c (.aR s 0)) := by
  rw [← BI.bigSep_sep', ← BI.bigSep_sep', ← BI.bigSep_sep']
  exact BI.bigSep_mono fun s _ => col_edge m c h s

theorem col_mids (h : isMid c = true) :
    (bigSep Finset.univ fun s : Fin 8 => colAll m c s iprop(commAny (F := F) (par c) s.val 1 ∗ commAny (F := F) (opp c) s.val 1))
      ⊢ iprop((bigSep Finset.univ fun s : Fin 8 => midA m c s) ∗ (bigSep Finset.univ fun s : Fin 8 => midR (F := F) c s)
        ∗ bigSep Finset.univ fun s : Fin 8 => shut (F := F) c (.aS s 0)) := by
  rw [← BI.bigSep_sep', ← BI.bigSep_sep']
  exact BI.bigSep_mono fun s _ => col_mid m c h s

variable {h0 : xM.IsWhole} {h1 : rM.IsWhole} {h2 : gM.IsWhole} {h3 : oM.IsWhole} {h4 : aM.IsWhole} {h5 : kM.IsWhole}
  {h6 : (Memref.whole cc0_scratch2 : Memref sig .tc .vmem S2x256x2048 .f32).IsWhole} {h7 : (Memref.whole cc0_scratch3 : Memref sig .tc .vmem S2x256x2048 .f32).IsWhole} {h8 : sM.IsWhole}

/-- What the column of either kind starts from. -/
def colIn : sProp 𝕄 :=
  iprop((bigSep Finset.univ fun s : Fin 8 => colL (F := F) c s) ∗ commKeep (F := F) c ∗ gifts (F := F) c ∗ accP c fullShare 0 256 (X m c)
    ∗ outAny (F := F) c (row0 (pos c)) 256 ∗ ring4 (tok0 (F := F) c))

theorem col_run (v2 v5 v8 v11 v24 v27 v40 v43 v44 : BitVec 32) (v47 : BitVec 1) (v48 v49 v123 : BitVec 32) :
    iprop(recs m κ ι ∗ owesL c (rows42 c) ∗ colIn m c)
      ⊢ wpc c (k0_part42 xM h0 rM h1 gM h2 oM h3 aM h4 kM h5 (Memref.whole cc0_scratch2) h6 (Memref.whole cc0_scratch3) h7 sM h8
      cc0_scratch5 cc0_scratch6 cc0_scratch7 cc0_scratch8 cc0_scratch9 cc0_scratch10 cc0_scratch11 cc0_scratch12 cc0_scratch13 cc0_scratch14 c v2 v5 v8 v11 v24 v27 v40 v43 v44 v47 v48 v49 v123)
        (fun _ => iprop((owesL c rowsRing ∗ ownDone m c) ∗ (ring4 fun d j => ringAny (F := F) d (nxt d c) 1 j.val) ∗ shut c .bar)) := by
  unfold colIn gifts rows42 commKeep wpc
  simp only [show ∀ e k, commAll (F := F) e k = bigSep Finset.univ fun s : Fin 8 => commAny (F := F) e s.val k from fun _ _ => rfl]
  cases h : isMid c
  · have hr : ¬ isMid c = true := by rw [h]; decide
    simp only [if_neg hr, Bool.false_eq_true, if_false]
    iintro ⟨#HR, HO, HL, HK, ⟨HG, R0, R1, -, HB⟩, HX, HY, HT⟩
    ihave HT := (ring_begin (F := F) c) $$ [HT R0 R1]
    · isplitl [HT]; · iexact HT
      isplitl [R0]; · iexact R0
      iexact R1
    icases HT with ⟨⟨S0, S1, S2, S3⟩, HT⟩
    ihave HL := (col_gather m c fun s => commAny (F := F) (par c) s.val 0) $$ [HL HX HY HG]
    · isplitl [HL]; · iexact HL
      isplitl [HX]; · iexact HX
      isplitl [HY]; · iexact HY
      iexact HG
    ihave HL := (col_edges m c h) $$ HL
    icases HL with ⟨L1, L2, L3, L4⟩
    iapply (wp_wand_r frame (wpE (defs₀ (F := F)) 𝒱₀ (c : Thread nD τ) none) Set.univ)
    isplitl [HO HK L1 L2 L3 L4 S0 S1 S2 S3]
    · iapply (edge_run m κ ι c h v2 v5 v8 v11 v24 v27 v40 v43 v44 v47 v48 v49 v123)
      isplitr; · iexact HR
      isplitl [HO]; · iexact HO
      unfold edgeStart commAll
      isplitl [L1]; · iexact L1
      isplitl [L2]; · iexact L2
      isplitl [S0]; · iexact S0
      isplitl [S1]; · iexact S1
      isplitl [S2]; · iexact S2
      isplitl [S3]; · iexact S3
      isplitl [HK]; · iexact HK
      isplitl [L3]; · iexact L3
      iexact L4
    iintro %a H
    isplitl [H]; · iexact H
    isplitl [HT]; · iexact HT
    iexact HB
  · simp only [if_true]
    iintro ⟨#HR, HO, HL, -, ⟨HG, R0, R1, HG', HB⟩, HX, HY, HT⟩
    ihave HT := (ring_begin (F := F) c) $$ [HT R0 R1]
    · isplitl [HT]; · iexact HT
      isplitl [R0]; · iexact R0
      iexact R1
    icases HT with ⟨⟨S0, S1, S2, S3⟩, HT⟩
    ihave HL := (col_gather m c fun s => iprop(commAny (F := F) (par c) s.val 1 ∗ commAny (F := F) (opp c) s.val 1)) $$ [HL HX HY HG HG']
    · isplitl [HL]; · iexact HL
      isplitl [HX]; · iexact HX
      isplitl [HY]; · iexact HY
      rw [BI.bigSep_sep']
      isplitl [HG]; · iexact HG
      iexact HG'
    ihave HL := (col_mids m c h) $$ HL
    icases HL with ⟨L1, L2, L3⟩
    iapply (wp_wand_r frame (wpE (defs₀ (F := F)) 𝒱₀ (c : Thread nD τ) none) Set.univ)
    isplitl [HO L1 L2 L3 S0 S1 S2 S3]
    · iapply (mid_run m κ ι c h v2 v5 v8 v11 v24 v27 v40 v43 v44 v47 v48 v49 v123)
      isplitr; · iexact HR
      isplitl [HO]; · iexact HO
      unfold midStart
      isplitl [L1]; · iexact L1
      isplitl [L2]; · iexact L2
      isplitl [S0]; · iexact S0
      isplitl [S1]; · iexact S1
      isplitl [S2]; · iexact S2
      isplitl [S3]; · iexact S3
      iexact L3
    iintro %a H
    isplitl [H]; · iexact H
    isplitl [HT]; · iexact HT
    iexact HB

/-- A run of a first part, and of what follows from what it leaves. -/
theorem wpc_then {α β : Type} {Q : β → sProp 𝕄} {A R : sProp 𝕄} {p : Prog (TpuEff nD τ sig (Elt F) Λ₀ .tc) α} {k : α → Prog (TpuEff nD τ sig (Elt F) Λ₀ .tc) β}
    (h : A ⊢ wpc c p fun _ => R) : A ⊢ iprop((∀ a, R -∗ wpc c (k a) Q) -∗ wpc c (p >>= k) Q) := by
  unfold wpc at h ⊢
  rw [wp_bind]
  iintro HA HK
  iapply (wp_wand_r frame (wpE (defs₀ (F := F)) 𝒱₀ (c : Thread nD τ) none) Set.univ)
  isplitl [HA]
  · iapply h; iexact HA
  iintro %a H
  iapply HK $$ %a; iexact H

end Cert.Proto

end
-- ==== Proof.Legs.lean ====
module

public import proofs.«01_k».proof.Proof.Column

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)
variable (c : Dev nD)

/-! ## One half of one ring, hop by hop -/

/-- The neighbour's promise of an arrival. -/
def rcv (d k j : Fin 2) (r : ℕ) : sProp 𝕄 := cred (tallyAt (cellAt c (.rR d k j)) (Tring (2 * r + k.val) j.val d.val) NH)
def snt (d k j : Fin 2) : sProp 𝕄 := cred (tallyAt (cellAt c (.rS d k j)) 0 NH)
def atR (d k j : Fin 2) (r : ℕ) : sProp 𝕄 := atPos ER (cellAt c (.rR d k j)) r ∅ 0
def atS (d k j : Fin 2) (r : ℕ) : sProp 𝕄 := atPos ER (cellAt c (.rS d k j)) r ∅ 0

/-- What a half round a ring is given at the launch. -/
def legL (d j : Fin 2) : sProp 𝕄 :=
  iprop(rcv (F := F) c d 0 j 0 ∗ atR (F := F) c d 0 j 0 ∗ atS (F := F) c d 0 j 0 ∗ fwd (F := F) c d 1 j 0
    ∗ (atR (F := F) c d 1 j 0 ∗ atS (F := F) c d 1 j 0 ∗ rcv (F := F) c d 1 j 0 ∗ credW (F := F) c d (keyOf j) (Tring 1 j.val d.val + 1) ∗ fwd (F := F) c d 0 j 1 ∗ rcv (F := F) c d 0 j 1))
where keyOf (j : Fin 2) : Fin 3 := ⟨j.val, by omega⟩

theorem keyK_of : ∀ j : Fin 2, keyK (legL.keyOf j) = 0 := by decide
theorem keyJ_of : ∀ d j : Fin 2, keyJ d (legL.keyOf j) = j := by decide
theorem keyJ_two : ∀ d : Fin 2, keyJ d 2 = d := by decide

/-- After its first send; after its second; after its third. -/
def leg1 (d j : Fin 2) : sProp 𝕄 :=
  iprop(snt (F := F) c d 1 j ∗ past (F := F) c (.rR d 0 j) 0 ∗ past (F := F) c (.rS d 0 j) 0
    ∗ (atR (F := F) c d 1 j 0 ∗ atS (F := F) c d 1 j 0 ∗ rcv (F := F) c d 1 j 0 ∗ credW (F := F) c d (legL.keyOf j) (Tring 1 j.val d.val + 1) ∗ fwd (F := F) c d 0 j 1 ∗ rcv (F := F) c d 0 j 1))
def leg2 (d j : Fin 2) : sProp 𝕄 :=
  iprop(snt (F := F) c d 0 j ∗ past (F := F) c (.rR d 1 j) 0 ∗ past (F := F) c (.rS d 1 j) 0 ∗ past (F := F) c (.rR d 0 j) 0 ∗ past (F := F) c (.rS d 0 j) 0 ∗ rcv (F := F) c d 0 j 1)
def leg3 (d : Fin 2) : sProp 𝕄 :=
  iprop(snt (F := F) c d 1 d ∗ past (F := F) c (.rR d 0 d) 1 ∗ past (F := F) c (.rS d 0 d) 1 ∗ past (F := F) c (.rR d 1 d) 0 ∗ past (F := F) c (.rS d 1 d) 0 ∗ rcv (F := F) c d 1 d 1)
/-- What the half that goes on once more is given besides. -/
def legX (d : Fin 2) : sProp 𝕄 :=
  iprop(credW (F := F) c d 2 (Tring 2 d.val d.val + 1) ∗ fwd (F := F) c d 1 d 1 ∗ rcv (F := F) c d 1 d 1)
/-- At the end. -/
def legShut (d j : Fin 2) : sProp 𝕄 :=
  iprop(shut (F := F) c (.rR d 0 j) ∗ shut (F := F) c (.rS d 0 j) ∗ shut (F := F) c (.rR d 1 j) ∗ shut (F := F) c (.rS d 1 j))

theorem shut_rR (d k j : Fin 2) : past (F := F) c (.rR d k j) 1 ⊢ shut (F := F) c (.rR d k j) := by
  unfold past; iintro ⟨H, -⟩
  iapply (shut_at c (.rR d k j) 2 (by intro r' hr; unfold dutC; dsimp only; rw [if_neg (by omega)])); iexact H
theorem shut_rS (d k j : Fin 2) : past (F := F) c (.rS d k j) 1 ⊢ shut (F := F) c (.rS d k j) := by
  unfold past; iintro ⟨H, -⟩
  iapply (shut_at c (.rS d k j) 2 (by intro r' hr; unfold dutC; dsimp only; rw [if_neg (by omega)])); iexact H
theorem shut_rR' (d j : Fin 2) (h : j ≠ d) : past (F := F) c (.rR d 1 j) 0 ⊢ shut (F := F) c (.rR d 1 j) := by
  unfold past; iintro ⟨H, -⟩
  iapply (shut_at c (.rR d 1 j) 1 (by intro r' hr; unfold dutC; dsimp only; rw [if_neg fun hh => hh.elim (fun h' => by omega) fun h' => h'.2.elim (fun h'' => absurd h'' (by decide)) h])); iexact H
theorem shut_rS' (d j : Fin 2) (h : j ≠ d) : past (F := F) c (.rS d 1 j) 0 ⊢ shut (F := F) c (.rS d 1 j) := by
  unfold past; iintro ⟨H, -⟩
  iapply (shut_at c (.rS d 1 j) 1 (by intro r' hr; unfold dutC; dsimp only; rw [if_neg fun hh => hh.elim (fun h' => by omega) fun h' => h'.2.elim (fun h'' => absurd h'' (by decide)) h])); iexact H

/-- The first hop: the half that came from the neighbour goes on at once. -/
theorem leg_first {α : Type} {Q : α → sProp 𝕄} {kk : PUnit → Prog (TpuEff nD τ sig (Elt F) Λ₀ .tc) α} (d j : Fin 2) (l : List Row)
    {w1 w2 : TpuEff nD τ sig (Elt F) Λ₀ .tc PUnit} {s1 s2 : SemLoc sig} {k1 k2 : ℕ} {n : Dev nD} (hn : n = nxt d c)
    (hs1 : s1 = (Cell.rR d 0 j).toSem) (hs2 : s2 = (Cell.rS d 0 j).toSem)
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hk1 : k1 = NH) (hk2 : k2 = NH)
    {sS sem : SemLoc sig} {hb h'}
    {hsc : (ringV d (1 : Fin 2).val j.val h' : Memref sig (Dev.tc n : Thread nD τ).2.kind _ _ _).view.ref.isScScratch = false}
    {hsrc : (ringV d 0 j.val hb).view.WordExact} {hdst : (ringV d (1 : Fin 2).val j.val h').view.WordExact}
    {hsem : DmaTarget.Typed .vmem sem (.remote (Dev.tc n : Thread nD τ) (ringV d (1 : Fin 2).val j.val h') sS hsc)}
    (hS : sS = (Cell.rS d 1 j).toSem) (hR : sem = (Cell.rR d 1 j).toSem)
    (hlev : (rowR d 1 j 1 :: l).all (fun x => decide (Tring 0 j.val d.val < x.idx ∧ x.idx < 64)) = true) :
    iprop(recs m κ ι ∗ owesL c (rowR d 1 j 1 :: l) ∗ legL (F := F) c d j ∗ ringSent (F := F) c d j ∗ ringAny (F := F) d (nxt d c) 1 j.val)
      ⊢ iprop(((owesL c l ∗ leg1 (F := F) c d j ∗ ringP d c fullShare.right 0 j.val (S m (back d c 1)) ∗ outP c (qR d) (row0 (pos c) + 128 * j.val) 128 (f2 (row0 (pos c)) (S m c))) -∗ wpc c (kk ⟨⟩) Q)
          -∗ wpc c (.op w1 fun _ => .op w2 fun _ => .op (.enqueueDma (ringV d 0 j.val hb) (.remote (Dev.tc n : Thread nD τ) (ringV d (1 : Fin 2).val j.val h') sS hsc) sem hsrc hdst hsem) kk) Q) := by
  unfold legL leg1 ringSent rcv atR atS snt
  iintro ⟨#HR, HO, ⟨H1, H2, H3, H4, HZ⟩, HN, HA⟩ Hk
  iapply (hop_first m κ ι c d j l hn hs1 hs2 hw1 hw2 hk1 hk2 hS hR hlev) $$ [HO H1 H2 H3 H4 HN HA]
  · isplitr; · iexact HR
    isplitl [HO]; · iexact HO
    isplitl [H1 H2 H3 HN]
    · unfold hopW
      isplitl [H1]; · iexact H1
      isplitl [H2]; · iexact H2
      isplitl [HN]; · iexact HN
      iexact H3
    isplitl [HA]; · iexact HA
    iexact H4
  iintro ⟨HO, HP, HB, HN, H1, H2⟩
  iapply Hk
  isplitl [HO]; · iexact HO
  isplitl [HN H1 H2 HZ]
  · isplitl [HN]; · iexact HN
    isplitl [H1]; · iexact H1
    isplitl [H2]; · iexact H2
    iexact HZ
  isplitl [HP]; · iexact HP
  iexact HB

/-- The second hop: the neighbour is told that the place is free, and the half goes on. -/
theorem leg_second {α : Type} {Q : α → sProp 𝕄} {kk : PUnit → Prog (TpuEff nD τ sig (Elt F) Λ₀ .tc) α} (d j : Fin 2) (l : List Row)
    {w1 w2 w3 : TpuEff nD τ sig (Elt F) Λ₀ .tc PUnit} {s1 s2 s3 : SemLoc sig} {k1 k2 : ℕ} {n1 n2 : Dev nD} (hn1 : n1 = prv d c) (hn : n2 = nxt d c)
    (hs1 : s1 = (Cell.rR d 1 j).toSem) (hs2 : s2 = (Cell.rS d 1 j).toSem) (hs3 : s3 = (Cell.cr d).toSem) {sm : Sem sig} (hsm : SemLoc.reg sm = (Cell.cr d).toSem)
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hw3 : ∀ K : PUnit → sProp 𝕄, wpE (defs₀ (F := F)) 𝒱₀ (c : Thread nD τ) none Set.univ w3 K = waitSpec (c : Thread nD τ) Set.univ s3 1 K)
    (hk1 : k1 = NH) (hk2 : k2 = NH)
    {sS sem : SemLoc sig} {hb h'}
    {hsc : (ringV d (0 : Fin 2).val j.val h' : Memref sig (Dev.tc n2 : Thread nD τ).2.kind _ _ _).view.ref.isScScratch = false}
    {hsrc : (ringV d (1 : Fin 2).val j.val hb).view.WordExact} {hdst : (ringV d (0 : Fin 2).val j.val h').view.WordExact}
    {hsem : DmaTarget.Typed .vmem sem (.remote (Dev.tc n2 : Thread nD τ) (ringV d (0 : Fin 2).val j.val h') sS hsc)}
    (hS : sS = (Cell.rS d 0 j).toSem) (hR : sem = (Cell.rR d 0 j).toSem)
    (hlev : (rowCr d j 1 :: rowR d 0 j 2 :: l).all (fun x => decide (Tring 1 j.val d.val < x.idx ∧ x.idx < 64)) = true)
    (hlev' : (rowR d 0 j 2 :: l).all (fun x => decide (Tring 1 j.val d.val + 1 < x.idx ∧ x.idx < 64)) = true) :
    iprop(recs m κ ι ∗ owesL c (rowCr d j 1 :: rowR d 0 j 2 :: l) ∗ leg1 (F := F) c d j ∗ ringP d c fullShare.right 0 j.val (S m (back d c 1))
        ∗ given (F := F) c d j.val ∗ credSt (F := F) c d j.val)
      ⊢ iprop(((owesL c l ∗ leg2 (F := F) c d j ∗ ringP d c fullShare.right 1 j.val (S m (back d c 2)) ∗ given (F := F) c d (j.val + 1) ∗ credSt (F := F) c d (j.val + 1)) -∗ wpc c (kk ⟨⟩) Q)
          -∗ wpc c (.op w1 fun _ => .op w2 fun _ => .op (.semSignal (n1.tc : Thread nD τ) sm 1) fun _ => .op w3 fun _ =>
              .op (.enqueueDma (ringV d (1 : Fin 2).val j.val hb) (.remote (Dev.tc n2 : Thread nD τ) (ringV d (0 : Fin 2).val j.val h') sS hsc) sem hsrc hdst hsem) kk) Q) := by
  have hi : Tring 1 j.val d.val + 1 < 64 := by have := j.isLt; have := d.isLt; unfold Tring; omega
  unfold leg1 leg2 rcv atR atS snt
  iintro ⟨#HR, HO, ⟨HN, HP0, HP1, HA, HB, HC, HW, HF, HZ⟩, HP, HG, HS⟩ Hk
  iapply (hop_next m κ ι c d 1 0 j 0 0 (legL.keyOf j) rfl rfl rfl rfl (keyK_of j) (keyJ_of d j) l hn1 hn hs1 hs2 hs3 hsm hw1 hw2 hw3 hk1 hk2 hS hR
    (by unfold dutC; dsimp only; rw [if_pos (Or.inl rfl)]) (by unfold dutC; dsimp only; rw [if_pos (Or.inl rfl)]) (by unfold dutC; dsimp only; rw [if_pos (Or.inr ⟨rfl, Or.inl rfl⟩)])
    hlev hlev' hi) $$ [HO HN HP0 HP1 HA HB HC HW HF HP HG HS]
  · isplitr; · iexact HR
    isplitl [HO]; · iexact HO
    isplitl [HN HA HB HC]
    · unfold hopW
      isplitl [HC]; · iexact HC
      isplitl [HA]; · iexact HA
      isplitl [HN]; · iexact HN
      iexact HB
    isplitl [HP]; · iexact HP
    isplitl [HP0]; · iexact HP0
    isplitl [HP1]; · iexact HP1
    isplitl [HW]; · iexact HW
    isplitl [HG]; · iexact HG
    isplitl [HS]; · iexact HS
    iexact HF
  iintro ⟨HO, HP, HN, H1, H2, H3, H4, HG, HS⟩
  iapply Hk
  isplitl [HO]; · iexact HO
  isplitl [HN H1 H2 H3 H4 HZ]
  · isplitl [HN]; · iexact HN
    isplitl [H1]; · iexact H1
    isplitl [H2]; · iexact H2
    isplitl [H3]; · iexact H3
    isplitl [H4]; · iexact H4
    iexact HZ
  isplitl [HP]; · iexact HP
  isplitl [HG]; · iexact HG
  iexact HS

/-- The third hop of the half that goes on once more. -/
theorem leg_third {α : Type} {Q : α → sProp 𝕄} {kk : PUnit → Prog (TpuEff nD τ sig (Elt F) Λ₀ .tc) α} (d : Fin 2) (l : List Row)
    {w1 w2 w3 : TpuEff nD τ sig (Elt F) Λ₀ .tc PUnit} {s1 s2 s3 : SemLoc sig} {k1 k2 : ℕ} {n1 n2 : Dev nD} (hn1 : n1 = prv d c) (hn : n2 = nxt d c)
    (hs1 : s1 = (Cell.rR d 0 d).toSem) (hs2 : s2 = (Cell.rS d 0 d).toSem) (hs3 : s3 = (Cell.cr d).toSem) {sm : Sem sig} (hsm : SemLoc.reg sm = (Cell.cr d).toSem)
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hw3 : ∀ K : PUnit → sProp 𝕄, wpE (defs₀ (F := F)) 𝒱₀ (c : Thread nD τ) none Set.univ w3 K = waitSpec (c : Thread nD τ) Set.univ s3 1 K)
    (hk1 : k1 = NH) (hk2 : k2 = NH)
    {sS sem : SemLoc sig} {hb h'}
    {hsc : (ringV d (1 : Fin 2).val d.val h' : Memref sig (Dev.tc n2 : Thread nD τ).2.kind _ _ _).view.ref.isScScratch = false}
    {hsrc : (ringV d (0 : Fin 2).val d.val hb).view.WordExact} {hdst : (ringV d (1 : Fin 2).val d.val h').view.WordExact}
    {hsem : DmaTarget.Typed .vmem sem (.remote (Dev.tc n2 : Thread nD τ) (ringV d (1 : Fin 2).val d.val h') sS hsc)}
    (hS : sS = (Cell.rS d 1 d).toSem) (hR : sem = (Cell.rR d 1 d).toSem)
    (hlev : (rowCr d d 2 :: rowR d 1 d 3 :: l).all (fun x => decide (Tring 2 d.val d.val < x.idx ∧ x.idx < 64)) = true)
    (hlev' : (rowR d 1 d 3 :: l).all (fun x => decide (Tring 2 d.val d.val + 1 < x.idx ∧ x.idx < 64)) = true) :
    iprop(recs m κ ι ∗ owesL c (rowCr d d 2 :: rowR d 1 d 3 :: l) ∗ leg2 (F := F) c d d ∗ legX (F := F) c d ∗ ringP d c fullShare.right 1 d.val (S m (back d c 2))
        ∗ given (F := F) c d 2 ∗ credSt (F := F) c d 2)
      ⊢ iprop(((owesL c l ∗ leg3 (F := F) c d ∗ ringP d c fullShare.right 0 d.val (S m (back d c 3)) ∗ shut (F := F) c (.cr d)) -∗ wpc c (kk ⟨⟩) Q)
          -∗ wpc c (.op w1 fun _ => .op w2 fun _ => .op (.semSignal (n1.tc : Thread nD τ) sm 1) fun _ => .op w3 fun _ =>
              .op (.enqueueDma (ringV d (0 : Fin 2).val d.val hb) (.remote (Dev.tc n2 : Thread nD τ) (ringV d (1 : Fin 2).val d.val h') sS hsc) sem hsrc hdst hsem) kk) Q) := by
  have hi : Tring 2 d.val d.val + 1 < 64 := by have := d.isLt; unfold Tring; omega
  unfold leg2 leg3 legX rcv snt
  iintro ⟨#HR, HO, ⟨HN, HP0, HP1, HA, HB, HC⟩, ⟨HW, HF, HZ⟩, HP, HG, HS⟩ Hk
  unfold past
  icases HA with ⟨HA, #HrA⟩
  icases HB with ⟨HB, #HrB⟩
  iapply (hop_next m κ ι c d 0 1 d 1 1 2 rfl rfl rfl rfl (by decide) (keyJ_two d) l hn1 hn hs1 hs2 hs3 hsm hw1 hw2 hw3 hk1 hk2 hS hR
    (by unfold dutC; dsimp only; rw [if_pos (Or.inr ⟨rfl, Or.inl rfl⟩)]) (by unfold dutC; dsimp only; rw [if_pos (Or.inr ⟨rfl, Or.inl rfl⟩)]) (by unfold dutC; dsimp only; rw [if_pos (Or.inr ⟨rfl, Or.inr rfl⟩)])
    hlev hlev' hi) $$ [HO HN HP0 HP1 HA HB HC HW HF HP HG HS]
  · isplitr; · iexact HR
    isplitl [HO]; · iexact HO
    isplitl [HN HA HB HC]
    · unfold hopW
      isplitl [HC]; · iexact HC
      isplitl [HA]; · iexact HA
      isplitl [HN]; · iexact HN
      iexact HB
    isplitl [HP]; · iexact HP
    unfold past
    isplitl [HP0]; · iexact HP0
    isplitl [HP1]; · iexact HP1
    isplitl [HW]; · iexact HW
    isplitl [HG]; · iexact HG
    isplitl [HS]; · iexact HS
    iexact HF
  iintro ⟨HO, HP, HN, H1, H2, H3, H4, HG, HS⟩
  iapply Hk
  unfold past
  isplitl [HO]; · iexact HO
  isplitl [HN H1 H2 H3 H4 HZ]
  · isplitl [HN]; · iexact HN
    isplitl [H1]; · iexact H1
    isplitl [H2]; · iexact H2
    isplitl [H3]; · iexact H3
    isplitl [H4]; · iexact H4
    iexact HZ
  isplitl [HP]; · iexact HP
  iapply (Entails.of_eq (show credSt (F := F) c d 3 = shut (F := F) c (.cr d) from if_pos rfl)); iexact HS

/-- The third hop of the half that stops there. -/
theorem leg_stop {α : Type} {Q : α → sProp 𝕄} {kk : PUnit → Prog (TpuEff nD τ sig (Elt F) Λ₀ .tc) α} (d j : Fin 2) (l : List Row)
    {w1 w2 : TpuEff nD τ sig (Elt F) Λ₀ .tc PUnit} {s1 s2 : SemLoc sig} {k1 k2 : ℕ} (hj : j ≠ d)
    (hs1 : s1 = (Cell.rR d 0 j).toSem) (hs2 : s2 = (Cell.rS d 0 j).toSem)
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hk1 : k1 = NH) (hk2 : k2 = NH)
    (hlev : l.all (fun x => decide (Tring 2 j.val d.val < x.idx ∧ x.idx < 64)) = true) :
    iprop(recs m κ ι ∗ owesL c l ∗ leg2 (F := F) c d j ∗ ringP d c fullShare.right 1 j.val (S m (back d c 2)))
      ⊢ iprop(((owesL c l ∗ legShut (F := F) c d j ∗ ringP d c fullShare.left 0 j.val (S m (back d c 3)) ∗ ringP d c fullShare.right 0 j.val (S m (back d c 3)) ∗ ringAny (F := F) d c 1 j.val) -∗ wpc c (kk ⟨⟩) Q)
          -∗ wpc c (.op w1 fun _ => .op w2 kk) Q) := by
  have hi : Tring 2 j.val d.val < 64 := by have := j.isLt; have := d.isLt; unfold Tring; omega
  unfold leg2 legShut rcv snt
  iintro ⟨#HR, HO, ⟨HN, HP0, HP1, HA, HB, HC⟩, HP⟩ Hk
  ihave HP0 := (shut_rR' c d j hj) $$ HP0
  ihave HP1 := (shut_rS' c d j hj) $$ HP1
  unfold past
  icases HA with ⟨HA, #HrA⟩
  icases HB with ⟨HB, #HrB⟩
  iapply (ring_wait m κ ι c d 0 j 1 l (by unfold dutC; dsimp only; rw [if_pos (Or.inr ⟨rfl, Or.inl rfl⟩)]) (by unfold dutC; dsimp only; rw [if_pos (Or.inr ⟨rfl, Or.inl rfl⟩)])
    hs1 hs2 hw1 hw2 hk1 hk2 hlev hi) $$ [HO HN HA HB HC]
  · isplitr; · iexact HR
    isplitl [HO]; · iexact HO
    unfold hopW
    isplitl [HC]; · iexact HC
    isplitl [HA]; · iexact HA
    isplitl [HN]; · iexact HN
    iexact HB
  iintro ⟨HO, HA, HX, HB, HY⟩
  ihave HX := (Entails.of_eq (pay_rR m c d 0 j 1 2 rfl)) $$ HX
  ihave HX := (ringP_share d c _ _ _).1 $$ HX
  icases HX with ⟨HL, HX⟩
  ihave HY := (Entails.of_eq (pay_rS m c d 0 j 1 1 rfl)) $$ HY
  ihave HP := (ringP_share d c 1 j.val (S m (back d c 2))).2 $$ [HP HY]
  · isplitl [HY] <;> iassumption
  ihave HP := (ringP_any d c _ _ _) $$ HP
  iapply Hk
  isplitl [HO]; · iexact HO
  isplitl [HA HB HP0 HP1]
  · isplitl [HA]; · iapply (shut_rR c d 0 j); iexact HA
    isplitl [HB]; · iapply (shut_rS c d 0 j); iexact HB
    isplitl [HP0]; · iexact HP0
    iexact HP1
  isplitl [HL]; · iexact HL
  isplitl [HX]; · iexact HX
  iexact HP

/-- The fourth hop: the last half arrives. -/
theorem leg_last {α : Type} {Q : α → sProp 𝕄} {kk : PUnit → Prog (TpuEff nD τ sig (Elt F) Λ₀ .tc) α} (d : Fin 2)
    {w1 w2 : TpuEff nD τ sig (Elt F) Λ₀ .tc PUnit} {s1 s2 : SemLoc sig} {k1 k2 : ℕ}
    (hs1 : s1 = (Cell.rR d 1 d).toSem) (hs2 : s2 = (Cell.rS d 1 d).toSem)
    (hw1 : ∀ K : PUnit → sProp 𝕄, wpE (defs₀ (F := F)) 𝒱₀ (c : Thread nD τ) none Set.univ w1 K = waitSpec (c : Thread nD τ) Set.univ s1 k1 K)
    (hw2 : ∀ K : PUnit → sProp 𝕄, wpE (defs₀ (F := F)) 𝒱₀ (c : Thread nD τ) none Set.univ w2 K = waitSpec (c : Thread nD τ) Set.univ s2 k2 K)
    (hk1 : k1 = NH) (hk2 : k2 = NH) :
    iprop(recs m κ ι ∗ owesL c [] ∗ leg3 (F := F) c d ∗ ringP d c fullShare.right 0 d.val (S m (back d c 3)))
      ⊢ iprop(((owesL c [] ∗ legShut (F := F) c d d ∗ ringP d c fullShare 1 d.val (S m (back d c 4)) ∗ ringAny (F := F) d c 0 d.val) -∗ wpc c (kk ⟨⟩) Q)
          -∗ wpc c (.op w1 fun _ => .op w2 kk) Q) := by
  have hi : Tring 3 d.val d.val < 64 := by have := d.isLt; unfold Tring; omega
  unfold leg3 legShut rcv snt
  iintro ⟨#HR, HO, ⟨HN, HP0, HP1, HA, HB, HC⟩, HP⟩ Hk
  ihave HP0 := (shut_rR c d 0 d) $$ HP0
  ihave HP1 := (shut_rS c d 0 d) $$ HP1
  unfold past
  icases HA with ⟨HA, #HrA⟩
  icases HB with ⟨HB, #HrB⟩
  iapply (ring_wait m κ ι c d 1 d 1 [] (by unfold dutC; dsimp only; rw [if_pos (Or.inr ⟨rfl, Or.inr rfl⟩)]) (by unfold dutC; dsimp only; rw [if_pos (Or.inr ⟨rfl, Or.inr rfl⟩)])
    hs1 hs2 hw1 hw2 hk1 hk2 rfl hi) $$ [HO HN HA HB HC]
  · isplitr; · iexact HR
    isplitl [HO]; · iexact HO
    unfold hopW
    isplitl [HC]; · iexact HC
    isplitl [HA]; · iexact HA
    isplitl [HN]; · iexact HN
    iexact HB
  iintro ⟨HO, HA, HX, HB, HY⟩
  ihave HX := (Entails.of_eq (pay_rR m c d 1 d 1 3 rfl)) $$ HX
  ihave HY := (Entails.of_eq (pay_rS m c d 1 d 1 2 rfl)) $$ HY
  ihave HP := (ringP_share d c 0 d.val (S m (back d c 3))).2 $$ [HP HY]
  · isplitl [HY] <;> iassumption
  ihave HP := (ringP_any d c _ _ _) $$ HP
  iapply Hk
  isplitl [HO]; · iexact HO
  isplitl [HA HB HP0 HP1]
  · isplitl [HP0]; · iexact HP0
    isplitl [HP1]; · iexact HP1
    isplitl [HA]; · iapply (shut_rR c d 1 d); iexact HA
    iapply (shut_rS c d 1 d); iexact HB
  isplitl [HX]; · iexact HX
  iexact HP

end Cert.Proto

end
-- ==== Proof.Outcome.lean ====
module

public import proofs.«01_k».proof.Proof.Legs

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)
variable (c : Dev nD)

/-! ## The rows of the result, in the order they are written -/

/-- Eight pieces, named from the device's own on. -/
theorem eight_rows (Φ : ℕ → sProp 𝕄) :
    (bigSep Finset.univ fun q : Fin 8 => Φ (256 * q.val))
      = iprop(Φ (row0 (pos c)) ∗ Φ (row0 (pos c + 7)) ∗ Φ (row0 (pos c + 1)) ∗ Φ (row0 (pos c + 6)) ∗ Φ (row0 (pos c + 2)) ∗ Φ (row0 (pos c + 5)) ∗ Φ (row0 (pos c + 3)) ∗ Φ (row0 (pos c + 4))) := by
  have hp := pos_lt c
  have e : ∀ i : Fin 8, (Equiv.addLeft (⟨pos c % 8, Nat.mod_lt _ (by omega)⟩ : Fin 8) i).val = (pos c + i.val) % 8 := fun i => by
    rw [Equiv.coe_addLeft, Fin.val_add]; dsimp only; omega
  rw [BI.bigSep_univ_equiv (Equiv.addLeft (⟨pos c % 8, Nat.mod_lt _ (by omega)⟩ : Fin 8)) fun q : Fin 8 => Φ (256 * q.val)]
  simp only [e]
  rw [bigSep_univ_eq_bigSepL [0, 7, 1, 6, 2, 5, 3, 4] (by decide) (by decide) fun i : Fin 8 => Φ (256 * ((pos c + i.val) % 8))]
  rfl

theorem out_begin : outAny (F := F) c 0 2048
    ⊢ iprop(outAny (F := F) c (row0 (pos c)) 256 ∗ outAny (F := F) c (row0 (pos c + 7)) 256 ∗ outAny (F := F) c (row0 (pos c + 1)) 256 ∗ outAny (F := F) c (row0 (pos c + 6)) 256 ∗ outAny (F := F) c (row0 (pos c + 2)) 256
      ∗ outAny (F := F) c (row0 (pos c + 5)) 256 ∗ outAny (F := F) c (row0 (pos c + 3)) 256 ∗ outAny (F := F) c (row0 (pos c + 4) + 128 * (0 : Fin 2).val) 128 ∗ outAny (F := F) c (row0 (pos c + 4) + 128 * (1 : Fin 2).val) 128) := by
  have h8 := outAny_parts (F := F) c 0 256 8
  simp only [Nat.zero_add] at h8
  have h2 := outAny_parts (F := F) c (row0 (pos c + 4)) 128 2
  rw [BI.bigSep_univ_two] at h2
  iintro H
  ihave H := (h8.trans (Entails.of_eq (eight_rows c fun lo => outAny (F := F) c lo 256))) $$ H
  icases H with ⟨H0, H1, H2, H3, H4, H5, H6, H7⟩
  ihave H7 := h2 $$ H7
  icases H7 with ⟨H7, H8⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem out_end (q : PosShare TreeShare) (f : S2048x2048.Idx → El F) :
    iprop(outP c q (row0 (pos c)) 256 f ∗ outP c q (row0 (pos c + 7)) 256 f ∗ outP c q (row0 (pos c + 1)) 256 f ∗ outP c q (row0 (pos c + 6)) 256 f ∗ outP c q (row0 (pos c + 2)) 256 f
      ∗ outP c q (row0 (pos c + 5)) 256 f ∗ outP c q (row0 (pos c + 3)) 256 f ∗ outP c q (row0 (pos c + 4) + 128 * (0 : Fin 2).val) 128 f ∗ outP c q (row0 (pos c + 4) + 128 * (1 : Fin 2).val) 128 f)
      ⊢ outP c q 0 2048 f := by
  have h2 := out_parts c q (row0 (pos c + 4)) 128 2 f
  rw [BI.bigSep_univ_two] at h2
  rw [show (2048 : ℕ) = 256 * 8 from rfl, out_parts c q 0 256 8 f]
  simp only [Nat.zero_add]
  rw [eight_rows c fun lo => outP c q lo 256 f, show (256 : ℕ) = 128 * 2 from rfl, h2]

/-- The device's own rows, once every share has come back. -/
theorem own_back (f : S2048x2048.Idx → El F) :
    iprop(outP c qF (row0 (pos c)) 256 f ∗ ring4 fun d j => outP c (qR d) (row0 (pos c) + 128 * j.val) 128 f) ⊢ outP c fullShare (row0 (pos c)) 256 f := by
  have hr := fun j : Fin 2 => (outP_share c fullShare.right (row0 (pos c) + 128 * j.val) 128 f).2
  unfold ring4
  iintro ⟨H, H00, H10, H01, H11⟩
  ihave H0 := (hr 0) $$ [H00 H10]
  · isplitl [H00]; · iexact H00
    iexact H10
  ihave H1 := (hr 1) $$ [H01 H11]
  · isplitl [H01]; · iexact H01
    iexact H11
  iapply (outP_share c fullShare (row0 (pos c)) 256 f).2
  isplitl [H]; · iexact H
  iapply (Entails.of_eq (halves c fullShare.right f).symm)
  isplitl [H0]; · iexact H0
  iexact H1

theorem NH_half (lo : ℕ) {off : Fin 2 → ℕ} (ho : off = ![lo, 0]) (h : ∀ a, off a + S128x2048.size a ≤ S2048x2048.size a) :
    (oM.slice (Rect.unit (s := S2048x2048) off S128x2048.size h) (fun _ => rfl)).view.dmaCredit = NH := by
  subst ho; exact NH_out lo h

/-! ## What the body starts from, and what it leaves -/

/-- One staging place. -/
def stL (i : Fin 4) : sProp 𝕄 :=
  iprop(dutyTok ER (cellAt c (.st i)) 0 0 ∗ dutyTok ER (cellAt c (.st i)) 1 0 ∗ atPos ER (cellAt c (.st i)) 0 ∅ 0 ∗ stAny (F := F) c i.val)

/-- The entry's tickets. -/
def tellL : sProp 𝕄 :=
  iprop(dutyTok ER (cellAt (par c) .bar) 0 0 ∗ commAll (F := F) c (if isMid c = true then 0 else 1) ∗ dutyTok ER (cellAt (nxt 1 c) .bar) 0 1 ∗ ringAll (F := F) 0 c
    ∗ dutyTok ER (cellAt (nxt 0 c) .bar) 0 2 ∗ ringAll (F := F) 1 c ∗ oppTell (F := F) c ∗ atPos ER (cellAt c .bar) 0 ∅ 0 ∗ cred (tallyAt (cellAt c .bar) 1 3))

def bodyIn (g : S2048.Idx → El F) : sProp 𝕄 :=
  iprop(owesL c (rowsOf (isMid c)) ∗ tellL (F := F) c ∗ (hbm m c main_arg0 ∗ anyOn (F := F) (bufL c cc0_scratch0) Finset.univ ∗ dutyTok ER (cellAt c .loc) 0 0 ∗ atPos ER (cellAt c .loc) 0 ∅ 0) ∗ hbm m c main_arg1
    ∗ (stL (F := F) c 0 ∗ stL (F := F) c 1 ∗ stL (F := F) c 2 ∗ stL (F := F) c 3) ∗ ((bigSep Finset.univ fun s : Fin 8 => colL (F := F) c s) ∗ commKeep (F := F) c ∗ ring4 (tok0 (F := F) c))
    ∗ (ring4 (legL (F := F) c) ∗ (legX (F := F) c 0 ∗ legX (F := F) c 1) ∗ atPos ER (cellAt c (.cr 0)) 0 ∅ 0 ∗ atPos ER (cellAt c (.cr 1)) 0 ∅ 0) ∗ gain c g ∗ outAny (F := F) c 0 2048)

def cellsShut : sProp 𝕄 :=
  iprop((bigSep Finset.univ fun x : Fin 8 × Fin 2 => shut (F := F) c (.aS x.1 x.2)) ∗ (bigSep Finset.univ fun x : Fin 8 × Fin 2 => shut (F := F) c (.aR x.1 x.2))
    ∗ ring4 (legShut (F := F) c) ∗ shut (F := F) c .loc ∗ (shut (F := F) c (.st 0) ∗ shut (F := F) c (.st 1) ∗ shut (F := F) c (.st 2) ∗ shut (F := F) c (.st 3))
    ∗ shut (F := F) c .bar ∗ shut (F := F) c (.cr 0) ∗ shut (F := F) c (.cr 1))

def bufsBack : sProp 𝕄 :=
  iprop((bigSep Finset.univ fun s : Fin 8 => accAny (F := F) c s.val) ∗ (commAll (F := F) c 0 ∗ commAll (F := F) c 1) ∗ (ringAll (F := F) 0 c ∗ ringAll (F := F) 1 c)
    ∗ stAny (F := F) c 0 ∗ stAny (F := F) c 1 ∗ stAny (F := F) c 2 ∗ stAny (F := F) c 3)

def bodyOut (g : S2048.Idx → El F) : sProp 𝕄 :=
  iprop(owesL c [] ∗ cellsShut (F := F) c ∗ bufsBack (F := F) c ∗ (hbm m c main_arg0 ∗ hbm m c main_arg1) ∗ gain c g ∗ outP c fullShare 0 2048 (f2 0 (O m c g)))

theorem shut_st (i : Fin 4) : past (F := F) c (.st i) 1 ⊢ shut (F := F) c (.st i) := by
  unfold past; iintro ⟨H, -⟩
  iapply (shut_at c (.st i) 2 (by intro r' hr; unfold dutC; dsimp only; rw [if_neg (by omega)])); iexact H
theorem shut_st' (i : Fin 4) : (atPos ER (cellAt c (.st i)) 2 ∅ 0 : sProp 𝕄) ⊢ shut (F := F) c (.st i) :=
  shut_at c (.st i) 2 (by intro r' hr; unfold dutC; dsimp only; rw [if_neg (by omega)])
theorem shut_loc : (atPos ER (cellAt c .loc) 1 ∅ 0 : sProp 𝕄) ⊢ shut (F := F) c .loc :=
  shut_at c .loc 1 (by intro r' hr; unfold dutC; dsimp only; rw [if_neg (by omega)])

theorem rows42_pos : (rows42 c).all (fun x => decide (0 < x.idx ∧ x.idx < 64)) = true := by
  unfold rows42; split <;> decide

/-- The rows the pieces are written to, and the rows fetched for them. -/
theorem offs_piece : ∀ c : Dev nD, k0_off11 c 0#32 = ![row0 (pos c + 7), 0] ∧ k0_off12 c 0#32 = ![row0 (pos c + 1), 0] ∧ k0_off11 c 1#32 = ![row0 (pos c + 6), 0]
    ∧ k0_off12 c 1#32 = ![row0 (pos c + 2), 0] ∧ k0_off11 c 2#32 = ![row0 (pos c + 5), 0] ∧ k0_off12 c 2#32 = ![row0 (pos c + 3), 0] := by decide +kernel
theorem offs_fetch : ∀ c : Dev nD, k0_off14 c 0#32 = ![row0 (pos c + 6), 0] ∧ k0_off15 c 0#32 = ![row0 (pos c + 2), 0] ∧ k0_off14 c 1#32 = ![row0 (pos c + 5), 0]
    ∧ k0_off15 c 1#32 = ![row0 (pos c + 3), 0] := by decide +kernel
/-- Whose rows arrive at each hop. -/
theorem backs : ∀ c : Dev nD, back 0 c 1 = at_ ((pos c + 7) % 8) (zOf c) ∧ back 1 c 1 = at_ ((pos c + 1) % 8) (zOf c) ∧ back 0 c 2 = at_ ((pos c + 6) % 8) (zOf c)
    ∧ back 1 c 2 = at_ ((pos c + 2) % 8) (zOf c) ∧ back 0 c 3 = at_ ((pos c + 5) % 8) (zOf c) ∧ back 1 c 3 = at_ ((pos c + 3) % 8) (zOf c)
    ∧ back 0 c 4 = at_ ((pos c + 4) % 8) (zOf c) ∧ back 1 c 4 = at_ ((pos c + 4) % 8) (zOf c) := by decide +kernel

theorem ring_all (d : Fin 2) : iprop((ringAny (F := F) d c 0 0 ∗ ringAny (F := F) d c 0 1) ∗ ringAny (F := F) d c 1 0 ∗ ringAny (F := F) d c 1 1) ⊢ ringAll (F := F) d c :=
  Entails.of_eq (ringAll_eq d c).symm

theorem st_ready (i : Fin 4) (r : ℕ) : iprop(cred (tallyAt (cellAt c (.st i)) 0 NP) ∗ atPos ER (cellAt c (.st i)) r ∅ 0) ⊢ stW (F := F) c i r := by
  unfold stW; exact BI.Entails.refl _
theorem past_open (cl : Cell) (r : ℕ) : past (F := F) c cl r ⊢ iprop(atPos ER (cellAt c cl) (r + 1) ∅ 0 ∗ reached ER (cellAt c cl) (r + 1)) := by
  unfold past; exact BI.Entails.refl _
theorem cred_start (d : Fin 2) : (atPos ER (cellAt c (.cr d)) 0 ∅ 0 : sProp 𝕄) ⊢ credSt (F := F) c d 0 :=
  (credGot_zero c d).trans (Entails.of_eq (if_neg (by decide)).symm)

/-- The own piece is read back at its own shape. -/
theorem pay31_eq : (fun (v : S256x2048.Idx → El F) (w : S1x256x2048.Idx → El F) (g : S2048.Idx → El F) => k0_pay31 (k0_pay30 v) w g) = fun v w g => k0_pay28 v w g := by
  funext v w g; rw [pay30_eq]; rfl

/-- The last store's value, read in two steps. -/
theorem pay1_eq (v : S1x128x2048.Idx → El F) :
    (fun (w : S1x128x2048.Idx → El F) (g : S2048.Idx → El F) => k0_pay1 (k0_pay41 v w) (k0_pay42 v w) g) = fun w g => k0_pay40 v w g := by
  funext w g; unfold k0_pay1 k0_pay42 k0_pay41 k0_pay40; rfl

/-- The plane's kind, as the kernel works it out. -/
theorem cond_mid : ∀ c : Dev nD, (Scalar.cmpi .ne (Scalar.extui (Scalar.xori (Scalar.ori (Scalar.cmpi .eq (Scalar.remsi (Scalar.divsi (Dev.word c) 1#32) 4#32) 0#32) (Scalar.cmpi .eq (Scalar.remsi (Scalar.divsi (Dev.word c) 1#32) 4#32) 3#32)) 1#1) : BitVec 32) 0#32 = 1#1) ↔ isMid c = true := by
  decide +kernel

/-- The last half piece: its value is made in two steps. -/
theorem last_value (g : S2048.Idx → El F) (y : S128x2048.Idx) :
    k0_pay1 (k0_pay41 (fun y : S1x128x2048.Idx => S m (at_ ((pos c + 4) % 8) (zOf c)) (128 * 1 + (y 1).val) (y 2).val) fun j : S1x128x2048.Idx => R m c (pos c + 4) (128 + (j 1).val) (j 2).val)
      (k0_pay42 (fun y : S1x128x2048.Idx => S m (at_ ((pos c + 4) % 8) (zOf c)) (128 * 1 + (y 1).val) (y 2).val) fun j : S1x128x2048.Idx => R m c (pos c + 4) (128 + (j 1).val) (j 2).val) g y
      = O m c g (row0 (pos c + 4) + 128 * (1 : Fin 2).val + (y 0).val - 0) (y 1).val := by
  have h := O_half m c g 1 _ rfl y
  refine Eq.trans ?_ h
  unfold norm128
  exact congrFun (congrFun (congrFun (pay1_eq _) _) _) y

end Cert.Proto

end
-- ==== Proof.Body.lean ====
module

public import proofs.«01_k».proof.Proof.Outcome

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)
variable (c : Dev nD)

/-! ## The body of one device: the entry, the column, the ring, the normalised rows -/

/-- What is still owed at the second, third and fourth hop. -/
abbrev rows2 : List Row := [rowCr 0 0 2, rowR 0 1 0 3, rowCr 1 1 2, rowR 1 1 1 3]
abbrev rows1 : List Row := rowCr 0 0 1 :: rowR 0 0 0 2 :: rowCr 1 0 1 :: rowR 1 0 0 2 :: rowCr 0 1 1 :: rowR 0 0 1 2 :: rowCr 1 1 1 :: rowR 1 0 1 2 :: rows2

variable {h0 : xM.IsWhole} {h1 : rM.IsWhole} {h2 : gM.IsWhole} {h3 : oM.IsWhole} {h4 : aM.IsWhole} {h5 : kM.IsWhole}
  {h6 : (Memref.whole cc0_scratch2 : Memref sig .tc .vmem S2x256x2048 .f32).IsWhole} {h7 : (Memref.whole cc0_scratch3 : Memref sig .tc .vmem S2x256x2048 .f32).IsWhole} {h8 : sM.IsWhole}

set_option maxHeartbeats 400000 in
/-- The whole body of one device. -/
theorem body_run (g : S2048.Idx → El F) :
    iprop(recs m κ ι ∗ bodyIn m c g)
      ⊢ wpc c (cc0_body xM h0 rM h1 gM h2 oM h3 aM h4 kM h5 (Memref.whole cc0_scratch2) h6 (Memref.whole cc0_scratch3) h7 sM h8
      cc0_scratch5 cc0_scratch6 cc0_scratch7 cc0_scratch8 cc0_scratch9 cc0_scratch10 cc0_scratch11 cc0_scratch12 cc0_scratch13 cc0_scratch14) (fun _ => bodyOut m c g) := by
  obtain ⟨e1, e2, -⟩ := devs_bar c
  obtain ⟨o1, -, o3, o4⟩ := offs_load c
  obtain ⟨e37, e38, e39, e40, e42, e44, e46, e48, e50, e52⟩ := devs_ring c
  obtain ⟨e41, e43, e45, e47, e49, e51⟩ := devs_credit c
  obtain ⟨p7, p1, p6, p2, p5, p3⟩ := offs_piece c
  obtain ⟨f6, f2', f5, f3'⟩ := offs_fetch c
  obtain ⟨b1, b1', b2, b2', b3, b3', b4, b4'⟩ := backs c
  obtain ⟨o13, o16, o17, o34⟩ := offs_out' c
  unfold bodyIn tellL stL
  rw [rows_start]
  rw [cc0_body_eq_skeleton, cc0_body_skel, k0_part70_eq_skeleton, k0_part70_skel]
  simp only [k0_part38_eq_skeleton, k0_part38_skel, k0_part39_eq_skeleton, k0_part39_skel, k0_part41_eq_skeleton, k0_part41_skel, k0_part43_eq_skeleton, k0_part43_skel,
    k0_part44_eq_skeleton, k0_part44_skel, k0_part45_eq_skeleton, k0_part45_skel, k0_part46_eq_skeleton, k0_part46_skel, k0_part47_eq_skeleton, k0_part47_skel,
    k0_part48_eq_skeleton, k0_part48_skel, k0_part49_eq_skeleton, k0_part49_skel, k0_part50_eq_skeleton, k0_part50_skel, k0_part51_eq_skeleton, k0_part51_skel,
    k0_part52_eq_skeleton, k0_part52_skel, k0_part53_eq_skeleton, k0_part53_skel, k0_part54_eq_skeleton, k0_part54_skel, k0_part55_eq_skeleton, k0_part55_skel,
    k0_part56_eq_skeleton, k0_part56_skel, k0_part57_eq_skeleton, k0_part57_skel, k0_part58_eq_skeleton, k0_part58_skel, k0_part59_eq_skeleton, k0_part59_skel,
    k0_part60_eq_skeleton, k0_part60_skel, k0_part61_eq_skeleton, k0_part61_skel, k0_part62_eq_skeleton, k0_part62_skel, k0_part63_eq_skeleton, k0_part63_skel,
    k0_part64_eq_skeleton, k0_part64_skel, k0_part65_eq_skeleton, k0_part65_skel, k0_part66_eq_skeleton, k0_part66_skel, k0_part67_eq_skeleton, k0_part67_skel,
    k0_part68_eq_skeleton, k0_part68_skel, k0_part69_eq_skeleton, k0_part69_skel,
    semSignalWord, semWaitWord, wp_deviceId, Prog.lift, Prog.bind_op, Prog.bind_ret, Prog.bind_assoc, Prog.pure_eq_ret]
  iintro ⟨#HR, HO, ⟨B0, B1, B2, B3, B4, B5, B6, B7, B8⟩, ⟨X0, X1, X2, X3⟩, X4, ⟨⟨S00, S01, S02, S03⟩, ⟨S10, S11, S12, S13⟩, ⟨S20, S21, S22, S23⟩, ⟨S30, S31, S32, S33⟩⟩, ⟨C0, C1, C2⟩, ⟨HL, ⟨LX0, LX1⟩, HC0, HC1⟩, HG, HY⟩
  iapply (step_signal m κ ι c rBarPar _ 0 (Fin.ext (by exact e1)) sem_bar rfl (bar_mem (par c) 0 (by decide) (par c))) $$ [HO B0 B1]
  · isplitr; · iexact HR
    isplitl [HO]; · iexact HO
    isplitl [B0]; · iexact B0
    iapply (Entails.of_eq (pay_bar0 m c).symm); iexact B1
  iintro HO
  iapply (step_signal m κ ι c rBarPrev _ 1 (Fin.ext (by exact e2)) sem_bar rfl (bar_mem (par c) 1 (by decide) (nxt 1 c))) $$ [HO B2 B3]
  · isplitr; · iexact HR
    isplitl [HO]; · iexact HO
    isplitl [B2]; · iexact B2
    iapply (Entails.of_eq (pay_bar1 m c).symm); iexact B3
  iintro HO
  iapply (wpc_then c (entry_run m κ ι c _ _ _ _ _ (propext (cond_mid c)) _ sem_bar)) $$ [HO B4 B5 B6 B7 B8 X0 X1 X2 X4 S00 S03]
  · isplitr; · iexact HR
    isplitl [HO]; · iexact HO
    isplitl [B4]; · iexact B4
    isplitl [B5]; · iexact B5
    isplitl [B6]; · iexact B6
    isplitl [B7]; · iexact B7
    isplitl [B8]; · iexact B8
    unfold copyIn
    isplitl [X0]; · iexact X0
    isplitl [X1]; · iexact X1
    isplitl [X2]; · iexact X2
    isplitl [X4]; · iexact X4
    isplitl [S03]; · iexact S03
    iexact S00
  unfold copyOut
  iintro %a ⟨HO, HGi, X0, X1, X4, S00⟩
  iapply (copy_res m κ ι c 1 0 _ o3 (sem_st 1 _) (Finset.mem_singleton_self 0) rfl) $$ [X4 S10 S13]
  · isplitr; · iexact HR
    isplitl [X4]; · iexact X4
    isplitl [S13]; · iexact S13
    isplitl [S10]; · iexact S10
    iapply (recs_reached m κ ι c (.st 1)); iexact HR
  iintro ⟨X4, S10⟩
  iapply (copy_res m κ ι c 2 0 _ o4 (sem_st 2 _) (Finset.mem_singleton_self 0) rfl) $$ [X4 S20 S23]
  · isplitr; · iexact HR
    isplitl [X4]; · iexact X4
    isplitl [S23]; · iexact S23
    isplitl [S20]; · iexact S20
    iapply (recs_reached m κ ι c (.st 2)); iexact HR
  iintro ⟨X4, S20⟩
  iapply (step_wait m κ ι c .loc 0 0 0 (rows42 c) sem_loc (wpE_waitDma2_eq 𝒱₀ (c : Thread nD τ) none Set.univ) rfl rfl (rows42_pos c) (by decide)) $$ [HO X1 X3]
  · isplitr; · iexact HR
    isplitl [HO]; · iexact HO
    isplitl [X1]; · iexact X1
    iexact X3
  iintro ⟨HO, X1, -, HX⟩
  ihave HX := (Entails.of_eq (show payC m c .loc 0 0 = accP c fullShare 0 256 (X m c) from rfl)) $$ HX
  ihave X1 := (shut_loc c) $$ X1
  ihave HY := (out_begin c) $$ HY
  icases HY with ⟨Y0, Y7, Y1, Y6, Y2, Y5, Y3, Y4, Y4'⟩
  iapply (wpc_then c (col_run m κ ι c _ _ _ _ _ _ _ _ _ _ _ _ _)) $$ [HO C0 C1 C2 HGi HX Y0]
  · isplitr; · iexact HR
    isplitl [HO]; · iexact HO
    unfold colIn
    isplitl [C0]; · iexact C0
    isplitl [C1]; · iexact C1
    isplitl [HGi]; · iexact HGi
    isplitl [HX]; · iexact HX
    isplitl [Y0]; · iexact Y0
    iexact C2
  unfold ownDone ring4
  iintro %a' ⟨⟨HO, D0, D1, D2, D3, D4, Y0, N00, N10, N01, N11⟩, ⟨A00, A10, A01, A11⟩, B0⟩
  ihave HO := (Entails.of_eq (show owesL c rowsRing = owesL c (rowR 0 1 0 1 :: rowR 1 1 0 1 :: rowR 0 1 1 1 :: rowR 1 1 1 1 :: rows1) from rfl)) $$ HO
  icases HL with ⟨L00, L10, L01, L11⟩
  iapply (leg_first m κ ι c 0 0 (rowR 1 1 0 1 :: rowR 0 1 1 1 :: rowR 1 1 1 1 :: rows1) (Fin.ext (by exact e37)) (sem_rR 0 0 0 _) (sem_rS 0 0 0 _) (wpE_waitDma2_eq 𝒱₀ (c : Thread nD τ) none Set.univ) (wpE_waitDma2_eq 𝒱₀ (c : Thread nD τ) none Set.univ) (NH_ring 0 0 0 _) (NH_half _ (offs_half10 c 0) _) (sem_rS 0 1 0 _) (sem_rR 0 1 0 _) (by decide)) $$ [HO L00 N00 A00]
  · isplitr; · iexact HR
    isplitl [HO]; · iexact HO
    isplitl [L00]; · iexact L00
    isplitl [N00]; · iexact N00
    iexact A00
  iintro ⟨HO, L00, P00, Z00⟩
  iapply (leg_first m κ ι c 1 0 (rowR 0 1 1 1 :: rowR 1 1 1 1 :: rows1) (Fin.ext (by exact e38)) (sem_rR 1 0 0 _) (sem_rS 1 0 0 _) (wpE_waitDma2_eq 𝒱₀ (c : Thread nD τ) none Set.univ) (wpE_waitDma2_eq 𝒱₀ (c : Thread nD τ) none Set.univ) (NH_ring 1 0 0 _) (NH_half _ (offs_half10 c 0) _) (sem_rS 1 1 0 _) (sem_rR 1 1 0 _) (by decide)) $$ [HO L10 N10 A10]
  · isplitr; · iexact HR
    isplitl [HO]; · iexact HO
    isplitl [L10]; · iexact L10
    isplitl [N10]; · iexact N10
    iexact A10
  iintro ⟨HO, L10, P10, Z10⟩
  iapply (leg_first m κ ι c 0 1 (rowR 1 1 1 1 :: rows1) (Fin.ext (by exact e39)) (sem_rR 0 0 1 _) (sem_rS 0 0 1 _) (wpE_waitDma2_eq 𝒱₀ (c : Thread nD τ) none Set.univ) (wpE_waitDma2_eq 𝒱₀ (c : Thread nD τ) none Set.univ) (NH_ring 0 0 1 _) (NH_half _ (offs_half10 c 1) _) (sem_rS 0 1 1 _) (sem_rR 0 1 1 _) (by decide)) $$ [HO L01 N01 A01]
  · isplitr; · iexact HR
    isplitl [HO]; · iexact HO
    isplitl [L01]; · iexact L01
    isplitl [N01]; · iexact N01
    iexact A01
  iintro ⟨HO, L01, P01, Z01⟩
  iapply (leg_first m κ ι c 1 1 rows1 (Fin.ext (by exact e40)) (sem_rR 1 0 1 _) (sem_rS 1 0 1 _) (wpE_waitDma2_eq 𝒱₀ (c : Thread nD τ) none Set.univ) (wpE_waitDma2_eq 𝒱₀ (c : Thread nD τ) none Set.univ) (NH_ring 1 0 1 _) (NH_half _ (offs_half10 c 1) _) (sem_rS 1 1 1 _) (sem_rR 1 1 1 _) (by decide)) $$ [HO L11 N11 A11]
  · isplitr; · iexact HR
    isplitl [HO]; · iexact HO
    isplitl [L11]; · iexact L11
    isplitl [N11]; · iexact N11
    iexact A11
  iintro ⟨HO, L11, P11, Z11⟩
  ihave W := (st_ready (F := F) c 0 0) $$ [S00 S02]
  · isplitl [S00]; · iexact S00
    iexact S02
  iapply (norm_piece m κ ι c 0 0 0 0 (pos c + 7) rows1 g (S m (back 0 c 1)) (sem_st 0 _) (wpE_waitDma2_eq 𝒱₀ (c : Thread nD τ) none Set.univ) (NP_st 0 _) p7 rfl rfl (by decide) rfl (congrArg (S m) b1) (by omega)) $$ [HO P00 P01 W HG Y7]
  · isplitr; · iexact HR
    isplitl [HO]; · iexact HO
    isplitl [P00]; · iexact P00
    isplitl [P01]; · iexact P01
    isplitl [W]; · iexact W
    isplitl [HG]; · iexact HG
    iexact Y7
  iintro ⟨HO, P00, P01, S03, S02, HG, Y7⟩
  ihave W := (st_ready (F := F) c 1 0) $$ [S10 S12]
  · isplitl [S10]; · iexact S10
    iexact S12
  iapply (norm_piece m κ ι c 1 0 1 0 (pos c + 1) rows1 g (S m (back 1 c 1)) (sem_st 1 _) (wpE_waitDma2_eq 𝒱₀ (c : Thread nD τ) none Set.univ) (NP_st 1 _) p1 rfl rfl (by decide) rfl (congrArg (S m) b1') (by omega)) $$ [HO P10 P11 W HG Y1]
  · isplitr; · iexact HR
    isplitl [HO]; · iexact HO
    isplitl [P10]; · iexact P10
    isplitl [P11]; · iexact P11
    isplitl [W]; · iexact W
    isplitl [HG]; · iexact HG
    iexact Y1
  iintro ⟨HO, P10, P11, S13, S12, HG, Y1⟩
  ihave Y0 := (own_back c (f2 (row0 (pos c)) (S m c))) $$ [Y0 Z00 Z10 Z01 Z11]
  · isplitl [Y0]; · iexact Y0
    unfold ring4
    isplitl [Z00]; · iexact Z00
    isplitl [Z10]; · iexact Z10
    isplitl [Z01]; · iexact Z01
    iexact Z11
  ihave W := (st_ready (F := F) c 2 0) $$ [S20 S22]
  · isplitl [S20]; · iexact S20
    iexact S22
  iapply (norm_own m κ ι c 2 0 rows1 g (sem_st 2 _) (wpE_waitDma2_eq 𝒱₀ (c : Thread nD τ) none Set.univ) (NP_st 2 _) o13 pay31_eq rfl (by decide) rfl) $$ [HO Y0 W HG]
  · isplitr; · iexact HR
    isplitl [HO]; · iexact HO
    isplitl [Y0]; · iexact Y0
    isplitl [W]; · iexact W
    iexact HG
  iintro ⟨HO, S23, S22, HG, Y0⟩
  iapply (copy_res m κ ι c 3 0 _ f6 (sem_st 3 _) (Finset.mem_singleton_self 0) rfl) $$ [X4 S33 S30]
  · isplitr; · iexact HR
    isplitl [X4]; · iexact X4
    isplitl [S33]; · iexact S33
    isplitl [S30]; · iexact S30
    iapply (recs_reached m κ ι c (.st 3)); iexact HR
  iintro ⟨X4, S30⟩
  ihave S02 := (past_open (F := F) c (.st 0) 0) $$ S02
  icases S02 with ⟨S02, #E0⟩
  iapply (copy_res m κ ι c 0 1 _ f2' (sem_st 0 _) (Finset.mem_singleton_self 0) rfl) $$ [X4 S03 S01]
  · isplitr; · iexact HR
    isplitl [X4]; · iexact X4
    isplitl [S03]; · iexact S03
    isplitl [S01]; · iexact S01
    iexact E0
  iintro ⟨X4, S00⟩
  ihave G0 := (given_zero (F := F) c 0) $$ []
  · iempintro
  ihave HC0 := (cred_start (F := F) c 0) $$ HC0
  ihave G1 := (given_zero (F := F) c 1) $$ []
  · iempintro
  ihave HC1 := (cred_start (F := F) c 1) $$ HC1
  iapply (leg_second m κ ι c 0 0 (rowCr 1 0 1 :: rowR 1 0 0 2 :: rowCr 0 1 1 :: rowR 0 0 1 2 :: rowCr 1 1 1 :: rowR 1 0 1 2 :: rows2) (Fin.ext (by exact e41)) (Fin.ext (by exact e42)) (sem_rR 0 1 0 _) (sem_rS 0 1 0 _) (sem_cr 0) (sem_cr 0) (wpE_waitDma2_eq 𝒱₀ (c : Thread nD τ) none Set.univ) (wpE_waitDma2_eq 𝒱₀ (c : Thread nD τ) none Set.univ) (wpE_semWait_eq 𝒱₀ (c : Thread nD τ) none Set.univ) (NH_ring 0 1 0 _) (NH_ring 0 0 0 _) (sem_rS 0 0 0 _) (sem_rR 0 0 0 _) (by decide) (by decide)) $$ [HO L00 P00 G0 HC0]
  · isplitr; · iexact HR
    isplitl [HO]; · iexact HO
    isplitl [L00]; · iexact L00
    isplitl [P00]; · iexact P00
    isplitl [G0]; · iexact G0
    iexact HC0
  iintro ⟨HO, L00, P00, G0, HC0⟩
  iapply (leg_second m κ ι c 1 0 (rowCr 0 1 1 :: rowR 0 0 1 2 :: rowCr 1 1 1 :: rowR 1 0 1 2 :: rows2) (Fin.ext (by exact e43)) (Fin.ext (by exact e44)) (sem_rR 1 1 0 _) (sem_rS 1 1 0 _) (sem_cr 1) (sem_cr 1) (wpE_waitDma2_eq 𝒱₀ (c : Thread nD τ) none Set.univ) (wpE_waitDma2_eq 𝒱₀ (c : Thread nD τ) none Set.univ) (wpE_semWait_eq 𝒱₀ (c : Thread nD τ) none Set.univ) (NH_ring 1 1 0 _) (NH_ring 1 0 0 _) (sem_rS 1 0 0 _) (sem_rR 1 0 0 _) (by decide) (by decide)) $$ [HO L10 P10 G1 HC1]
  · isplitr; · iexact HR
    isplitl [HO]; · iexact HO
    isplitl [L10]; · iexact L10
    isplitl [P10]; · iexact P10
    isplitl [G1]; · iexact G1
    iexact HC1
  iintro ⟨HO, L10, P10, G1, HC1⟩
  iapply (leg_second m κ ι c 0 1 (rowCr 1 1 1 :: rowR 1 0 1 2 :: rows2) (Fin.ext (by exact e45)) (Fin.ext (by exact e46)) (sem_rR 0 1 1 _) (sem_rS 0 1 1 _) (sem_cr 0) (sem_cr 0) (wpE_waitDma2_eq 𝒱₀ (c : Thread nD τ) none Set.univ) (wpE_waitDma2_eq 𝒱₀ (c : Thread nD τ) none Set.univ) (wpE_semWait_eq 𝒱₀ (c : Thread nD τ) none Set.univ) (NH_ring 0 1 1 _) (NH_ring 0 0 1 _) (sem_rS 0 0 1 _) (sem_rR 0 0 1 _) (by decide) (by decide)) $$ [HO L01 P01 G0 HC0]
  · isplitr; · iexact HR
    isplitl [HO]; · iexact HO
    isplitl [L01]; · iexact L01
    isplitl [P01]; · iexact P01
    isplitl [G0]; · iexact G0
    iexact HC0
  iintro ⟨HO, L01, P01, G0, HC0⟩
  iapply (leg_second m κ ι c 1 1 rows2 (Fin.ext (by exact e47)) (Fin.ext (by exact e48)) (sem_rR 1 1 1 _) (sem_rS 1 1 1 _) (sem_cr 1) (sem_cr 1) (wpE_waitDma2_eq 𝒱₀ (c : Thread nD τ) none Set.univ) (wpE_waitDma2_eq 𝒱₀ (c : Thread nD τ) none Set.univ) (wpE_semWait_eq 𝒱₀ (c : Thread nD τ) none Set.univ) (NH_ring 1 1 1 _) (NH_ring 1 0 1 _) (sem_rS 1 0 1 _) (sem_rR 1 0 1 _) (by decide) (by decide)) $$ [HO L11 P11 G1 HC1]
  · isplitr; · iexact HR
    isplitl [HO]; · iexact HO
    isplitl [L11]; · iexact L11
    isplitl [P11]; · iexact P11
    isplitl [G1]; · iexact G1
    iexact HC1
  iintro ⟨HO, L11, P11, G1, HC1⟩
  ihave W := (st_ready (F := F) c 3 0) $$ [S30 S32]
  · isplitl [S30]; · iexact S30
    iexact S32
  iapply (norm_piece m κ ι c 0 1 3 0 (pos c + 6) rows2 g (S m (back 0 c 2)) (sem_st 3 _) (wpE_waitDma2_eq 𝒱₀ (c : Thread nD τ) none Set.univ) (NP_st 3 _) p6 rfl rfl (by decide) rfl (congrArg (S m) b2) (by omega)) $$ [HO P00 P01 W HG Y6]
  · isplitr; · iexact HR
    isplitl [HO]; · iexact HO
    isplitl [P00]; · iexact P00
    isplitl [P01]; · iexact P01
    isplitl [W]; · iexact W
    isplitl [HG]; · iexact HG
    iexact Y6
  iintro ⟨HO, P00, P01, S33, S32, HG, Y6⟩
  ihave W := (st_ready (F := F) c 0 1) $$ [S00 S02]
  · isplitl [S00]; · iexact S00
    iexact S02
  iapply (norm_piece m κ ι c 1 1 0 1 (pos c + 2) rows2 g (S m (back 1 c 2)) (sem_st 0 _) (wpE_waitDma2_eq 𝒱₀ (c : Thread nD τ) none Set.univ) (NP_st 0 _) p2 rfl rfl (by decide) rfl (congrArg (S m) b2') (by omega)) $$ [HO P10 P11 W HG Y2]
  · isplitr; · iexact HR
    isplitl [HO]; · iexact HO
    isplitl [P10]; · iexact P10
    isplitl [P11]; · iexact P11
    isplitl [W]; · iexact W
    isplitl [HG]; · iexact HG
    iexact Y2
  iintro ⟨HO, P10, P11, S03, S02, HG, Y2⟩
  ihave S12 := (past_open (F := F) c (.st 1) 0) $$ S12
  icases S12 with ⟨S12, #E1⟩
  iapply (copy_res m κ ι c 1 1 _ f5 (sem_st 1 _) (Finset.mem_singleton_self 0) rfl) $$ [X4 S13 S11]
  · isplitr; · iexact HR
    isplitl [X4]; · iexact X4
    isplitl [S13]; · iexact S13
    isplitl [S11]; · iexact S11
    iexact E1
  iintro ⟨X4, S10⟩
  ihave S22 := (past_open (F := F) c (.st 2) 0) $$ S22
  icases S22 with ⟨S22, #E2⟩
  iapply (copy_res m κ ι c 2 1 _ f3' (sem_st 2 _) (Finset.mem_singleton_self 0) rfl) $$ [X4 S23 S21]
  · isplitr; · iexact HR
    isplitl [X4]; · iexact X4
    isplitl [S23]; · iexact S23
    isplitl [S21]; · iexact S21
    iexact E2
  iintro ⟨X4, S20⟩
  iapply (leg_third m κ ι c 0 [rowCr 1 1 2, rowR 1 1 1 3] (Fin.ext (by exact e49)) (Fin.ext (by exact e50)) (sem_rR 0 0 0 _) (sem_rS 0 0 0 _) (sem_cr 0) (sem_cr 0) (wpE_waitDma2_eq 𝒱₀ (c : Thread nD τ) none Set.univ) (wpE_waitDma2_eq 𝒱₀ (c : Thread nD τ) none Set.univ) (wpE_semWait_eq 𝒱₀ (c : Thread nD τ) none Set.univ) (NH_ring 0 0 0 _) (NH_ring 0 1 0 _) (sem_rS 0 1 0 _) (sem_rR 0 1 0 _) (by decide) (by decide)) $$ [HO L00 LX0 P00 G0 HC0]
  · isplitr; · iexact HR
    isplitl [HO]; · iexact HO
    isplitl [L00]; · iexact L00
    isplitl [LX0]; · iexact LX0
    isplitl [P00]; · iexact P00
    isplitl [G0]; · iexact G0
    iexact HC0
  iintro ⟨HO, L00, P00, HC0⟩
  iapply (leg_stop m κ ι c 1 0 [rowCr 1 1 2, rowR 1 1 1 3] (by decide) (sem_rR 1 0 0 _) (sem_rS 1 0 0 _) (wpE_waitDma2_eq 𝒱₀ (c : Thread nD τ) none Set.univ) (wpE_waitDma2_eq 𝒱₀ (c : Thread nD τ) none Set.univ) (NH_ring 1 0 0 _) (NH_ring 1 1 0 _) (by decide)) $$ [HO L10 P10]
  · isplitr; · iexact HR
    isplitl [HO]; · iexact HO
    isplitl [L10]; · iexact L10
    iexact P10
  iintro ⟨HO, L10, K10, P10, Q10⟩
  iapply (leg_stop m κ ι c 0 1 [rowCr 1 1 2, rowR 1 1 1 3] (by decide) (sem_rR 0 0 1 _) (sem_rS 0 0 1 _) (wpE_waitDma2_eq 𝒱₀ (c : Thread nD τ) none Set.univ) (wpE_waitDma2_eq 𝒱₀ (c : Thread nD τ) none Set.univ) (NH_ring 0 0 1 _) (NH_ring 0 1 1 _) (by decide)) $$ [HO L01 P01]
  · isplitr; · iexact HR
    isplitl [HO]; · iexact HO
    isplitl [L01]; · iexact L01
    iexact P01
  iintro ⟨HO, L01, K01, P01, Q01⟩
  iapply (leg_third m κ ι c 1 [] (Fin.ext (by exact e51)) (Fin.ext (by exact e52)) (sem_rR 1 0 1 _) (sem_rS 1 0 1 _) (sem_cr 1) (sem_cr 1) (wpE_waitDma2_eq 𝒱₀ (c : Thread nD τ) none Set.univ) (wpE_waitDma2_eq 𝒱₀ (c : Thread nD τ) none Set.univ) (wpE_semWait_eq 𝒱₀ (c : Thread nD τ) none Set.univ) (NH_ring 1 0 1 _) (NH_ring 1 1 1 _) (sem_rS 1 1 1 _) (sem_rR 1 1 1 _) (by decide) (by decide)) $$ [HO L11 LX1 P11 G1 HC1]
  · isplitr; · iexact HR
    isplitl [HO]; · iexact HO
    isplitl [L11]; · iexact L11
    isplitl [LX1]; · iexact LX1
    isplitl [P11]; · iexact P11
    isplitl [G1]; · iexact G1
    iexact HC1
  iintro ⟨HO, L11, P11, HC1⟩
  ihave W := (st_ready (F := F) c 1 1) $$ [S10 S12]
  · isplitl [S10]; · iexact S10
    iexact S12
  iapply (norm_piece m κ ι c 0 0 1 1 (pos c + 5) [] g (S m (back 0 c 3)) (sem_st 1 _) (wpE_waitDma2_eq 𝒱₀ (c : Thread nD τ) none Set.univ) (NP_st 1 _) p5 rfl rfl (by decide) rfl (congrArg (S m) b3) (by omega)) $$ [HO P00 P01 W HG Y5]
  · isplitr; · iexact HR
    isplitl [HO]; · iexact HO
    isplitl [P00]; · iexact P00
    isplitl [P01]; · iexact P01
    isplitl [W]; · iexact W
    isplitl [HG]; · iexact HG
    iexact Y5
  iintro ⟨HO, P00, P01, S13, S12, HG, Y5⟩
  ihave W := (st_ready (F := F) c 2 1) $$ [S20 S22]
  · isplitl [S20]; · iexact S20
    iexact S22
  iapply (norm_piece m κ ι c 1 0 2 1 (pos c + 3) [] g (S m (back 1 c 3)) (sem_st 2 _) (wpE_waitDma2_eq 𝒱₀ (c : Thread nD τ) none Set.univ) (NP_st 2 _) p3 rfl rfl (by decide) rfl (congrArg (S m) b3') (by omega)) $$ [HO P10 P11 W HG Y3]
  · isplitr; · iexact HR
    isplitl [HO]; · iexact HO
    isplitl [P10]; · iexact P10
    isplitl [P11]; · iexact P11
    isplitl [W]; · iexact W
    isplitl [HG]; · iexact HG
    iexact Y3
  iintro ⟨HO, P10, P11, S23, S22, HG, Y3⟩
  ihave S32 := (past_open (F := F) c (.st 3) 0) $$ S32
  icases S32 with ⟨S32, #E3⟩
  iapply (copy_res m κ ι c 3 1 _ o34 (sem_st 3 _) (Finset.mem_singleton_self 0) rfl) $$ [X4 S33 S31]
  · isplitr; · iexact HR
    isplitl [X4]; · iexact X4
    isplitl [S33]; · iexact S33
    isplitl [S31]; · iexact S31
    iexact E3
  iintro ⟨X4, S30⟩
  iapply (leg_last m κ ι c 0 (sem_rR 0 1 0 _) (sem_rS 0 1 0 _) (wpE_waitDma2_eq 𝒱₀ (c : Thread nD τ) none Set.univ) (wpE_waitDma2_eq 𝒱₀ (c : Thread nD τ) none Set.univ) (NH_ring 0 1 0 _) (NH_ring 0 0 0 _)) $$ [HO L00 P00]
  · isplitr; · iexact HR
    isplitl [HO]; · iexact HO
    isplitl [L00]; · iexact L00
    iexact P00
  iintro ⟨HO, L00, P00, Q00⟩
  iapply (leg_last m κ ι c 1 (sem_rR 1 1 1 _) (sem_rS 1 1 1 _) (wpE_waitDma2_eq 𝒱₀ (c : Thread nD τ) none Set.univ) (wpE_waitDma2_eq 𝒱₀ (c : Thread nD τ) none Set.univ) (NH_ring 1 1 1 _) (NH_ring 1 0 1 _)) $$ [HO L11 P11]
  · isplitr; · iexact HR
    isplitl [HO]; · iexact HO
    isplitl [L11]; · iexact L11
    iexact P11
  iintro ⟨HO, L11, P11, Q11⟩
  ihave P00 := (Entails.of_eq (show ringP 0 c fullShare 1 (0 : Fin 2).val (S m (back 0 c 4)) = ringP 0 c fullShare 1 0 (S m (at_ ((pos c + 4) % 8) (zOf c))) from congrArg (fun e => ringP 0 c fullShare 1 0 (S m e)) b4)) $$ P00
  ihave P11 := (Entails.of_eq (show ringP 1 c fullShare 1 (1 : Fin 2).val (S m (back 1 c 4)) = ringP 1 c fullShare 1 1 (S m (at_ ((pos c + 4) % 8) (zOf c))) from congrArg (fun e => ringP 1 c fullShare 1 1 (S m e)) b4')) $$ P11
  iapply (load_half c 0 1 0 fullShare (S m (at_ ((pos c + 4) % 8) (zOf c)))) $$ P00
  iintro P00
  iapply (step_wait m κ ι c (.st 3) 1 0 0 [] (sem_st 3 _) (wpE_waitDma2_eq 𝒱₀ (c : Thread nD τ) none Set.univ) (NP_st 3 _) rfl rfl (by decide)) $$ [HO S30 S32]
  · isplitr; · iexact HR
    isplitl [HO]; · iexact HO
    isplitl [S30]; · iexact S30
    iexact S32
  iintro ⟨HO, S32, E, S33⟩
  ihave S33 := (Entails.of_eq (show payC m c (.st 3) 1 0 = stP c 3 (R m c (pos c + 4)) from rfl)) $$ S33
  iapply (norm_half m c 0 3 0 g rfl o16 rfl) $$ [S33 HG Y4]
  · isplitl [S33]; · iexact S33
    isplitl [HG]; · iexact HG
    iexact Y4
  iintro ⟨S33, HG, Y4⟩
  have hval := last_value m c g
  have ho : k0_off17 c = ![row0 (pos c + 4) + 128 * (1 : Fin 2).val, 0] := o17
  iapply (load_half c 1 1 1 fullShare (S m (at_ ((pos c + 4) % 8) (zOf c)))) $$ P11
  iintro P11
  iapply (load_st c 3 128 128 (R m c (pos c + 4))) $$ [S33]
  · iexact S33
  iintro S33
  iapply (load_gain c g) $$ [HG]
  · iexact HG
  iintro HG
  iapply (load_out c _ 128 ho) $$ [Y4']
  · iexact Y4'
  iintro %w Y4'
  iapply (store_out c _ 128 0 ho (O m c g) hval) $$ [Y4']
  · iexact Y4'
  iintro Y4'
  iapply (Entails.of_eq (wp_ret _ _ _ _ _).symm); imodintro
  ihave R01 := ((ringP_share 0 c 0 (1 : Fin 2).val (S m (back 0 c 3))).2.trans (ringP_any 0 c 0 1 (S m (back 0 c 3)))) $$ [K01 P01]
  · isplitl [K01]; · iexact K01
    iexact P01
  ihave R10 := ((ringP_share 1 c 0 (0 : Fin 2).val (S m (back 1 c 3))).2.trans (ringP_any 1 c 0 0 (S m (back 1 c 3)))) $$ [K10 P10]
  · isplitl [K10]; · iexact K10
    iexact P10
  ihave P00 := (ringP_any 0 c 1 0 (S m (at_ ((pos c + 4) % 8) (zOf c)))) $$ P00
  ihave P11 := (ringP_any 1 c 1 1 (S m (at_ ((pos c + 4) % 8) (zOf c)))) $$ P11
  ihave S33 := (stP_any c 3 (R m c (pos c + 4))) $$ S33
  ihave S02 := (shut_st c 0) $$ S02
  ihave S12 := (shut_st c 1) $$ S12
  ihave S22 := (shut_st c 2) $$ S22
  ihave S32 := (shut_st' c 3) $$ S32
  unfold bodyOut cellsShut bufsBack
  isplitl [HO]; · iexact HO
  isplitl [D3 D4 L00 L10 L01 L11 X1 S02 S12 S22 S32 B0 HC0 HC1]
  · isplitl [D3]; · iexact D3
    isplitl [D4]; · iexact D4
    isplitl [L00 L10 L01 L11]
    · unfold ring4
      isplitl [L00]; · iexact L00
      isplitl [L10]; · iexact L10
      isplitl [L01]; · iexact L01
      iexact L11
    isplitl [X1]; · iexact X1
    isplitl [S02 S12 S22 S32]
    · isplitl [S02]; · iexact S02
      isplitl [S12]; · iexact S12
      isplitl [S22]; · iexact S22
      iexact S32
    isplitl [B0]; · iexact B0
    isplitl [HC0]; · iexact HC0
    iexact HC1
  isplitl [D0 D1 D2 Q00 Q01 Q10 Q11 R01 R10 P00 P11 S03 S13 S23 S33]
  · isplitl [D0]; · iexact D0
    isplitl [D1 D2]
    · isplitl [D1]; · iexact D1
      iexact D2
    isplitl [Q00 Q01 Q10 Q11 R01 R10 P00 P11]
    · isplitl [Q00 R01 P00 Q01]
      · iapply (ring_all (F := F) c 0)
        isplitl [Q00 R01]
        · isplitl [Q00]; · iexact Q00
          iexact R01
        isplitl [P00]; · iexact P00
        iexact Q01
      iapply (ring_all (F := F) c 1)
      isplitl [R10 Q11]
      · isplitl [R10]; · iexact R10
        iexact Q11
      isplitl [Q10]; · iexact Q10
      iexact P11
    isplitl [S03]; · iexact S03
    isplitl [S13]; · iexact S13
    isplitl [S23]; · iexact S23
    iexact S33
  isplitl [X0 X4]
  · isplitl [X0]; · iexact X0
    iexact X4
  isplitl [HG]; · iexact HG
  iapply (out_end c fullShare (f2 0 (O m c g)))
  isplitl [Y0]; · iexact Y0
  isplitl [Y7]; · iexact Y7
  isplitl [Y1]; · iexact Y1
  isplitl [Y6]; · iexact Y6
  isplitl [Y2]; · iexact Y2
  isplitl [Y5]; · iexact Y5
  isplitl [Y3]; · iexact Y3
  isplitl [Y4]; · iexact Y4
  iexact Y4'

end Cert.Proto

end
-- ==== Proof.Deal.lean ====
module

public import proofs.«01_k».proof.Proof.Body
public import proofs.«01_k».proof.Proof.Gen.KernelIdeal.Launch
public import Idealize.ShloMosaic.Lib.Pipeline.BigSepL

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

/-! ## A family over the cells, by kind -/

abbrev CellSum : Type := (Fin 8 × Fin 2) ⊕ (Fin 8 × Fin 2) ⊕ (Fin 2 × Fin 2 × Fin 2) ⊕ (Fin 2 × Fin 2 × Fin 2) ⊕ Fin 1 ⊕ Fin 4 ⊕ Fin 1 ⊕ Fin 2

def cellOfSum : CellSum → Cell
  | .inl x => .aS x.1 x.2
  | .inr (.inl x) => .aR x.1 x.2
  | .inr (.inr (.inl x)) => .rS x.1 x.2.1 x.2.2
  | .inr (.inr (.inr (.inl x))) => .rR x.1 x.2.1 x.2.2
  | .inr (.inr (.inr (.inr (.inl _)))) => .loc
  | .inr (.inr (.inr (.inr (.inr (.inl i))))) => .st i
  | .inr (.inr (.inr (.inr (.inr (.inr (.inl _)))))) => .bar
  | .inr (.inr (.inr (.inr (.inr (.inr (.inr d)))))) => .cr d

def sumOfCell : Cell → CellSum
  | .aS s k => .inl (s, k)
  | .aR s k => .inr (.inl (s, k))
  | .rS d k j => .inr (.inr (.inl (d, k, j)))
  | .rR d k j => .inr (.inr (.inr (.inl (d, k, j))))
  | .loc => .inr (.inr (.inr (.inr (.inl 0))))
  | .st i => .inr (.inr (.inr (.inr (.inr (.inl i)))))
  | .bar => .inr (.inr (.inr (.inr (.inr (.inr (.inl 0))))))
  | .cr d => .inr (.inr (.inr (.inr (.inr (.inr (.inr d))))))

def cellSum : CellSum ≃ Cell where
  toFun := cellOfSum
  invFun := sumOfCell
  left_inv := by
    rintro (x | x | x | x | x | x | x | x)
    · rfl
    · rfl
    · rfl
    · rfl
    · exact congrArg (fun i : Fin 1 => (.inr (.inr (.inr (.inr (.inl i)))) : CellSum)) (Subsingleton.elim _ _)
    · rfl
    · exact congrArg (fun i : Fin 1 => (.inr (.inr (.inr (.inr (.inr (.inr (.inl i)))))) : CellSum)) (Subsingleton.elim _ _)
    · rfl
  right_inv := by intro cl; cases cl <;> rfl

omit [FloatOps F] in
theorem fin_one (Φ : Fin 1 → sProp 𝕄) : bigSep Finset.univ Φ = Φ 0 :=
  (bigSep_univ_eq_bigSepL [0] (by decide) (by decide) Φ).trans rfl
omit [FloatOps F] in
theorem fin_four (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
/-- The four halves in ring order, at both slots. -/
theorem fin_eight (Φ : Fin 2 × Fin 2 × Fin 2 → sProp 𝕄) :
    bigSep Finset.univ Φ = iprop(ring4 (fun d j => Φ (d, 0, j)) ∗ ring4 (fun d j => Φ (d, 1, j))) := by
  rw [bigSep_univ_eq_bigSepL [(0, 0, 0), (1, 0, 0), (0, 0, 1), (1, 0, 1), (0, 1, 0), (1, 1, 0), (0, 1, 1), (1, 1, 1)] (by decide) (by decide) Φ]
  unfold ring4
  have hL : (bigSepL [(0, 0, 0), (1, 0, 0), (0, 0, 1), (1, 0, 1), (0, 1, 0), (1, 1, 0), (0, 1, 1), (1, 1, 1)] Φ : sProp 𝕄)
      = iprop(Φ (0, 0, 0) ∗ Φ (1, 0, 0) ∗ Φ (0, 0, 1) ∗ Φ (1, 0, 1) ∗ Φ (0, 1, 0) ∗ Φ (1, 1, 0) ∗ Φ (0, 1, 1) ∗ Φ (1, 1, 1)) := rfl
  rw [hL]
  apply BI.Entails.antisymm
  · show (_ : sProp 𝕄) ⊢ _
    iintro ⟨H0, H1, H2, H3, H4, H5, H6, H7⟩; iframe
  · show (_ : sProp 𝕄) ⊢ _
    iintro ⟨⟨H0, H1, H2, H3⟩, H4, H5, H6, H7⟩; iframe

omit [FloatOps F] in
theorem by_kind (Φ : Cell → sProp 𝕄) :
    bigSep Finset.univ Φ = iprop((bigSep Finset.univ fun x : Fin 8 × Fin 2 => Φ (.aS x.1 x.2)) ∗ (bigSep Finset.univ fun x : Fin 8 × Fin 2 => Φ (.aR x.1 x.2))
      ∗ (ring4 (fun d j => Φ (.rS d 0 j)) ∗ ring4 (fun d j => Φ (.rS d 1 j))) ∗ (ring4 (fun d j => Φ (.rR d 0 j)) ∗ ring4 (fun d j => Φ (.rR d 1 j)))
      ∗ Φ .loc ∗ (Φ (.st 0) ∗ Φ (.st 1) ∗ Φ (.st 2) ∗ Φ (.st 3)) ∗ Φ .bar ∗ (Φ (.cr 0) ∗ Φ (.cr 1))) := by
  rw [bigSep_univ_equiv cellSum, bigSep_univ_sum, bigSep_univ_sum, bigSep_univ_sum, bigSep_univ_sum, bigSep_univ_sum, bigSep_univ_sum, bigSep_univ_sum,
    fin_eight, fin_eight, fin_one, fin_four, fin_one, bigSep_univ_two]
  rfl

/-! ## Whose cell a duty is of -/

def dirE (d : Dir) : Dev nD ≃ Dev nD := ⟨d.tgt, d.inv, d.inv_tgt, d.tgt_inv⟩

/-- The device at whose cell the duty lies that a device pays under this name. -/
def tgE : Cell → Fin 4 → Dev nD ≃ Dev nD
  | .aR _ k, t => if k = 0 then dirE .par else if t = 0 then dirE .opp else dirE .par
  | .rR d _ _, _ => dirE (.nx d)
  | .bar, t => if t = 0 then dirE .par else if t = 1 then dirE (.nx 1) else if t = 2 then dirE (.nx 0) else dirE .opp
  | .cr d, _ => dirE (.pv d)
  | _, _ => Equiv.refl _

variable (c : Dev nD)

/-- A duty the device pays. -/
def tk (cl : Cell) (r : ℕ) (t : Fin 4) : sProp 𝕄 := dutyTok ER (cellAt (tgE cl t c) cl) r t
/-- The duties it pays at cells of this name. -/
def tks (cl : Cell) : sProp 𝕄 := bigSep Finset.univ fun x : Fin 2 × Fin 4 => tk (F := F) c cl x.1.val x.2

omit [FloatOps F] in
theorem tks_eq (cl : Cell) : tks (F := F) c cl
    ⊢ iprop(tk c cl 0 0 ∗ tk c cl 0 1 ∗ tk c cl 0 2 ∗ tk c cl 0 3 ∗ tk c cl 1 0) := by
  unfold tks
  rw [bigSep_univ_eq_bigSepL [(0, 0), (0, 1), (0, 2), (0, 3), (1, 0), (1, 1), (1, 2), (1, 3)] (by decide) (by decide)]
  show iprop(tk c cl 0 0 ∗ tk c cl 0 1 ∗ tk c cl 0 2 ∗ tk c cl 0 3 ∗ tk c cl 1 0 ∗ _ ∗ _ ∗ _) ⊢ _
  iintro ⟨H0, H1, H2, H3, H4, -⟩; iframe

/-- A cell's place and the duties paid at it. -/
def own1 (cl : Cell) : sProp 𝕄 := iprop(atPos ER (cellAt c cl) 0 ∅ 0 ∗ tks (F := F) c cl)

/-- Every duty there is, as minted. -/
abbrev tokOf (x : Dev nD × Cell × Fin 2 × Fin 4) : GSem nD τ sig × ℕ × Fin 4 := (cellAt x.1 x.2.1, x.2.2.1.val, x.2.2.2)
theorem tokOf_inj : Function.Injective tokOf := by
  rintro ⟨c, cl, r, t⟩ ⟨c', cl', r', t'⟩ h
  obtain ⟨h1, h2⟩ := cellAt_inj (congrArg (fun x : GSem nD τ sig × ℕ × Fin 4 => x.1) h)
  have h3 : r = r' := Fin.ext (congrArg (fun x : GSem nD τ sig × ℕ × Fin 4 => x.2.1) h)
  have h4 : t = t' := congrArg (fun x : GSem nD τ sig × ℕ × Fin 4 => x.2.2) h
  subst h1 h2 h3 h4; rfl
theorem cell_inj : Function.Injective (fun x : Dev nD × Cell => cellAt x.1 x.2) := by
  rintro ⟨c, cl⟩ ⟨c', cl'⟩ h
  obtain ⟨h1, h2⟩ := cellAt_inj h
  subst h1 h2; rfl
def allCells : Finset (GSem nD τ sig) := Finset.univ.map ⟨fun x : Dev nD × Cell => cellAt x.1 x.2, cell_inj⟩
def allToks : Finset (GSem nD τ sig × ℕ × Fin 4) := Finset.univ.map ⟨tokOf, tokOf_inj⟩

/-- The duties dealt to those who pay them. -/
def dealE : (Dev nD × Cell × Fin 2 × Fin 4) ≃ (Dev nD × Cell × Fin 2 × Fin 4) where
  toFun x := (tgE x.2.1 x.2.2.2 x.1, x.2)
  invFun x := ((tgE x.2.1 x.2.2.2).symm x.1, x.2)
  left_inv x := by rcases x with ⟨c, y⟩; exact congrArg (fun c => (c, y)) ((tgE y.1 y.2.2).symm_apply_apply c)
  right_inv x := by rcases x with ⟨c, y⟩; exact congrArg (fun c => (c, y)) ((tgE y.1 y.2.2).apply_symm_apply c)

omit [FloatOps F] in
theorem deal_toks : bigSep allToks (fun x => (dutyTok ER x.1 x.2.1 x.2.2 : sProp 𝕄))
    = bigSep Finset.univ fun c : Dev nD => bigSep Finset.univ fun cl : Cell => tks (F := F) c cl := by
  unfold allToks
  rw [bigSep_map, bigSep_univ_equiv dealE, bigSep_univ_prod]
  exact bigSep_congr fun c _ => bigSep_univ_prod _
omit [FloatOps F] in
theorem by_cell (Φ : GSem nD τ sig → sProp 𝕄) : bigSep allCells Φ = bigSep Finset.univ fun c : Dev nD => bigSep Finset.univ fun cl : Cell => Φ (cellAt c cl) := by
  unfold allCells; rw [bigSep_map, bigSep_univ_prod]; rfl

/-! ## The units on their way to a device -/

/-- A payment, at the device that receives it. -/
def Row.payIn (c : Dev nD) (r : Row) : Pay nD τ sig := (cellAt c r.cell, r.idx, amtC r.cell)
/-- Whether it is made, by the receiver's place. -/
def Row.onIn (r : Row) (b : Bool) : Bool := match r.dir with
  | .par => r.on !b
  | _ => r.on b
def rowsIn (b : Bool) : List Row := rows₀.filter (·.onIn b)

theorem tally_filter (p : Row → Bool) (f : Row → Pay nD τ sig) (r : Row) (l : List Row) :
    tallyL (((r :: l).filter p).map f) = (if p r = true then (f r).tally else 0) + tallyL ((l.filter p).map f) := by
  by_cases h : p r = true
  · rw [List.filter_cons_of_pos h, if_pos h]; rfl
  · rw [List.filter_cons_of_neg h, if_neg h, zero_add]

theorem paid_received (l : List Row) :
    (∑ d : Dev nD, tallyL ((l.filter (·.on (isMid d))).map (Row.pay d)))
      = ∑ c : Dev nD, tallyL ((l.filter (fun r => r.on (isMid (r.dir.inv c)))).map (Row.payIn c)) := by
  induction l with
  | nil => rfl
  | cons r l ih =>
    simp only [tally_filter, Finset.sum_add_distrib]
    rw [ih]
    congr 1
    refine Fintype.sum_equiv (dirE r.dir) _ _ fun d => ?_
    show _ = if r.on (isMid (r.dir.inv (r.dir.tgt d))) = true then (Row.payIn (r.dir.tgt d) r).tally else 0
    rw [Dir.inv_tgt]; rfl

theorem rows_even : rows₀.all (fun r => match r.dir with | .nx _ => r.mid == r.edge | .pv _ => r.mid == r.edge | _ => true) = true := by decide

theorem onIn_eq (r : Row) (hr : r ∈ rows₀) : r.on (isMid (r.dir.inv c)) = r.onIn (isMid c) := by
  have h := List.all_eq_true.mp rows_even r hr
  rcases r with ⟨d, cl, i, a, b⟩
  cases d with
  | par => show Row.on _ (isMid (par c)) = _; rw [isMid_par]; rfl
  | opp => show Row.on _ (isMid (opp c)) = _; rw [isMid_opp]; rfl
  | nx d =>
    have h : a = b := eq_of_beq h
    subst h; show Row.on _ _ = Row.on _ _; unfold Row.on; simp
  | pv d =>
    have h : a = b := eq_of_beq h
    subst h; show Row.on _ _ = Row.on _ _; unfold Row.on; simp

/-- The units a device is owed at the start. -/
def credIn : sProp 𝕄 := bigSepL (rowsIn (isMid c)) fun r => cred (tallyAt (cellAt c r.cell) r.idx (amtC r.cell))

omit [FloatOps F] in
theorem creds : (Pipeline.launchCred (fun d => owesT d (rowsOf (isMid d))) c : sProp 𝕄) ⊢ credIn c := by
  rw [Pipeline.launchCred_of_sum _ (fun c => tallyL ((rowsIn (isMid c)).map (Row.payIn c))) ?_ ?_ c]
  · rw [cred_tallyL]
    unfold credIn
    exact Entails.of_eq (bigSepL_map ..)
  · refine (paid_received rows₀).trans (Finset.sum_congr rfl fun c _ => ?_)
    unfold rowsIn
    rw [List.filter_congr fun r hr => onIn_eq c r hr]
  · intro d g hg
    obtain ⟨u, hu⟩ := Finsupp.ne_iff.mp hg
    obtain ⟨x, hx, rfl, rfl⟩ := tallyL_pos (Nat.pos_of_ne_zero hu)
    obtain ⟨r, hr, rfl⟩ := List.mem_map.mp hx
    rfl

end Cert.Proto

end
-- ==== Proof.Enter.lean ====
module

public import proofs.«01_k».proof.Proof.Deal

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (c : Dev nD)

/-! ## The credits at the start, by use -/

def crc (d : Fin 2) (h : ℕ) (j : Fin 2) : sProp 𝕄 := cred (tallyAt (cellAt c (.cr d)) (Tring h j.val d.val + 1) 1)

/-- The credits of both rings. -/
def ringCr : sProp 𝕄 :=
  iprop(ring4 (fun d j => iprop(rcv (F := F) c d 0 j 0 ∗ rcv (F := F) c d 1 j 0 ∗ rcv (F := F) c d 0 j 1 ∗ crc (F := F) c d 1 j))
    ∗ (rcv (F := F) c 0 1 0 1 ∗ crc (F := F) c 0 2 0) ∗ (rcv (F := F) c 1 1 1 1 ∗ crc (F := F) c 1 2 1))

def inC (r : Row) : sProp 𝕄 := cred (tallyAt (cellAt c r.cell) r.idx (amtC r.cell))

omit [FloatOps F] in
theorem bar_three : iprop(inC (F := F) c ⟨.par, .bar, 1, true, true⟩ ∗ inC (F := F) c ⟨.nx 1, .bar, 1, true, true⟩ ∗ inC (F := F) c ⟨.nx 0, .bar, 1, true, true⟩)
    ⊢ (cred (tallyAt (cellAt c .bar) 1 3) : sProp 𝕄) := by
  rw [show (tallyAt (cellAt c .bar) 1 3 : CellTallies nD τ sig ℕ) = tallyAt (cellAt c .bar) 1 1 + (tallyAt (cellAt c .bar) 1 1 + tallyAt (cellAt c .bar) 1 1) from by
    rw [tallyAt_add, tallyAt_add]]
  refine BIBase.Entails.trans ?_ (cred_add _ _).2
  show iprop(cred (tallyAt (cellAt c .bar) 1 1) ∗ cred (tallyAt (cellAt c .bar) 1 1) ∗ cred (tallyAt (cellAt c .bar) 1 1)) ⊢ iprop(_ ∗ _)
  iintro ⟨H1, H2, H3⟩
  isplitl [H1]; · iexact H1
  iapply (cred_add _ _).2
  isplitl [H2]; · iexact H2
  iexact H3

def ringRows : List Row :=
  [rowR 0 0 0 0, rowR 1 0 0 0, rowR 0 0 1 0, rowR 1 0 1 0, rowR 0 1 0 1, rowR 1 1 0 1, rowR 0 1 1 1, rowR 1 1 1 1]
  ++ [rowCr 0 0 1, rowR 0 0 0 2, rowCr 1 0 1, rowR 1 0 0 2, rowCr 0 1 1, rowR 0 0 1 2, rowCr 1 1 1, rowR 1 0 1 2]
  ++ [rowCr 0 0 2, rowR 0 1 0 3, rowCr 1 1 2, rowR 1 1 1 3]

omit [FloatOps F] in
theorem ring_creds : (bigSepL ringRows (inC (F := F) c) : sProp 𝕄) ⊢ ringCr c := by
  have h : (bigSepL ringRows (inC (F := F) c) : sProp 𝕄) = iprop(rcv (F := F) c 0 0 0 0 ∗ rcv (F := F) c 1 0 0 0 ∗ rcv (F := F) c 0 0 1 0 ∗ rcv (F := F) c 1 0 1 0
      ∗ rcv (F := F) c 0 1 0 0 ∗ rcv (F := F) c 1 1 0 0 ∗ rcv (F := F) c 0 1 1 0 ∗ rcv (F := F) c 1 1 1 0
      ∗ crc (F := F) c 0 1 0 ∗ rcv (F := F) c 0 0 0 1 ∗ crc (F := F) c 1 1 0 ∗ rcv (F := F) c 1 0 0 1
      ∗ crc (F := F) c 0 1 1 ∗ rcv (F := F) c 0 0 1 1 ∗ crc (F := F) c 1 1 1 ∗ rcv (F := F) c 1 0 1 1
      ∗ crc (F := F) c 0 2 0 ∗ rcv (F := F) c 0 1 0 1 ∗ crc (F := F) c 1 2 1 ∗ rcv (F := F) c 1 1 1 1) := rfl
  rw [h]
  unfold ringCr ring4
  beta_reduce
  iintro ⟨H1, H2, H3, H4, H5, H6, H7, H8, H9, H10, H11, H12, H13, H14, H15, H16, H17, H18, H19, H20⟩
  isplitr [H17 H18 H19 H20]
  · isplitl [H1 H5 H10 H9]; · iframe
    isplitl [H2 H6 H12 H11]; · iframe
    isplitl [H3 H7 H14 H13]; · iframe
    iframe
  isplitl [H17 H18]; · iframe
  iframe

theorem rowsIn_mid : rowsIn true = [⟨.par, .bar, 1, true, true⟩, ⟨.nx 1, .bar, 1, true, true⟩, ⟨.nx 0, .bar, 1, true, true⟩]
    ++ ([⟨.opp, .bar, 1, true, false⟩] ++ (List.map rowRd [0, 1, 2, 3, 4, 5, 6, 7] ++ (List.map rowEx [0, 1, 2, 3, 4, 5, 6, 7] ++ ringRows))) := rfl
theorem rowsIn_edge : rowsIn false = [⟨.par, .bar, 1, true, true⟩, ⟨.nx 1, .bar, 1, true, true⟩, ⟨.nx 0, .bar, 1, true, true⟩]
    ++ (List.map rowFin [0, 1, 2, 3] ++ (ringRows.take 2 ++ (List.map rowFin [4, 5, 6, 7] ++ ringRows.drop 2))) := rfl

omit [FloatOps F] in
theorem eight (Φ : Fin 8 → sProp 𝕄) : bigSepL [0, 1, 2, 3, 4, 5, 6, 7] Φ = bigSep Finset.univ Φ :=
  (bigSep_univ_eq_bigSepL [0, 1, 2, 3, 4, 5, 6, 7] (by decide) (by decide) Φ).symm

/-- The credits at the start: the barrier's, the column's, the rings'. -/
theorem creds_deal : credIn (F := F) c ⊢ iprop((cred (tallyAt (cellAt c .bar) 1 3) ∗ (if isMid c = true then cred (tallyAt (cellAt c .bar) 1 1) else iprop(emp)))
    ∗ (bigSep Finset.univ fun s : Fin 8 => colCred (F := F) c s) ∗ ringCr (F := F) c) := by
  have hb : (bigSepL [⟨.par, .bar, 1, true, true⟩, ⟨.nx 1, .bar, 1, true, true⟩, ⟨.nx 0, .bar, 1, true, true⟩] (inC (F := F) c) : sProp 𝕄)
      ⊢ cred (tallyAt (cellAt c .bar) 1 3) := bar_three c
  rw [show credIn (F := F) c = bigSepL (rowsIn (isMid c)) (inC c) from rfl]
  cases hm : isMid c with
  | true =>
    rw [rowsIn_mid, bigSepL_append, bigSepL_append, bigSepL_append, bigSepL_append, bigSepL_map, bigSepL_map, eight, eight, if_pos rfl]
    have ho : (bigSepL [⟨.opp, .bar, 1, true, false⟩] (inC (F := F) c) : sProp 𝕄) ⊢ cred (tallyAt (cellAt c .bar) 1 1) := Entails.of_eq rfl
    have hc : iprop((bigSep Finset.univ fun s : Fin 8 => inC (F := F) c (rowRd s)) ∗ bigSep Finset.univ fun s : Fin 8 => inC (F := F) c (rowEx s))
        ⊢ bigSep Finset.univ fun s : Fin 8 => colCred (F := F) c s := by
      rw [← bigSep_sep']
      exact bigSep_mono fun s _ => show iprop(inC (F := F) c (rowRd s) ∗ inC (F := F) c (rowEx s)) ⊢ colCred (F := F) c s from Entails.of_eq (by unfold colCred; rw [if_pos hm]; rfl)
    iintro ⟨Hb, Ho, Hd, He, Hr⟩
    isplitl [Hb Ho]
    · isplitl [Hb]; · iapply hb; iexact Hb
      iapply ho; iexact Ho
    isplitl [Hd He]
    · iapply hc; isplitl [Hd]; · iexact Hd
      iexact He
    iapply (ring_creds c); iexact Hr
  | false =>
    rw [rowsIn_edge, bigSepL_append, bigSepL_append, bigSepL_append, bigSepL_append, if_neg Bool.false_ne_true]
    have hc : iprop(bigSepL (List.map rowFin [0, 1, 2, 3]) (inC (F := F) c) ∗ bigSepL (List.map rowFin [4, 5, 6, 7]) (inC (F := F) c))
        ⊢ bigSep Finset.univ fun s : Fin 8 => colCred (F := F) c s := by
      rw [← bigSepL_append, ← List.map_append, bigSepL_map]
      refine (Entails.of_eq (eight _)).trans ?_
      exact bigSep_mono fun s _ => show inC (F := F) c (rowFin s) ⊢ colCred (F := F) c s from Entails.of_eq (by unfold colCred; rw [if_neg (by rw [hm]; exact Bool.false_ne_true)]; rfl)
    have hr : iprop(bigSepL (ringRows.take 2) (inC (F := F) c) ∗ bigSepL (ringRows.drop 2) (inC (F := F) c)) ⊢ ringCr (F := F) c := by
      rw [← bigSepL_append, List.take_append_drop]; exact ring_creds c
    iintro ⟨Hb, H1, H2, H3, H4⟩
    isplitl [Hb]
    · isplitl [Hb]; · iapply hb; iexact Hb
      iempintro
    isplitl [H1 H3]
    · iapply hc; isplitl [H1]; · iexact H1
      iexact H3
    iapply hr; isplitl [H2]; · iexact H2
    iexact H4

/-! ## The tickets, by use -/

omit [FloatOps F] in
theorem tk_aS (s k r t) : tk (F := F) c (.aS s k) r t = dutyTok ER (cellAt c (.aS s k)) r t := rfl
omit [FloatOps F] in
theorem tk_aR0 (s r t) : tk (F := F) c (.aR s 0) r t = dutyTok ER (cellAt (par c) (.aR s 0)) r t := rfl
omit [FloatOps F] in
theorem tk_aR1 (s r) : tk (F := F) c (.aR s 1) r 0 = dutyTok ER (cellAt (opp c) (.aR s 1)) r 0 := rfl
omit [FloatOps F] in
theorem tk_aR1' (s r) : tk (F := F) c (.aR s 1) r 1 = dutyTok ER (cellAt (par c) (.aR s 1)) r 1 := rfl
omit [FloatOps F] in
theorem tk_rS (d k j r t) : tk (F := F) c (.rS d k j) r t = dutyTok ER (cellAt c (.rS d k j)) r t := rfl
omit [FloatOps F] in
theorem tk_rR (d k j r t) : tk (F := F) c (.rR d k j) r t = dutyTok ER (cellAt (nxt d c) (.rR d k j)) r t := rfl
omit [FloatOps F] in
theorem tk_st (i r t) : tk (F := F) c (.st i) r t = dutyTok ER (cellAt c (.st i)) r t := rfl
omit [FloatOps F] in
theorem tk_loc (r t) : tk (F := F) c .loc r t = dutyTok ER (cellAt c .loc) r t := rfl
omit [FloatOps F] in
theorem tks_bar : tks (F := F) c .bar ⊢ iprop(dutyTok ER (cellAt (par c) .bar) 0 0 ∗ dutyTok ER (cellAt (nxt 1 c) .bar) 0 1
    ∗ dutyTok ER (cellAt (nxt 0 c) .bar) 0 2 ∗ dutyTok ER (cellAt (opp c) .bar) 0 3 ∗ tk (F := F) c .bar 1 0) := tks_eq c .bar
omit [FloatOps F] in
theorem tks_cr (d : Fin 2) : tks (F := F) c (.cr d) ⊢ iprop(dutyTok ER (cellAt (prv d c) (.cr d)) 0 (0 : Fin 3).castSucc
    ∗ dutyTok ER (cellAt (prv d c) (.cr d)) 0 (1 : Fin 3).castSucc ∗ dutyTok ER (cellAt (prv d c) (.cr d)) 0 (2 : Fin 3).castSucc
    ∗ tk (F := F) c (.cr d) 0 3 ∗ tk (F := F) c (.cr d) 1 0) := tks_eq c (.cr d)

theorem col_deal (s : Fin 8) :
    iprop((own1 (F := F) c (.aS s 0) ∗ own1 (F := F) c (.aS s 1)) ∗ (own1 (F := F) c (.aR s 0) ∗ own1 (F := F) c (.aR s 1)) ∗ colCred (F := F) c s) ⊢ colL (F := F) c s := by
  unfold own1
  iintro ⟨⟨⟨Pa, Ta⟩, Pb, Tb⟩, ⟨⟨Pc, Tc⟩, Pd, Td⟩, HC⟩
  have hTa := tks_eq (F := F) c (.aS s 0)
  simp only [tk_aS, tk_aR0, tk_aR1, tk_aR1', tk_rS, tk_rR, tk_st] at hTa
  ihave Ta := hTa $$ Ta
  have hTb := tks_eq (F := F) c (.aS s 1)
  simp only [tk_aS, tk_aR0, tk_aR1, tk_aR1', tk_rS, tk_rR, tk_st] at hTb
  ihave Tb := hTb $$ Tb
  have hTc := tks_eq (F := F) c (.aR s 0)
  simp only [tk_aS, tk_aR0, tk_aR1, tk_aR1', tk_rS, tk_rR, tk_st] at hTc
  ihave Tc := hTc $$ Tc
  have hTd := tks_eq (F := F) c (.aR s 1)
  simp only [tk_aS, tk_aR0, tk_aR1, tk_aR1', tk_rS, tk_rR, tk_st] at hTd
  ihave Td := hTd $$ Td
  icases Ta with ⟨A0, -⟩
  icases Tb with ⟨B0, -, -, -, B1⟩
  icases Tc with ⟨C0, -⟩
  icases Td with ⟨D0, D1, -⟩
  unfold colL
  isplitl [A0]; · iexact A0
  isplitl [B0]; · iexact B0
  isplitl [B1]; · iexact B1
  isplitl [C0]; · iexact C0
  isplitl [D0]; · iexact D0
  isplitl [D1]; · iexact D1
  iframe

theorem leg_deal (d j : Fin 2) :
    iprop(own1 (F := F) c (.rS d 0 j) ∗ own1 (F := F) c (.rS d 1 j) ∗ own1 (F := F) c (.rR d 0 j) ∗ own1 (F := F) c (.rR d 1 j)
        ∗ (rcv (F := F) c d 0 j 0 ∗ rcv (F := F) c d 1 j 0 ∗ rcv (F := F) c d 0 j 1) ∗ credW (F := F) c d (legL.keyOf j) (Tring 1 j.val d.val + 1))
      ⊢ iprop(tok0 (F := F) c d j ∗ legL (F := F) c d j ∗ fwd (F := F) c d 1 j 1) := by
  unfold own1
  iintro ⟨⟨Pa, Ta⟩, ⟨Pb, Tb⟩, ⟨Pc, Tc⟩, ⟨Pd, Td⟩, ⟨H1, H2, H3⟩, HC⟩
  have hTa := tks_eq (F := F) c (.rS d 0 j)
  simp only [tk_aS, tk_aR0, tk_aR1, tk_aR1', tk_rS, tk_rR, tk_st] at hTa
  ihave Ta := hTa $$ Ta
  have hTb := tks_eq (F := F) c (.rS d 1 j)
  simp only [tk_aS, tk_aR0, tk_aR1, tk_aR1', tk_rS, tk_rR, tk_st] at hTb
  ihave Tb := hTb $$ Tb
  have hTc := tks_eq (F := F) c (.rR d 0 j)
  simp only [tk_aS, tk_aR0, tk_aR1, tk_aR1', tk_rS, tk_rR, tk_st] at hTc
  ihave Tc := hTc $$ Tc
  have hTd := tks_eq (F := F) c (.rR d 1 j)
  simp only [tk_aS, tk_aR0, tk_aR1, tk_aR1', tk_rS, tk_rR, tk_st] at hTd
  ihave Td := hTd $$ Td
  icases Ta with ⟨A0, -, -, -, A1⟩
  icases Tb with ⟨B0, -, -, -, B1⟩
  icases Tc with ⟨C0, -, -, -, C1⟩
  icases Td with ⟨D0, -, -, -, D1⟩
  isplitl [A0 C0]
  · unfold tok0; isplitl [A0]; · iexact A0
    iexact C0
  isplitr [B1 D1]
  · unfold legL
    isplitl [H1]; · iexact H1
    isplitl [Pc]; · unfold atR; iexact Pc
    isplitl [Pa]; · unfold atS; iexact Pa
    isplitl [B0 D0]
    · unfold fwd; isplitl [B0]; · iexact B0
      iexact D0
    isplitl [Pd]; · unfold atR; iexact Pd
    isplitl [Pb]; · unfold atS; iexact Pb
    isplitl [H2]; · iexact H2
    isplitl [HC]; · iexact HC
    isplitl [A1 C1]
    · unfold fwd; isplitl [A1]; · iexact A1
      iexact C1
    iexact H3
  unfold fwd; isplitl [B1]; · iexact B1
  iexact D1

/-- The counts of the own ring places, and the rights to fill the neighbour's. -/
def slotL (d : Fin 2) (n : Fin 3) : sProp 𝕄 := iprop(Release.readerAt ES (c, d, n) 0 ∗ Release.writeTok ES (nxt d c, d, n) 1)

theorem cr_deal (d : Fin 2) :
    iprop(own1 (F := F) c (.cr d) ∗ (slotL (F := F) c d 0 ∗ slotL (F := F) c d 1 ∗ slotL (F := F) c d 2)
        ∗ crc (F := F) c d 1 0 ∗ crc (F := F) c d 1 1 ∗ crc (F := F) c d 2 d)
      ⊢ iprop(atPos ER (cellAt c (.cr d)) 0 ∅ 0 ∗ credW (F := F) c d 0 (Tring 1 (0 : Fin 2).val d.val + 1)
        ∗ credW (F := F) c d 1 (Tring 1 (1 : Fin 2).val d.val + 1) ∗ credW (F := F) c d 2 (Tring 2 d.val d.val + 1)) := by
  unfold own1 slotL crc
  iintro ⟨⟨HP, HT⟩, ⟨⟨R0, W0⟩, ⟨R1, W1⟩, R2, W2⟩, C0, C1, C2⟩
  ihave HT := (tks_cr c d) $$ HT
  icases HT with ⟨T0, T1, T2, -⟩
  isplitl [HP]; · iexact HP
  unfold credW
  isplitl [R0 W0 C0 T0]
  · isplitl [R0]; · iexact R0
    isplitl [T0]; · iexact T0
    isplitl [C0]; · iexact C0
    iexact W0
  isplitl [R1 W1 C1 T1]
  · isplitl [R1]; · iexact R1
    isplitl [T1]; · iexact T1
    isplitl [C1]; · iexact C1
    iexact W1
  isplitl [R2]; · iexact R2
  isplitl [T2]; · iexact T2
  isplitl [C2]; · iexact C2
  iexact W2

theorem st_deal (i : Fin 4) : iprop(own1 (F := F) c (.st i) ∗ stAny (F := F) c i.val) ⊢ stL (F := F) c i := by
  unfold own1
  iintro ⟨⟨HP, HT⟩, HA⟩
  have hHT := tks_eq (F := F) c (.st i)
  simp only [tk_aS, tk_aR0, tk_aR1, tk_aR1', tk_rS, tk_rR, tk_st] at hHT
  ihave HT := hHT $$ HT
  icases HT with ⟨T0, -, -, -, T1⟩
  unfold stL
  isplitl [T0]; · iexact T0
  isplitl [T1]; · iexact T1
  iframe

theorem tell_deal :
    iprop(own1 (F := F) c .bar ∗ (cred (tallyAt (cellAt c .bar) 1 3) ∗ (if isMid c = true then cred (tallyAt (cellAt c .bar) 1 1) else iprop(emp)))
        ∗ (commAll (F := F) c 0 ∗ commAll (F := F) c 1) ∗ ringAll (F := F) 0 c ∗ ringAll (F := F) 1 c)
      ⊢ iprop(tellL (F := F) c ∗ commKeep (F := F) c) := by
  unfold own1 tellL oppTell commKeep
  iintro ⟨⟨HP, HT⟩, ⟨H3, H1⟩, ⟨K0, K1⟩, R0, R1⟩
  ihave HT := (tks_bar c) $$ HT
  icases HT with ⟨T0, T1, T2, T3, -⟩
  by_cases h : isMid c = true
  · simp only [if_pos h]
    isplitl
    · isplitl [T0]; · iexact T0
      isplitl [K0]; · iexact K0
      isplitl [T1]; · iexact T1
      isplitl [R0]; · iexact R0
      isplitl [T2]; · iexact T2
      isplitl [R1]; · iexact R1
      isplitl [T3 K1 H1]
      · isplitl [T3]; · iexact T3
        isplitl [K1]; · iexact K1
        iexact H1
      isplitl [HP]; · iexact HP
      iexact H3
    iempintro
  · simp only [if_neg h]
    isplitr [K0]
    · isplitl [T0]; · iexact T0
      isplitl [K1]; · iexact K1
      isplitl [T1]; · iexact T1
      isplitl [R0]; · iexact R0
      isplitl [T2]; · iexact T2
      isplitl [R1]; · iexact R1
      isplitr; · iempintro
      isplitl [HP]; · iexact HP
      iexact H3
    iexact K0

theorem cols_deal :
    iprop((bigSep Finset.univ fun x : Fin 8 × Fin 2 => own1 (F := F) c (.aS x.1 x.2)) ∗ (bigSep Finset.univ fun x : Fin 8 × Fin 2 => own1 (F := F) c (.aR x.1 x.2))
        ∗ bigSep Finset.univ fun s : Fin 8 => colCred (F := F) c s) ⊢ bigSep Finset.univ fun s : Fin 8 => colL (F := F) c s := by
  rw [bigSep_univ_prod, bigSep_univ_prod, ← bigSep_sep', ← bigSep_sep']
  refine bigSep_mono fun s _ => ?_
  rw [bigSep_univ_two, bigSep_univ_two]
  exact col_deal c s

theorem legs_deal :
    iprop((ring4 (fun d j => own1 (F := F) c (.rS d 0 j)) ∗ ring4 (fun d j => own1 (F := F) c (.rS d 1 j)))
        ∗ (ring4 (fun d j => own1 (F := F) c (.rR d 0 j)) ∗ ring4 (fun d j => own1 (F := F) c (.rR d 1 j)))
        ∗ (own1 (F := F) c (.cr 0) ∗ own1 (F := F) c (.cr 1))
        ∗ ((slotL (F := F) c 0 0 ∗ slotL (F := F) c 0 1 ∗ slotL (F := F) c 0 2) ∗ (slotL (F := F) c 1 0 ∗ slotL (F := F) c 1 1 ∗ slotL (F := F) c 1 2))
        ∗ ringCr (F := F) c)
      ⊢ iprop(ring4 (tok0 (F := F) c) ∗ ring4 (legL (F := F) c) ∗ (legX (F := F) c 0 ∗ legX (F := F) c 1)
        ∗ atPos ER (cellAt c (.cr 0)) 0 ∅ 0 ∗ atPos ER (cellAt c (.cr 1)) 0 ∅ 0) := by
  unfold ring4 ringCr ring4
  beta_reduce
  iintro ⟨⟨⟨A00, A10, A01, A11⟩, B00, B10, B01, B11⟩, ⟨⟨C00, C10, C01, C11⟩, D00, D10, D01, D11⟩, ⟨K0, K1⟩, ⟨S0, S1⟩,
    ⟨⟨P00, Q00, R00, Y00⟩, ⟨P10, Q10, R10, Y10⟩, ⟨P01, Q01, R01, Y01⟩, P11, Q11, R11, Y11⟩, ⟨X0, Z0⟩, X1, Z1⟩
  ihave K0 := (cr_deal c 0) $$ [K0 S0 Y00 Y01 Z0]
  · isplitl [K0]; · iexact K0
    isplitl [S0]; · iexact S0
    isplitl [Y00]; · iexact Y00
    isplitl [Y01]; · iexact Y01
    iexact Z0
  ihave K1 := (cr_deal c 1) $$ [K1 S1 Y10 Y11 Z1]
  · isplitl [K1]; · iexact K1
    isplitl [S1]; · iexact S1
    isplitl [Y10]; · iexact Y10
    isplitl [Y11]; · iexact Y11
    iexact Z1
  icases K0 with ⟨N0, U00, U01, V0⟩
  icases K1 with ⟨N1, U10, U11, V1⟩
  ihave L00 := (leg_deal c 0 0) $$ [A00 B00 C00 D00 P00 Q00 R00 U00]
  · isplitl [A00]; · iexact A00
    isplitl [B00]; · iexact B00
    isplitl [C00]; · iexact C00
    isplitl [D00]; · iexact D00
    isplitl [P00 Q00 R00]; · iframe
    iexact U00
  ihave L10 := (leg_deal c 1 0) $$ [A10 B10 C10 D10 P10 Q10 R10 U10]
  · isplitl [A10]; · iexact A10
    isplitl [B10]; · iexact B10
    isplitl [C10]; · iexact C10
    isplitl [D10]; · iexact D10
    isplitl [P10 Q10 R10]; · iframe
    iexact U10
  ihave L01 := (leg_deal c 0 1) $$ [A01 B01 C01 D01 P01 Q01 R01 U01]
  · isplitl [A01]; · iexact A01
    isplitl [B01]; · iexact B01
    isplitl [C01]; · iexact C01
    isplitl [D01]; · iexact D01
    isplitl [P01 Q01 R01]; · iframe
    iexact U01
  ihave L11 := (leg_deal c 1 1) $$ [A11 B11 C11 D11 P11 Q11 R11 U11]
  · isplitl [A11]; · iexact A11
    isplitl [B11]; · iexact B11
    isplitl [C11]; · iexact C11
    isplitl [D11]; · iexact D11
    isplitl [P11 Q11 R11]; · iframe
    iexact U11
  icases L00 with ⟨T00, L00, F00⟩
  icases L10 with ⟨T10, L10, -⟩
  icases L01 with ⟨T01, L01, -⟩
  icases L11 with ⟨T11, L11, F11⟩
  isplitl [T00 T10 T01 T11]; · iframe
  isplitl [L00 L10 L01 L11]; · iframe
  unfold legX
  isplitr [N0 N1]
  · isplitl [V0 F00 X0]
    · isplitl [V0]; · iexact V0
      isplitl [F00]; · iexact F00
      iexact X0
    isplitl [V1]; · iexact V1
    isplitl [F11]; · iexact F11
    iexact X1
  iframe

/-- Everything a device is given at the launch, put together. -/
def launched (g : S2048.Idx → El F) : sProp 𝕄 :=
  iprop(owesL c (rowsOf (isMid c)) ∗ (bigSep Finset.univ fun cl : Cell => own1 (F := F) c cl)
    ∗ ((slotL (F := F) c 0 0 ∗ slotL (F := F) c 0 1 ∗ slotL (F := F) c 0 2) ∗ (slotL (F := F) c 1 0 ∗ slotL (F := F) c 1 1 ∗ slotL (F := F) c 1 2))
    ∗ credIn (F := F) c ∗ (hbm m c main_arg0 ∗ hbm m c main_arg1)
    ∗ (anyOn (F := F) (bufL c cc0_scratch0) Finset.univ ∗ anyOn (F := F) (bufL c cc0_scratch1) Finset.univ ∗ anyOn (F := F) (bufL c (ringB' 0)) Finset.univ
      ∗ anyOn (F := F) (bufL c (ringB' 1)) Finset.univ ∗ anyOn (F := F) (bufL c cc0_scratch4) Finset.univ)
    ∗ gain c g ∗ anyOn (F := F) (bufL c cc0_stg1_0) Finset.univ)

theorem enter (g : S2048.Idx → El F) : launched m c g ⊢ bodyIn m c g := by
  unfold launched bodyIn
  rw [by_kind]
  iintro ⟨HO, ⟨Ka, Kb, Ks, Kr, Kl, ⟨K0, K1, K2, K3⟩, Kbar, Kcr⟩, HS, HC, ⟨Hx, Hr⟩, ⟨M0, M1, M2, M3, M4⟩, HG, HT⟩
  ihave HC := (creds_deal c) $$ HC
  icases HC with ⟨Cb, Cc, Cr⟩
  ihave M1 := (comm_parts c) $$ M1
  ihave M2 := (ring_parts 0 c) $$ M2
  ihave M3 := (ring_parts 1 c) $$ M3
  ihave M4 := ((st_parts c).trans (Entails.of_eq (fin_four _))) $$ M4
  icases M4 with ⟨Z0, Z1, Z2, Z3⟩
  ihave Hb := (tell_deal c) $$ [Kbar Cb M1 M2 M3]
  · isplitl [Kbar]; · iexact Kbar
    isplitl [Cb]; · iexact Cb
    isplitl [M1]; · iexact M1
    isplitl [M2]; · iexact M2
    iexact M3
  icases Hb with ⟨Hb, Hk⟩
  ihave Hc := (cols_deal c) $$ [Ka Kb Cc]
  · isplitl [Ka]; · iexact Ka
    isplitl [Kb]; · iexact Kb
    iexact Cc
  ihave Hl := (legs_deal c) $$ [Ks Kr Kcr HS Cr]
  · isplitl [Ks]; · iexact Ks
    isplitl [Kr]; · iexact Kr
    isplitl [Kcr]; · iexact Kcr
    isplitl [HS]; · iexact HS
    iexact Cr
  icases Hl with ⟨Ht, HL, HX, Hc0, Hc1⟩
  ihave Kl := (Entails.of_eq (show own1 (F := F) c .loc = iprop(atPos ER (cellAt c .loc) 0 ∅ 0 ∗ tks (F := F) c .loc) from rfl)) $$ Kl
  icases Kl with ⟨Pl, Tl⟩
  have hl := tks_eq (F := F) c .loc
  simp only [tk_loc] at hl
  ihave Tl := hl $$ Tl
  icases Tl with ⟨Tl, -⟩
  isplitl [HO]; · iexact HO
  isplitl [Hb]; · iexact Hb
  isplitl [Hx M0 Tl Pl]; · iframe
  isplitl [Hr]; · iexact Hr
  isplitl [K0 K1 K2 K3 Z0 Z1 Z2 Z3]
  · isplitl [K0 Z0]
    · iapply (st_deal c 0); isplitl [K0]; · iexact K0
      iexact Z0
    isplitl [K1 Z1]
    · iapply (st_deal c 1); isplitl [K1]; · iexact K1
      iexact Z1
    isplitl [K2 Z2]
    · iapply (st_deal c 2); isplitl [K2]; · iexact K2
      iexact Z2
    iapply (st_deal c 3); isplitl [K3]; · iexact K3
    iexact Z3
  isplitl [Hc Hk Ht]
  · isplitl [Hc]; · iexact Hc
    isplitl [Hk]; · iexact Hk
    iexact Ht
  isplitl [HL HX Hc0 Hc1]
  · isplitl [HL]; · iexact HL
    isplitl [HX]; · iexact HX
    isplitl [Hc0]; · iexact Hc0
    iexact Hc1
  isplitl [HG]; · iexact HG
  unfold outAny
  have e : (anyOn (F := F) (bufL c cc0_stg1_0) Finset.univ : sProp 𝕄) ⊢ anyOn (F := F) (bufL c cc0_stg1_0) (rows 0 2048 : Finset S2048x2048.Idx) :=
    Entails.of_eq (congrArg (anyOn (F := F) (bufL c cc0_stg1_0)) (rows_all (n := 2048) (k := 2048)).symm)
  iapply e; iexact HT

end Cert.Proto

end
-- ==== Proof.Exit.lean ====
module

public import proofs.«01_k».proof.Proof.Enter

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

variable (κ : Dev nD × Cell → ℕ) (ι : Key → ℕ)
variable (c : Dev nD)

/-! ## What a device hands back at the end -/

/-- A cell past its last duty is closed, its counter at zero. -/
theorem shut_zero (cl : Cell) : iprop(recs m κ ι ∗ shut (F := F) c cl) ⊢ |={Set.univ}=> semVal (cellAt c cl) 0 := by
  unfold shut
  iintro ⟨#HR, ⟨%r, %hr, H⟩⟩
  iapply (Rounds.cell_close ER (Rd m) (κ := κ (c, cl)) (Set.mem_univ _) (fun h => h) (R := r) fun r' h => by rw [duties_at]; exact hr r' h)
  isplitr
  · ihave H := (recs_inv m κ ι c cl) $$ HR; iexact H
  · iexact H

/-- All the cells of a device, by kind. -/
theorem cells_shut : cellsShut (F := F) c ⊢ bigSep Finset.univ fun cl : Cell => shut (F := F) c cl := by
  rw [by_kind]
  unfold cellsShut ring4 legShut
  iintro ⟨Ha, Hb, ⟨⟨R00, S00, R10, S10⟩, ⟨R01, S01, R11, S11⟩, ⟨R02, S02, R12, S12⟩, ⟨R03, S03, R13, S13⟩⟩, Hl, Hs, Hbar, Hc⟩
  isplitl [Ha]; · iexact Ha
  isplitl [Hb]; · iexact Hb
  isplitl [S00 S01 S02 S03 S10 S11 S12 S13]
  · isplitl [S00 S01 S02 S03]
    · iframe
    iframe
  isplitl [R00 R01 R02 R03 R10 R11 R12 R13]
  · isplitl [R00 R01 R02 R03]
    · iframe
    iframe
  isplitl [Hl]; · iexact Hl
  isplitl [Hs]; · iexact Hs
  isplitl [Hbar]; · iexact Hbar
  iexact Hc

/-- Every counter of a device at zero. -/
theorem cells_zero : iprop(recs m κ ι ∗ cellsShut (F := F) c) ⊢ |={Set.univ}=> bigSep Finset.univ fun cl : Cell => semVal (cellAt c cl) 0 := by
  have h : iprop(recs m κ ι ∗ bigSep Finset.univ fun cl : Cell => shut (F := F) c cl)
      ⊢ bigSep Finset.univ fun cl : Cell => iprop(|={Set.univ}=> semVal (cellAt c cl) 0) :=
    (sep_mono_left (BI.bigSep_of_persistent Finset.univ (recs m κ ι))).trans (by rw [← bigSep_sep']; exact bigSep_mono fun cl _ => shut_zero m κ ι c cl)
  exact ((sep_mono_right (cells_shut c)).trans h).trans (bigSep_fupd _ _)

/-- The scratch buffers, each whole. -/
def scratch : sProp 𝕄 :=
  iprop(anyOn (F := F) (bufL c cc0_scratch0) Finset.univ ∗ anyOn (F := F) (bufL c cc0_scratch1) Finset.univ ∗ anyOn (F := F) (bufL c (ringB' 0)) Finset.univ
      ∗ anyOn (F := F) (bufL c (ringB' 1)) Finset.univ ∗ anyOn (F := F) (bufL c cc0_scratch4) Finset.univ)

theorem acc_glue (f₀ : Buf (Elt F) (bufL c cc0_scratch0)) :
    (bigSep Finset.univ fun s : Fin 8 => accAny (F := F) c s.val) ⊢ (anyOn (F := F) (bufL c cc0_scratch0) Finset.univ : sProp 𝕄) := by
  have hp : (Finset.univ : Finset S256x2048.Idx) = (Finset.univ : Finset (Fin 8)).biUnion fun s => rows (0 + 32 * s.val) 32 :=
    rows_all.symm.trans (rows_parts 0 32 8)
  rw [show (Finset.univ : Finset (Idx (bufL c cc0_scratch0))) = _ from hp]
  refine BIBase.Entails.trans (bigSep_mono fun s _ => show accAny (F := F) c s.val ⊢ anyOn (F := F) (bufL c cc0_scratch0) (rows (0 + 32 * s.val) 32 : Finset S256x2048.Idx) from ?_)
    (anyOn_glue f₀ _ _ fun x _ y _ h => rows_disjoint 0 32 x y h)
  unfold accAny accP anyOn
  rw [Nat.zero_add]
  iintro ⟨%V, H⟩
  iexists _; iexact H

include m in
theorem bufs_glue : bufsBack (F := F) c ⊢ scratch (F := F) c := by
  unfold bufsBack scratch
  iintro ⟨Ha, Hc, ⟨H0, H1⟩, S0, S1, S2, S3⟩
  isplitl [Ha]; · iapply (acc_glue c (m (bufL c cc0_scratch0))); iexact Ha
  isplitl [Hc]; · iapply (comm_glue c (m (bufL c cc0_scratch1))); iexact Hc
  isplitl [H0]; · iapply (ring_glue 0 c (m (bufL c (ringB' 0)))); iexact H0
  isplitl [H1]; · iapply (ring_glue 1 c (m (bufL c (ringB' 1)))); iexact H1
  have h : iprop(stAny (F := F) c 0 ∗ stAny c 1 ∗ stAny c 2 ∗ stAny c 3) ⊢ bigSep Finset.univ fun i : Fin 4 => stAny (F := F) c i.val :=
    Entails.of_eq (fin_four (fun i : Fin 4 => stAny (F := F) c i.val)).symm
  iapply (h.trans (st_glue c (m (bufL c cc0_scratch4))))
  iframe

/-- A device's end, whole. -/
theorem leave (g : S2048.Idx → El F) : iprop(recs m κ ι ∗ bodyOut m c g)
    ⊢ |={Set.univ}=> iprop(owesL c [] ∗ (bigSep Finset.univ fun cl : Cell => semVal (cellAt c cl) 0) ∗ scratch (F := F) c ∗ gain c g
        ∗ (bufL c cc0_stg1_0 ↦{fullShare} (f2 0 (O m c g) : S2048x2048.Idx → El F))) := by
  unfold bodyOut
  iintro ⟨#HR, HO, HC, HB, -, HG, HP⟩
  imod (cells_zero m κ ι c) $$ [HC] with HC
  · isplitr; · iexact HR
    iexact HC
  imodintro
  isplitl [HO]; · iexact HO
  isplitl [HC]; · iexact HC
  isplitl [HB]; · iapply (bufs_glue m c); iexact HB
  isplitl [HG]; · iexact HG
  have e : outP c fullShare 0 2048 (f2 0 (O m c g)) ⊢ (bufL c cc0_stg1_0 ↦{fullShare} (f2 0 (O m c g) : S2048x2048.Idx → El F) : sProp 𝕄) :=
    Entails.of_eq (congrArg (fun I => (bufL c cc0_stg1_0 ↦[I]{fullShare} (f2 0 (O m c g) : S2048x2048.Idx → El F) : sProp 𝕄)) (rows_all (n := 2048) (k := 2048)))
  iapply e; iexact HP

end Cert.Proto

end
-- ==== Proof.Launch.lean ====
module

public import proofs.«01_k».proof.Proof.Exit
public import Idealize.ShloMosaic.Lib.Pipeline.Launch
public import Idealize.ShloMosaic.Lib.Pipeline.CollectiveSegs
public import Idealize.ShloMosaic.Lib.Quiescent

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at the launch: every counter at zero. -/
def s₀ : MemSt nD τ sig (Elt F) := ⟨m, fun _ => 0, ρ⟩

/-! ## What the launch deals out -/

/-- A device's own semaphores: all of its cells but the barrier's. -/
abbrev osem : {cl : Cell // cl ≠ .bar} → SemLoc sig := fun k => k.1.toSem

set_option maxHeartbeats 1000000 in
theorem ownSemFacts : Pipeline.OwnSemFacts cfg0.spec osem := by decide +kernel

omit [FloatOps F] in
theorem unscopedSems0_eq (c : Dev nD) : (unscopedSems0 c : sProp 𝕄) = semVal (cellAt c .bar) 0 := by
  unfold unscopedSems0; rw [bigSep_eq_bigSepL_of_eq [Cell.bar.toSem] (by decide) (by decide)]; rfl

omit [FloatOps F] in
/-- The counters at zero, cell by cell. -/
theorem sems0_eq (c : Dev nD) :
    (bigSep Finset.univ fun cl : Cell => semVal (cellAt c cl) 0 : sProp 𝕄)
      = iprop(unscopedSems0 c ∗ Pipeline.ownSems0 (Ix := ℕ) (Name := ℕ) (U := UU) (Lvl := ℕ) (Val := Elt F) (τ := τ) osem c) := by
  rw [bigSep_univ_at _ Cell.bar, unscopedSems0_eq, ← bigSep_subtype_ne]
  rfl

/-- The slots a device reads and the ones it writes. -/
def six (c : Dev nD) : sProp 𝕄 :=
  iprop((slotL (F := F) c 0 0 ∗ slotL (F := F) c 0 1 ∗ slotL (F := F) c 0 2) ∗ (slotL (F := F) c 1 0 ∗ slotL (F := F) c 1 1 ∗ slotL (F := F) c 1 2))

/-- The slots' invariants at some names. -/
def slotsAt : sProp 𝕄 := iprop(∃ ι : Key → ℕ, bigSep Finset.univ fun k : Key => Release.slotInv ES (ι k) k (keySlot (F := F) k))

instance slotsAt_persistent : BI.Persistent (slotsAt (F := F)) := by unfold slotsAt; infer_instance

/-- What a device gets of the launch's ghost state. -/
def G (c : Dev nD) : sProp 𝕄 :=
  iprop((bigSep Finset.univ fun cl : Cell => roundState ER (Rd m) (cellAt c cl) 0)
    ∗ (bigSep Finset.univ fun cl : Cell => reached ER (cellAt c cl) 0)
    ∗ (bigSep Finset.univ fun cl : Cell => own1 (F := F) c cl) ∗ slotsAt ∗ six c)

/-- The cells' invariants and their first rounds, and the slots' invariants. -/
def known : sProp 𝕄 :=
  iprop((∃ κ : Dev nD × Cell → ℕ, bigSep Finset.univ fun x : Dev nD × Cell => iprop(cellInv ER (Rd m) (κ x) (cellAt x.1 x.2) ∗ reached ER (cellAt x.1 x.2) 0)) ∗ slotsAt)

instance known_persistent : BI.Persistent (known m) := by unfold known; infer_instance

/-- What it has of it once the invariants stand. -/
def G' (c : Dev nD) : sProp 𝕄 := iprop(known m ∗ (bigSep Finset.univ fun cl : Cell => own1 (F := F) c cl) ∗ six c)

def u₀ : UU :=
  (initOf (Pipeline.cells cfgs cellOf_inj) (Pipeline.launchToks cfgs cellOf_inj), (initOf allCells allToks, Release.initSlots (Finset.univ : Finset Key) 1))

/-- The writer's device of a slot, from the reader's numbering. -/
def slotE : Key ≃ Key where
  toFun k := (nxt k.2.1 k.1, k.2)
  invFun k := ((dirE (.nx k.2.1)).symm k.1, k.2)
  left_inv k := Prod.ext ((dirE (.nx k.2.1)).symm_apply_apply k.1) rfl
  right_inv k := Prod.ext ((dirE (.nx k.2.1)).apply_symm_apply k.1) rfl

omit [FloatOps F] in
theorem slots_dealt : iprop((bigSep Finset.univ fun k : Key => Release.readerAt ES k 0) ∗ bigSep ((Finset.univ : Finset Key) ×ˢ Finset.range 1) fun x => Release.writeTok ES x.1 (x.2 + 1))
    ⊢ (bigSep Finset.univ fun c : Dev nD => six (F := F) c : sProp 𝕄) := by
  have hw : (bigSep ((Finset.univ : Finset Key) ×ˢ Finset.range 1) fun x => (Release.writeTok ES x.1 (x.2 + 1) : sProp 𝕄))
      = bigSep Finset.univ fun k : Key => Release.writeTok ES (slotE k) 1 := by
    rw [Finset.range_one, Finset.product_singleton, bigSep_map]
    exact bigSep_univ_equiv slotE fun k : Key => (Release.writeTok ES k 1 : sProp 𝕄)
  rw [hw, ← bigSep_sep', bigSep_univ_prod]
  refine bigSep_mono fun c _ => ?_
  rw [bigSep_univ_eq_bigSepL [(0, 0), (0, 1), (0, 2), (1, 0), (1, 1), (1, 2)] (by decide) (by decide)]
  have e : bigSepL [(0, 0), (0, 1), (0, 2), (1, 0), (1, 1), (1, 2)]
      (fun x : Fin 2 × Fin 3 => iprop(Release.readerAt ES ((c, x) : Key) 0 ∗ (Release.writeTok ES (slotE (c, x)) 1 : sProp 𝕄)))
      = iprop(slotL (F := F) c 0 0 ∗ slotL c 0 1 ∗ slotL c 0 2 ∗ slotL c 1 0 ∗ slotL c 1 1 ∗ slotL c 1 2) := rfl
  refine BIBase.Entails.trans (Entails.of_eq e) ?_
  unfold six
  iintro ⟨H1, H2, H3, H4, H5, H6⟩
  isplitl [H1 H2 H3]
  · iframe
  iframe

omit [FloatOps F] in
theorem slots_fund : BI.own (ES (Release.initSlots (Finset.univ : Finset Key) 1)) ⊢ (|={Set.univ}=> iprop(slotsAt ∗ bigSep Finset.univ fun c : Dev nD => six (F := F) c) : sProp 𝕄) := by
  refine (Release.slots_init ES (Finset.univ : Finset Key) 1 (keySlot (F := F))).trans (BI.fupd_mono ?_)
  iintro ⟨%ι, -, #HI, HR, HW⟩
  isplitr
  · unfold slotsAt; iexists ι; iexact HI
  iapply (slots_dealt (F := F))
  isplitl [HR]; · iexact HR
  iexact HW

theorem fund_all : BI.own (embR (nD := nD) (sig := sig) (Ix := ℕ) (Val := Elt F) (Name := ℕ) (Lvl := ℕ) (A := UR sig nD τ) (B := URo × USl)
      (initOf allCells allToks, Release.initSlots (Finset.univ : Finset Key) 1)) ⊢ (|={Set.univ}=> bigSep Finset.univ (G m) : sProp 𝕄) := by
  have hs : BI.own (((Emb.inr : Emb (URo × USl) UU).trans (uEmb (nD := nD) (sig := sig) (Ix := ℕ) (Val := Elt F) (Name := ℕ) (U := UU) (Lvl := ℕ)).toEmb)
      (initOf allCells allToks, Release.initSlots (Finset.univ : Finset Key) 1))
      ⊢ iprop(BI.own (ER (F := F) (initOf allCells allToks)) ∗ BI.own (ES (F := F) (Release.initSlots (Finset.univ : Finset Key) 1))) :=
    own_pair_emb ((Emb.inr : Emb (URo × USl) UU).trans (uEmb (nD := nD) (sig := sig) (Ix := ℕ) (Val := Elt F) (Name := ℕ) (U := UU) (Lvl := ℕ)).toEmb) _ _
  refine hs.trans ?_
  iintro ⟨HX, HS⟩
  imod (Rounds.fund ER (Rd m) allCells allToks) $$ HX with ⟨Hst, Hr, Hat, Htok⟩
  imod (slots_fund (F := F)) $$ HS with ⟨#HI, HS⟩
  imodintro
  ihave Hst := (Entails.of_eq (by_cell fun g => roundState ER (Rd m) g 0)) $$ Hst
  ihave Hat := (Entails.of_eq (by_cell fun g => atPos ER g 0 ∅ 0)) $$ Hat
  ihave Hr := (Entails.of_eq (by_cell fun g => reached ER g 0)) $$ Hr
  ihave Htok := (Entails.of_eq (deal_toks (F := F))) $$ Htok
  unfold G own1; simp only [bigSep_sep']
  isplitl [Hst]; · iexact Hst
  isplitl [Hr]; · iexact Hr
  isplitl [Hat Htok]
  · isplitl [Hat]; · iexact Hat
    iexact Htok
  isplitr
  · iapply (BI.bigSep_of_persistent (Finset.univ : Finset (Dev nD)) (slotsAt (F := F))); iexact HI
  iexact HS

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun cl : Cell => iprop(∃ κ : ℕ, cellInv ER (Rd m) κ (cellAt c cl) ∗ reached ER (cellAt c cl) 0))
          ∗ (bigSep Finset.univ fun cl : Cell => own1 (F := F) c cl) ∗ slotsAt ∗ six c) := by
  unfold G
  iintro ⟨Hos, Hus, Hst, Hr, Hown, HS⟩
  ihave Hv := (Entails.of_eq (sems0_eq (F := F) c).symm) $$ [Hos Hus]
  · isplitl [Hus] <;> iassumption
  imod (show iprop((bigSep Finset.univ fun cl : Cell => semVal (cellAt c cl) 0) ∗ bigSep Finset.univ fun cl : Cell => roundState ER (Rd m) (cellAt c cl) 0)
      ⊢ (|={Set.univ}=> bigSep Finset.univ fun cl : Cell => iprop(∃ κ : ℕ, cellInv ER (Rd m) κ (cellAt c cl)) : sProp 𝕄) from by
        rw [← bigSep_sep']
        exact (bigSep_mono fun cl _ => (Rounds.body_intro ER (Rd m) (cellAt c cl)).trans inv_alloc).trans (bigSep_fupd _ _)) $$ [Hv Hst] with Hinv
  · isplitl [Hv] <;> iassumption
  imodintro
  isplitl [Hinv Hr]
  · have h : iprop((bigSep Finset.univ fun cl : Cell => iprop(∃ κ : ℕ, cellInv ER (Rd m) κ (cellAt c cl))) ∗ bigSep Finset.univ fun cl : Cell => reached ER (cellAt c cl) 0)
        ⊢ (bigSep Finset.univ fun cl : Cell => iprop(∃ κ : ℕ, cellInv ER (Rd m) κ (cellAt c cl) ∗ reached ER (cellAt c cl) 0) : sProp 𝕄) := by
      rw [← bigSep_sep']
      refine bigSep_mono fun cl _ => show iprop((∃ κ : ℕ, cellInv ER (Rd m) κ (cellAt c cl)) ∗ reached ER (cellAt c cl) 0)
        ⊢ (iprop(∃ κ : ℕ, cellInv ER (Rd m) κ (cellAt c cl) ∗ reached ER (cellAt c cl) 0) : sProp 𝕄) from ?_
      iintro ⟨⟨%κ, H⟩, Hr⟩
      iexists κ; isplitl [H]; · iexact H
      iexact Hr
    iapply h
    isplitl [Hinv] <;> iassumption
  isplitl [Hown]; · iexact Hown
  iexact HS

theorem regroup :
    (bigSep Finset.univ fun c : Dev nD => iprop((bigSep Finset.univ fun cl : Cell => iprop(∃ κ : ℕ, cellInv ER (Rd m) κ (cellAt c cl) ∗ reached ER (cellAt c cl) 0))
          ∗ (bigSep Finset.univ fun cl : Cell => own1 (F := F) c cl) ∗ slotsAt ∗ six c) : sProp 𝕄)
      ⊢ bigSep Finset.univ (G' m) := by
  unfold G'
  simp only [bigSep_sep']
  rw [← bigSep_univ_prod (fun x : Dev nD × Cell => iprop(∃ κ : ℕ, cellInv ER (Rd m) κ (cellAt x.1 x.2) ∗ reached ER (cellAt x.1 x.2) 0))]
  iintro ⟨HI, Hown, HA, HS⟩
  ihave HK := (BI.bigSep_exists_pi Finset.univ (fun (x : Dev nD × Cell) (κ : ℕ) => (iprop(cellInv ER (Rd m) κ (cellAt x.1 x.2) ∗ reached ER (cellAt x.1 x.2) 0) : sProp 𝕄))) $$ HI
  icases HK with ⟨%κ, #HI⟩
  have hA : (bigSep Finset.univ fun _ : Dev nD => (slotsAt (F := F) : sProp 𝕄)) ⊢ slotsAt := bigSep_elim (Finset.mem_univ (0 : Fin 32))
  ihave HA := hA $$ HA
  icases HA with #HA
  isplitr
  · iapply (BI.bigSep_of_persistent (Finset.univ : Finset (Dev nD)) (known m))
    unfold known
    isplitl; · iexists κ; iexact HI
    iexact HA
  isplitl [Hown]; · iexact Hown
  iexact HS

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Proto

end
-- ==== Proof.Run.lean ====
module

public import proofs.«01_k».proof.Proof.Launch

@[expose] public section

set_option maxRecDepth 16384

noncomputable section

namespace Cert.Proto

open Cert.KernelIdeal Cert.KernelIdeal.Gen
open Idealize.ShloMosaic hiding ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The proof data of the one call -/

/-- The scale vector, as it lies in its staging buffer. -/
def xstg (c : Dev nD) : (cc0_stg0_0 : Ref sig .tc).ty.Contents (Elt F) :=
  (win0_0.blk (0 : Fin 1)).view.read (Elt F) ((s₀ m ρ).mem ((c : Thread nD τ).loc main_arg2))

/-- The result block of a device. -/
def outAt (c : Dev nD) : (cc0_stg1_0 : Ref sig .tc).ty.Contents (Elt F) := (f2 0 (O m c (xstg m ρ c)) : S2048x2048.Idx → El F)

/-- What a device's body starts from, the scratch buffers aside. -/
def start (c : Dev nD) : sProp 𝕄 :=
  iprop((∃ κ ι, recs m κ ι) ∗ (bigSep Finset.univ fun cl : Cell => own1 (F := F) c cl) ∗ six (F := F) c ∗ credIn (F := F) c ∗ (hbm m c main_arg0 ∗ hbm m c main_arg1))

/-- What stays outside of the body: half of each argument. -/
def aside (c : Dev nD) : sProp 𝕄 :=
  iprop((bufL c main_arg0 ↦{fullShare.right} m (bufL c main_arg0)) ∗ (bufL c main_arg1 ↦{fullShare.right} m (bufL c main_arg1)))

def Φ₀ (c : Dev nD) : sProp 𝕄 := iprop(start m c ∗ scratch (F := F) c)
def Φ₁ (c : Dev nD) : sProp 𝕄 := iprop((bigSep Finset.univ fun cl : Cell => semVal (cellAt c cl) 0) ∗ scratch (F := F) c)

/-- What a device owes at the launch. -/
abbrev O₀ : Dev nD → CellTallies nD τ sig ℕ := fun d => owesT d (rowsOf (isMid d))

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 2) ∗ Φ (1 : Fin 2)) := bigSep_W0 Φ

def pt : Fin cfg0.N := t0_0
theorem fin_pt (t : Fin cfg0.N) : t = pt := fin_N0 t
theorem fetch_0 (t : Fin cfg0.N) : (cfg0.win (0 : Fin 2)).fetch t = true := by rw [fin_pt t]; rfl

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 pt.castSucc
    ∗ (∃ d, stg c cc0_stg0_0 ((dats m ρ 0 c).before (0 : Fin 2) pt d))
    ∗ (∃ d, stg c cc0_stg1_0 ((dats m ρ 0 c).before (1 : Fin 2) pt d)))

def bodyPost (c : Dev nD) : sProp 𝕄 :=
  iprop(Φ₁ (F := F) c ∗ (dats m ρ 0 c).owesAt 0 pt.succ ∗ stg c cc0_stg0_0 (xstg m ρ c) ∗ stg c cc0_stg1_0 (outAt m ρ c))

theorem pre_launched (c : Dev nD) : bodyPre m ρ c ⊢ iprop((∃ κ ι, recs m κ ι) ∗ launched m c (xstg m ρ c)) := by
  unfold bodyPre Φ₀ start launched six scratch
  iintro ⟨⟨⟨HR, Hown, HS, HC, HA⟩, HB⟩, Ho, ⟨%d0, %g0, %hg0, Hx⟩, ⟨%d1, %g1, %hg1, Hout⟩⟩
  have hx : g0 = xstg m ρ c := by rw [hg0]; unfold Dat.before; rw [if_pos (fetch_0 pt)]; rfl
  subst hx
  unfold Dat.owesAt Pipeline.owesWithin
  icases Ho with ⟨%W, %hW, HO⟩
  isplitl [HR]; · iexact HR
  isplitl [HO]
  · have h : (owes (c : Thread nD τ) ((dats m ρ 0 c).owed pt.castSucc) W : sProp 𝕄) ⊢ owesL (F := F) c (rowsOf (isMid c)) := by
      unfold owesL
      rw [show (dats m ρ 0 c).owed pt.castSucc = O₀ c from rfl]
      iintro H; iexists W; iexact H
    iapply h; iexact HO
  isplitl [Hown]; · iexact Hown
  isplitl [HS]; · iexact HS
  isplitl [HC]; · iexact HC
  isplitl [HA]; · iexact HA
  isplitl [HB]; · iexact HB
  isplitl [Hx]; · unfold gain; iexact Hx
  unfold anyOn; iexists g1; iexact Hout

theorem left_post (c : Dev nD) (κ : Dev nD × Cell → ℕ) (ι : Key → ℕ) : iprop(recs m κ ι ∗ bodyOut m c (xstg m ρ c)) ⊢ |={Set.univ}=> bodyPost m ρ c := by
  refine (leave m κ ι c (xstg m ρ c)).trans (BI.fupd_mono ?_)
  unfold bodyPost Φ₁ Dat.owesAt Pipeline.owesWithin
  iintro ⟨HO, HC, HB, HG, HP⟩
  isplitl [HC HB]
  · isplitl [HC]; · iexact HC
    iexact HB
  isplitl [HO]
  · rw [show (dats m ρ 0 c).owed pt.succ = owesT c [] from rfl]
    unfold owesL
    icases HO with ⟨%W, HO⟩
    iexists W
    isplitr; · ipureintro; exact fun _ _ => Or.inl trivial
    iexact HO
  isplitl [HG]
  · iexists _; isplitr; · (ipureintro; rfl)
    unfold gain; iexact HG
  iexists _; isplitr; · (ipureintro; rfl)
  unfold outAt; iexact HP

theorem finish {p : Prog (TpuEff nD τ sig (Elt F) Λ₀ .tc) PUnit} (c : Dev nD) (κ : Dev nD × Cell → ℕ) (ι : Key → ℕ)
    (h : iprop(recs m κ ι ∗ bodyIn m c (xstg m ρ c)) ⊢ wpc c p (fun _ => bodyOut m c (xstg m ρ c))) :
    iprop(recs m κ ι ∗ bodyIn m c (xstg m ρ c)) ⊢ wpc c p (fun _ => bodyPost m ρ c) := by
  have h2 : iprop(recs m κ ι ∗ wpc c p (fun _ => bodyOut m c (xstg m ρ c))) ⊢ wpc c p (fun _ => bodyPost m ρ c) := by
    unfold wpc
    exact (wp_frame_l _ _ _).trans ((wp_mono _ _ _ fun _ => left_post m ρ c κ ι).trans (wp_fupd _ _ _ _ _))
  refine BIBase.Entails.trans ?_ h2
  iintro ⟨#HR, H⟩
  isplitr; · iexact HR
  iapply h
  isplitr; · iexact HR
  iexact H

theorem body_obligation (c : Dev nD) : BodyObligation (dats (F := F) m ρ 0 c) (defs₀ (F := F)) 𝒱₀ 0 Set.univ := fun t => by
  rw [fin_pt t]
  rw [bigSep_W, bigSep_W]
  simp only [owns_whole_eq]
  show bodyPre m ρ c ⊢ wpc c
    (cc0_body xM (Memref.isWhole_whole _) rM (Memref.isWhole_whole _) gM (Memref.isWhole_whole _) oM (Memref.isWhole_whole _) aM (Memref.isWhole_whole _) kM (Memref.isWhole_whole _)
      (Memref.whole cc0_scratch2) (Memref.isWhole_whole _) (Memref.whole cc0_scratch3) (Memref.isWhole_whole _) sM (Memref.isWhole_whole _)
      cc0_scratch5 cc0_scratch6 cc0_scratch7 cc0_scratch8 cc0_scratch9 cc0_scratch10 cc0_scratch11 cc0_scratch12 cc0_scratch13 cc0_scratch14) (fun _ => bodyPost m ρ c)
  refine (pre_launched m ρ c).trans ?_
  iintro ⟨⟨%κ, %ι, #HR⟩, H⟩
  ihave H := (enter m c (xstg m ρ c)) $$ H
  iapply (finish m ρ c κ ι (body_run m κ ι c (xstg m ρ c)))
  isplitr; · iexact HR
  iexact H

/-! ## The side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ aside m c) := by
  rw [Pipeline.unscopedRestP_none, unscopedRest0_eq]
  unfold G' known slotsAt start aside hbm
  iintro ⟨⟨H0, H1⟩, #Hlev, HC, -, ⟨⟨⟨%κ, #HI⟩, ⟨%ι, #HS⟩⟩, Hown, Hsix⟩⟩
  ihave HC := (creds (F := F) c) $$ HC
  ihave H0 := (pointsTo_share (PosShare.mem_left_op_right fullShare)).1 $$ H0
  ihave H1 := (pointsTo_share (PosShare.mem_left_op_right fullShare)).1 $$ H1
  icases H0 with ⟨H0, H0'⟩
  icases H1 with ⟨H1, H1'⟩
  imodintro
  isplitr [H0' H1']
  · isplitr
    · iexists κ; iexists ι
      unfold recs
      isplitr; · iexact HI
      isplitr; · iexact HS
      iexact Hlev
    isplitl [Hown]; · iexact Hown
    isplitl [Hsix]; · iexact Hsix
    isplitl [HC]; · iexact HC
    isplitl [H0]
    · iexists _; iexact H0
    iexists _; iexact H1
  isplitl [H0']; · iexact H0'
  iexact H1'

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H⟩
  isplitl [Hs]; · iexact Hs
  unfold scratch anyOn; iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hz, Hs⟩
  ihave Hz := (Entails.of_eq (sems0_eq (F := F) c)) $$ Hz
  icases Hz with ⟨H1, H2⟩
  isplitl [H1]; · iexact H1
  isplitl [H2]; · iexact H2
  unfold scratch anyOn; iexact Hs

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (rowsOf (isMid c)) (by cases isMid c <;> decide) (by decide)
    · exact mayWait c _ 0 [] (by decide) (by decide)

/-! ## The run -/

/-- An argument's half, at the end, still holds what was there. -/
theorem aside_read (c : Dev nD) (s' : Phys nD τ sig (Elt F)) : iprop(aside m c ∗ SI s')
    ⊢ (|={Set.univ}=> iprop(⌜s'.mem.mem (bufL c main_arg0) = m (bufL c main_arg0) ∧ s'.mem.mem (bufL c main_arg1) = m (bufL c main_arg1)⌝ ∗ SI s') : sProp 𝕄) := by
  unfold aside
  iintro ⟨⟨H0, H1⟩, HSI⟩
  ihave %h0 := SI_pointsTo_agree $$ [HSI H0]
  · isplitl [HSI] <;> iassumption
  ihave %h1 := SI_pointsTo_agree $$ [HSI H1]
  · isplitl [HSI] <;> iassumption
  imodintro
  isplitr
  · ipureintro
    exact ⟨funext fun i => h0 i (Finset.mem_univ i), funext fun i => h1 i (Finset.mem_univ i)⟩
  iexact HSI

/-- What a device's arrays hold at the end. -/
theorem final_in (c : Dev nD) : (dats (F := F) m ρ 0 c).arrAt (0 : Fin 2) cfg0.N = m (bufL c main_arg2) :=
  (dats (F := F) m ρ 0 c).arrAt_in (0 : Fin 2) rfl _

theorem final_out (c : Dev nD) : (dats (F := F) m ρ 0 c).arrAt (1 : Fin 2) cfg0.N = outAt m ρ c := by
  have hz : (fun a => win0_1.index pt a * main_v1.ty.shape.size a) = fun _ => 0 := funext fun a => by fin_cases a <;> rfl
  have h := Memref.read_access_unit_zero (Elt F) main_v1 hz (fun a => by fin_cases a <;> decide) ((dats (F := F) m ρ 0 c).arrAt (1 : Fin 2) cfg0.N)
  refine h.symm.trans ?_
  rw [show cfg0.N = (pt : Fin cfg0.N).val + 1 from rfl, (dats (F := F) m ρ 0 c).arrAt_succ (1 : Fin 2) pt]
  rw [show (cfg0.win 1).flush pt = true from by decide, if_pos rfl]
  exact View.read_write_univ _ _

/-- What the run leaves. -/
def Ends (s : MemSt nD τ sig (Elt F)) : Prop :=
  (∀ c : Dev nD, s.mem (bufL c main_v1) = outAt m ρ c ∧ s.mem (bufL c main_arg0) = m (bufL c main_arg0) ∧ s.mem (bufL c main_arg1) = m (bufL c main_arg1)
    ∧ s.mem (bufL c main_arg2) = m (bufL c main_arg2)) ∧ s.sem = fun _ => 0

set_option maxRecDepth 16384 in
theorem run_main : θ_run defs (onTc (τ := τ) (main (F := F))) (s₀ m ρ) (fun r => Ends m ρ r.2) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := aside m)
    (hX := start_intro m ρ) (hin := phi0_intro m ρ) (hout := phi1_exit m ρ)
    (QY := fun c s => (∀ sm : SemLoc sig, sm.isScoped .tc = false → s.sem ((c.tc : Thread nD τ), sm) = 0)
      ∧ s.mem (bufL c main_arg0) = m (bufL c main_arg0) ∧ s.mem (bufL c main_arg1) = m (bufL c main_arg1))
    (hY := fun c s' => by
      iintro ⟨Hu, HA, HSI⟩
      imod (aside_read m c s') $$ [HA HSI] with ⟨%ha, HSI⟩
      · isplitl [HA] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, ha⟩
      iexact HSI)
    (hQ := fun s h hs => ⟨fun c => ⟨((h c).1 1).trans (final_out m ρ c), (h c).2.2.2.1, (h c).2.2.2.2, ((h c).1 0).trans (final_in m ρ c)⟩,
      sem_eq_zero hs fun c => (h c).2.2.1⟩)

end Cert.Proto

end
-- ==== Proof.Rms.lean ====
module

public import proofs.«01_k».proof.Proof.Gen.ReferenceIdeal.Run
public import Idealize.ShloMosaic.Lib.Pointwise

/-!
# The normalisation, element by element, and the reference's result

A row y, its place l and a gain g: y l over the root of the row's mean square, times g. The kernel multiplies by the
reciprocal root, the reference divides by the root; on extended reals the two agree at every row, because what is
under the root is positive.
-/

@[expose] public section

set_option maxRecDepth 16384

noncomputable section

namespace Cert.Proto

open Idealize.ShloMosaic
open scoped BigOperators

/-- The length of a row, and the small number under the root, as the programs write them. -/
def cnt : EReal := Ideal.ofBits .f32 0x45000000#32
def eps : EReal := Ideal.ofBits .f32 0x358637BD#32

/-- What is under the root: the row's mean square and the small number. -/
def under (y : Fin 2048 → EReal) : EReal := Ideal.div (∑ k, y k * y k) cnt + eps

/-- As the kernel computes it. -/
def rms (y : Fin 2048 → EReal) (l : Fin 2048) (g : EReal) : EReal := y l * Ideal.rsqrt (under y) * g

/-- As the reference computes it. -/
def rmsDiv (y : Fin 2048 → EReal) (l : Fin 2048) (g : EReal) : EReal := Ideal.div (y l) (Ideal.sqrt (under y)) * g

theorem cnt_pos : 0 < cnt := by
  unfold cnt
  simp only [Ideal.ofBits, Ideal.ieee]
  norm_num
  simp [-EReal.coe_mul]
  exact zpow_pos (by norm_num) _

theorem eps_pos : 0 < eps := by
  unfold eps
  simp only [Ideal.ofBits, Ideal.ieee]
  norm_num
  simp [-EReal.coe_mul]
  exact zpow_pos (by norm_num) _

/-- A square is not negative, at the infinities too. -/
theorem sq_nonneg' (x : EReal) : 0 ≤ x * x := by
  rcases le_total 0 x with h | h
  · exact mul_nonneg h h
  · have := mul_nonneg (EReal.neg_nonneg.2 h) (EReal.neg_nonneg.2 h)
    rwa [EReal.neg_mul, mul_comm, EReal.neg_mul, neg_neg] at this

theorem under_pos (y : Fin 2048 → EReal) : 0 < under y := by
  unfold under Ideal.div
  rw [if_neg cnt_pos.ne']
  have h : 0 ≤ (∑ k, y k * y k) * cnt⁻¹ :=
    mul_nonneg (Finset.sum_nonneg fun k _ => sq_nonneg' (y k)) (EReal.inv_nonneg_of_nonneg cnt_pos.le)
  calc 0 < eps := eps_pos
    _ = 0 + eps := (zero_add _).symm
    _ ≤ _ := add_le_add_left h _

/-- Dividing by the root of a positive number is multiplying by its reciprocal root. -/
theorem div_sqrt (x z : EReal) (hz : 0 < z) : Ideal.div x (Ideal.sqrt z) = x * Ideal.rsqrt z := by
  induction z with
  | bot => exact absurd hz (by simp)
  | top => simp [Ideal.div]
  | coe r =>
    have hr : 0 < r := by exact_mod_cast hz
    have hs : Real.sqrt r ≠ 0 := (Real.sqrt_pos.2 hr).ne'
    rw [Ideal.sqrt_coe, Ideal.rsqrt_coe, if_neg hr.le.not_gt, if_neg hr.le.not_gt, if_neg hr.ne']
    unfold Ideal.div
    rw [if_neg (by exact_mod_cast hs), EReal.coe_inv]

theorem rmsDiv_eq (y : Fin 2048 → EReal) (l : Fin 2048) (g : EReal) : rmsDiv y l g = rms y l g := by
  unfold rmsDiv rms
  rw [div_sqrt _ _ (under_pos y)]

section Reference

open Cert.ReferenceIdeal Cert.ReferenceIdeal.Gen

/-- A row of the reference's sum. -/
def total (P : S4x2048x2048.Idx → EReal) (R : S2048x2048.Idx → EReal) (r : Fin 2048) (k : Fin 2048) : EReal :=
  (∑ z : Fin 4, P (ix3 z r k)) + R (ix2 r k)

/-- The sum of the partial arrays and the residual, in the reference's operations, -/
def refSum (P : S4x2048x2048.Idx → EReal) (R : S2048x2048.Idx → EReal) : FVec Ideal S2048x2048 .f32 :=
  addf (Host.reduceAdd P (constant S_ .f32 0x00000000#32) reducesTo_S4x2048x2048_S2048x2048_d0 h_S_) R

/-- and the whole result. -/
def refOut (P : S4x2048x2048.Idx → EReal) (R : S2048x2048.Idx → EReal) (G : S2048.Idx → EReal) : FVec Ideal S2048x2048 .f32 :=
  mulf (Host.divf (refSum P R) (broadcastInDim S2048x2048 ![0, 1] bcast_S2048x1_S2048x2048_0_1 (Host.sqrt (addf (Host.divf (broadcastInDim S2048x1 ![0] bcast_S2048_S2048x1_0
    (Host.reduceAdd (mulf (refSum P R) (refSum P R)) (constant S_ .f32 0x00000000#32) reducesTo_S2048x2048_S2048_d1 h_S_)) (broadcastInDim S2048x1 ![] bcast_S_S2048x1 (constant S_ .f32 0x45000000#32)))
    (broadcastInDim S2048x1 ![] bcast_S_S2048x1 (constant S_ .f32 0x358637BD#32)))))) (broadcastInDim S2048x2048 ![0, 1] bcast_S1x2048_S2048x2048_0_1 (broadcastInDim S1x2048 ![1] bcast_S2048_S1x2048_1 G))

theorem refSum_apply (P : S4x2048x2048.Idx → EReal) (R : S2048x2048.Idx → EReal) (r k : Fin 2048) : refSum P R (ix2 r k) = total P R r k := by
  unfold refSum total
  pointwise

theorem refOut_apply (P : S4x2048x2048.Idx → EReal) (R : S2048x2048.Idx → EReal) (G : S2048.Idx → EReal) (r l : Fin 2048) :
    refOut P R G (ix2 r l) = rms (total P R r) l (G (ix1 l)) := by
  rw [← rmsDiv_eq]
  unfold refOut rmsDiv under cnt eps
  simp only [← refSum_apply]
  pointwise

end Reference

end Cert.Proto

end
-- ==== Proof.Value.lean ====
module

public import proofs.«01_k».proof.Proof.Run
public import proofs.«01_k».proof.Proof.Rms

@[expose] public section

set_option maxRecDepth 16384

noncomputable section

namespace Cert.Proto

open Cert.KernelIdeal Cert.KernelIdeal.Gen
open Idealize.ShloMosaic hiding ix1 ix2 ix3 ix4 eq_ix2 eq_ix3 eq_ix4
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites

variable {F : FTy → Type} [FloatOps F]

local notation "𝕄" => MT nD τ sig ℕ (Elt F) ℕ UU ℕ

variable (m : (ℓ : Loc nD τ sig) → Buf (Elt F) ℓ)

/-! ## A piece of the result, element by element -/

theorem norm256_apply (V W : ℕ → ℕ → EReal) (g : S2048.Idx → EReal) (r : Fin 256) (l : Fin 2048) :
    norm256 (F := Ideal) V W g (ix2 r l) = rms (fun k => V r.val k.val + W r.val k.val) l (g (ix1 l)) := by
  unfold norm256 k0_pay28 rms under cnt eps
  pointwise
  rfl

theorem norm128_apply (lo : ℕ) (V W : ℕ → ℕ → EReal) (g : S2048.Idx → EReal) (r : Fin 128) (l : Fin 2048) :
    norm128 (F := Ideal) lo V W g (ix2 r l) = rms (fun k => V (lo + r.val) k.val + W (lo + r.val) k.val) l (g (ix1 l)) := by
  unfold norm128 k0_pay40 rms under cnt eps
  pointwise
  rfl

/-! ## The sum along a column -/

/-- A device's place in its column. -/
def zIx (c : Dev nD) : Fin 4 := ⟨zOf c, Nat.mod_lt _ (by decide)⟩

/-- A device, its partner and the two mirrored ones are the column's four. -/
theorem column_four : ∀ c : Dev nD, (zIx c, zIx (par c), zIx (opp c), zIx (par (opp c))) ∈ ([(0, 1, 3, 2), (1, 0, 2, 3), (2, 3, 1, 0), (3, 2, 0, 1)] : List (Fin 4 × Fin 4 × Fin 4 × Fin 4)) := by
  decide +kernel

theorem column_sum (f : Fin 4 → EReal) (c : Dev nD) : f (zIx c) + f (zIx (par c)) + (f (zIx (opp c)) + f (zIx (par (opp c)))) = ∑ z, f z := by
  rw [Fin.sum_univ_four]
  have h := column_four c
  simp only [List.mem_cons, List.not_mem_nil, or_false, Prod.mk.injEq] at h
  rcases h with ⟨h0, h1, h2, h3⟩ | ⟨h0, h1, h2, h3⟩ | ⟨h0, h1, h2, h3⟩ | ⟨h0, h1, h2, h3⟩ <;> rw [h0, h1, h2, h3] <;> abel

section Result

variable (m : (ℓ : Loc nD τ sig) → Buf (Elt Ideal) ℓ) (P : (⟨3, ![4, 2048, 2048]⟩ : Shape).Idx → EReal) (Q : S2048x2048.Idx → EReal)

/-- Every device's part of the partial arrays, and its copy of the residual. -/
def Given : Prop :=
  (∀ c : Dev nD, ∀ r l : Fin 2048, (m (bufL c main_arg0) : S1x2048x2048.Idx → EReal) (ix3 0 r l) = P (ix3 (zIx c) r l))
    ∧ ∀ c : Dev nD, (m (bufL c main_arg1) : S2048x2048.Idx → EReal) = Q

/-- A middle device's sum is the whole column's, -/
theorem SM_eq (h : Given m P Q) (c : Dev nD) (r k : ℕ) :
    SM m c r k = ∑ z : Fin 4, P (ix3 z (Fin.ofNat 2048 (row0 (pos c) + r)) (Fin.ofNat 2048 k)) := by
  refine Eq.trans ?_ (column_sum (fun z => P (ix3 z (Fin.ofNat 2048 (row0 (pos c) + r)) (Fin.ofNat 2048 k))) c)
  have hX : ∀ d : Dev nD, pos d = pos c → X m d r k = P (ix3 (zIx d) (Fin.ofNat 2048 (row0 (pos c) + r)) (Fin.ofNat 2048 k)) :=
    fun d hd => (h.1 d _ _).trans (by rw [hd])
  show X m c r k + X m (par c) r k + (X m (opp c) r k + X m (par (opp c)) r k) = _
  rw [hX c rfl, hX (par c) (pos_par c), hX (opp c) (pos_opp c), hX (par (opp c)) ((pos_par _).trans (pos_opp c))]

/-- and so is what every device goes into the ring with. -/
theorem S_eq (h : Given m P Q) (c : Dev nD) (r k : ℕ) :
    S m c r k = ∑ z : Fin 4, P (ix3 z (Fin.ofNat 2048 (row0 (pos c) + r)) (Fin.ofNat 2048 k)) := by
  unfold S
  split
  · exact SM_eq m P Q h c r k
  · rw [SM_eq m P Q h (par c) r k, pos_par]

theorem pos_at : ∀ p : Fin 8, ∀ c : Dev nD, pos (at_ p.val (zOf c)) = p.val := by decide +kernel

/-- A row of what is normalised: the sum of the column of the row's piece, plus the residual. -/
theorem row_eq (h : Given m P Q) (c : Dev nD) (r : Fin 2048) (n k : ℕ) (hn : n = r.val % 256) (hk : k < 2048) :
    S m (at_ (r.val / 256) (zOf c)) n k + R m c (r.val / 256) n k = total P Q r ⟨k, hk⟩ := by
  have hr := r.isLt
  have hp : pos (at_ (r.val / 256) (zOf c)) = r.val / 256 := pos_at ⟨r.val / 256, by omega⟩ c
  have hi : (Fin.ofNat 2048 (row0 (r.val / 256) + n) : Fin 2048) = r := Fin.ext (by show _ % 2048 = _; unfold row0; omega)
  have hj : (Fin.ofNat 2048 k : Fin 2048) = ⟨k, hk⟩ := Fin.ext (Nat.mod_eq_of_lt hk)
  rw [S_eq m P Q h, hp]
  unfold R total
  rw [h.2 c, hi, hj]
  rfl

/-- The whole result, element by element, is the same on every device. -/
theorem O_eq (h : Given m P Q) (c : Dev nD) (g : S2048.Idx → EReal) (r l : Fin 2048) :
    O m c g r.val l.val = rms (total P Q r) l (g (ix1 l)) := by
  have hl : (Fin.ofNat 2048 l.val : Fin 2048) = l := Fin.ext (Nat.mod_eq_of_lt l.isLt)
  unfold O
  split
  · refine (norm128_apply _ _ _ g _ _).trans ?_
    rw [hl]
    refine congrArg (fun y => rms y l (g (ix1 l))) (funext fun k => row_eq m P Q h c r _ _ ?_ k.isLt)
    show _ + r.val % 128 = _
    omega
  · refine (norm256_apply _ _ g _ _).trans ?_
    rw [hl]
    exact congrArg (fun y => rms y l (g (ix1 l))) (funext fun k => row_eq m P Q h c r _ _ rfl k.isLt)

/-- The staged gain is the gain. -/
theorem xstg_eq (ρ : Dev nD → PrngReg) (c : Dev nD) : (xstg m ρ c : S2048.Idx → EReal) = m (bufL c main_arg2) := by
  have hz : (fun a => (win0_0.index (0 : Fin 1)) a * main_arg2.ty.shape.size a) = fun _ => 0 :=
    funext fun a => by fin_cases a <;> decide
  exact Memref.read_access_unit_zero (Elt Ideal) main_arg2 hz (fun a => by fin_cases a <;> decide) _

/-- A device's result is the reference's. -/
theorem outAt_eq (h : Given m P Q) (ρ : Dev nD → PrngReg) (G : S2048.Idx → EReal) (hG : ∀ c : Dev nD, (m (bufL c main_arg2) : S2048.Idx → EReal) = G) (c : Dev nD) :
    (outAt m ρ c : S2048x2048.Idx → EReal) = refOut P Q G := by
  funext i
  rw [eq_ix2 i]
  refine Eq.trans ?_ (refOut_apply P Q G (i 0) (i 1)).symm
  refine (O_eq m P Q h c (xstg m ρ c) (i 0) (i 1)).trans ?_
  rw [xstg_eq m ρ c, hG c]
  rfl

end Result

end Cert.Proto

end
-- ==== Proof.lean ====
/-
  The claims about the kernel and its reference: each of the three programs runs to the end with its arguments unchanged
  and its counters at zero, the idealized kernel is the kernel, and every device's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem Cert.Kernel

set_option maxRecDepth 20000

/-- The kernel and its idealized form have the same text: the same body, -/
theorem body_table : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | 0, (t, s) => rfl
  | ⟨n + 1, h⟩, _ => exact absurd h (by omega)

/-- in the same call. -/
theorem table : @Cert.Kernel.defs Bits _ Cert.Kernel.Gen.facts = @Cert.KernelIdeal.defs Bits _ Cert.KernelIdeal.Gen.facts := by
  unfold Cert.Kernel.defs Cert.KernelIdeal.defs
  exact congrArg (Pipeline.defs Cert.KernelIdeal.pcfgs) body_table

/-- The idealized kernel's frame, at any floats. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.Proto.run_main (F := F) m ρ)

theorem frame_kernel : Cert.quiescent_Kernel := fun m ρ _ =>
  Eq.mpr (congrArg (fun d => θ_run d (onTc (τ := Cert.Kernel.τ) (Cert.Kernel.main (F := Bits))) ⟨m, fun _ => 0, ρ⟩ _) table) (frame_any (F := Bits) m ρ)

theorem frame_ideal : Cert.quiescent_KernelIdeal := fun m ρ _ => frame_any m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Every device's part of the partial arrays: the one its place along the cut names. -/
theorem given (m : (ℓ : Loc Cert.KernelIdeal.nD Cert.KernelIdeal.τ Cert.KernelIdeal.sig) → Buf (Elt Ideal) ℓ) (P : (⟨3, ![4, 2048, 2048]⟩ : Shape).Idx → EReal)
    (Q : (⟨2, ![2048, 2048]⟩ : Shape).Idx → EReal)
    (h0 : ∀ c : Dev Cert.KernelIdeal.nD, m ((c.tc : Thread Cert.KernelIdeal.nD Cert.KernelIdeal.τ).loc Cert.KernelIdeal.main_arg0)
      = Layout.blockN ⟨3, ![1, 2048, 2048]⟩ ⟨3, ![4, 2048, 2048]⟩ (Layout.meshBlock [2, 4, 4] ![[2], [], []] c) P)
    (h1 : ∀ c : Dev Cert.KernelIdeal.nD, m ((c.tc : Thread Cert.KernelIdeal.nD Cert.KernelIdeal.τ).loc Cert.KernelIdeal.main_arg1) = Q) :
    Cert.Proto.Given m P Q := by
  refine ⟨fun c r l => (congrFun (h0 c) (ValueIdx.ix3 0 r l)).trans (congrArg P (funext fun a => Fin.ext ?_)), h1⟩
  match a with
  | ⟨0, _⟩ => exact (by decide +kernel : ∀ c : Fin 32, Layout.meshLin [2, 4, 4] c.val [2] * 1 + 0 = c.val % 4) c
  | ⟨1, _⟩ => exact (congrArg (· + r.val) (Nat.zero_mul 2048)).trans (Nat.zero_add _)
  | ⟨2, _⟩ => exact (congrArg (· + l.val) (Nat.zero_mul 2048)).trans (Nat.zero_add _)

/-- On every device the kernel's result is the reference's. -/
theorem algebraic : Cert.algebraic_KernelIdeal_ReferenceIdeal := by
  intro m g m' g' _ h
  refine ⟨_, ?_, (θ_run Cert.ReferenceIdeal.defs _ _).mono (fun _ h' => h' 0) (Cert.ReferenceIdeal.Value.run (F := Ideal) m' g')⟩
  refine (θ_run Cert.KernelIdeal.defs _ _).mono (fun r hr c => ⟨(hr.1 c).1.trans ?_, (hr.1 c).2⟩) (Cert.Proto.run_main (F := Ideal) m g)
  exact Cert.Proto.outAt_eq m _ _ (given m _ _ (fun c => (h c).1) (fun c => (h c).2.1)) g _ (fun c => (h c).2.2) c

theorem claim : Cert.Claim := ⟨Cert.Kernel.Gen.facts, Cert.KernelIdeal.Gen.facts, Cert.ReferenceIdeal.Gen.facts,
  frame_kernel, frame_ideal, frame_reference, trivial, algebraic⟩

end Cert.Proof

end
